-- ==== Defs.lean ====
def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_MainRefIdeal (m : (ℓ : Loc Cert.MainRefIdeal.nD Cert.MainRefIdeal.τ Cert.MainRefIdeal.sig) → Buf (Elt Ideal) ℓ) : Prop :=
  True

def Pre_Y (m : (ℓ : Loc Cert.Y.nD Cert.Y.τ Cert.Y.sig) → Buf (Elt Bits) ℓ) : Prop :=
  True

def Pre_YIdeal (m : (ℓ : Loc Cert.YIdeal.nD Cert.YIdeal.τ Cert.YIdeal.sig) → Buf (Elt Ideal) ℓ) : Prop :=
  True

def Pre_YRefIdeal (m : (ℓ : Loc Cert.YRefIdeal.nD Cert.YRefIdeal.τ Cert.YRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1)
      ∧ r.2.mem ((c.tc : Thread Cert.Main.nD Cert.Main.τ).loc Cert.Main.main_arg2) = m ((c.tc : Thread Cert.Main.nD Cert.Main.τ).loc Cert.Main.main_arg2)
      ∧ r.2.mem ((c.tc : Thread Cert.Main.nD Cert.Main.τ).loc Cert.Main.main_arg3) = m ((c.tc : Thread Cert.Main.nD Cert.Main.τ).loc Cert.Main.main_arg3)
      ∧ r.2.mem ((c.tc : Thread Cert.Main.nD Cert.Main.τ).loc Cert.Main.main_arg4) = m ((c.tc : Thread Cert.Main.nD Cert.Main.τ).loc Cert.Main.main_arg4)
      ∧ r.2.mem ((c.tc : Thread Cert.Main.nD Cert.Main.τ).loc Cert.Main.main_arg5) = m ((c.tc : Thread Cert.Main.nD Cert.Main.τ).loc Cert.Main.main_arg5)
      ∧ r.2.mem ((c.tc : Thread Cert.Main.nD Cert.Main.τ).loc Cert.Main.main_arg6) = m ((c.tc : Thread Cert.Main.nD Cert.Main.τ).loc Cert.Main.main_arg6)
      ∧ r.2.mem ((c.tc : Thread Cert.Main.nD Cert.Main.τ).loc Cert.Main.main_arg7) = m ((c.tc : Thread Cert.Main.nD Cert.Main.τ).loc Cert.Main.main_arg7)
      ∧ r.2.mem ((c.tc : Thread Cert.Main.nD Cert.Main.τ).loc Cert.Main.main_arg8) = m ((c.tc : Thread Cert.Main.nD Cert.Main.τ).loc Cert.Main.main_arg8)
      ∧ r.2.mem ((c.tc : Thread Cert.Main.nD Cert.Main.τ).loc Cert.Main.main_arg9) = m ((c.tc : Thread Cert.Main.nD Cert.Main.τ).loc Cert.Main.main_arg9))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
      ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
      ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
      ∧ r.2.mem ((c.tc : Thread Cert.MainIdeal.nD Cert.MainIdeal.τ).loc Cert.MainIdeal.main_arg7) = m ((c.tc : Thread Cert.MainIdeal.nD Cert.MainIdeal.τ).loc Cert.MainIdeal.main_arg7)
      ∧ r.2.mem ((c.tc : Thread Cert.MainIdeal.nD Cert.MainIdeal.τ).loc Cert.MainIdeal.main_arg8) = m ((c.tc : Thread Cert.MainIdeal.nD Cert.MainIdeal.τ).loc Cert.MainIdeal.main_arg8)
      ∧ r.2.mem ((c.tc : Thread Cert.MainIdeal.nD Cert.MainIdeal.τ).loc Cert.MainIdeal.main_arg9) = m ((c.tc : Thread Cert.MainIdeal.nD Cert.MainIdeal.τ).loc Cert.MainIdeal.main_arg9))
      ∧ r.2.sem = fun _ => 0)

def quiescent_MainRefIdeal [hMainRefIdeal : Cert.MainRefIdeal.Facts] : Prop :=
  ∀ (m : (ℓ : Loc Cert.MainRefIdeal.nD Cert.MainRefIdeal.τ Cert.MainRefIdeal.sig) → Buf (Elt Ideal) ℓ) (g : Dev Cert.MainRefIdeal.nD → PrngReg), Pre_MainRefIdeal m →
    θ_run (Cert.MainRefIdeal.defs (F := Ideal)) (onTc (τ := Cert.MainRefIdeal.τ) (Cert.MainRefIdeal.main (F := Ideal))) ⟨m, fun _ => 0, g⟩ (fun r => (∀ c : Dev Cert.MainRefIdeal.nD,
      r.2.mem ((c.tc : Thread Cert.MainRefIdeal.nD Cert.MainRefIdeal.τ).loc Cert.MainRefIdeal.main_arg0) = m ((c.tc : Thread Cert.MainRefIdeal.nD Cert.MainRefIdeal.τ).loc Cert.MainRefIdeal.main_arg0)
      ∧ r.2.mem ((c.tc : Thread Cert.MainRefIdeal.nD Cert.MainRefIdeal.τ).loc Cert.MainRefIdeal.main_arg1) = m ((c.tc : Thread Cert.MainRefIdeal.nD Cert.MainRefIdeal.τ).loc Cert.MainRefIdeal.main_arg1)
      ∧ r.2.mem ((c.tc : Thread Cert.MainRefIdeal.nD Cert.MainRefIdeal.τ).loc Cert.MainRefIdeal.main_arg2) = m ((c.tc : Thread Cert.MainRefIdeal.nD Cert.MainRefIdeal.τ).loc Cert.MainRefIdeal.main_arg2)
      ∧ r.2.mem ((c.tc : Thread Cert.MainRefIdeal.nD Cert.MainRefIdeal.τ).loc Cert.MainRefIdeal.main_arg3) = m ((c.tc : Thread Cert.MainRefIdeal.nD Cert.MainRefIdeal.τ).loc Cert.MainRefIdeal.main_arg3)
      ∧ r.2.mem ((c.tc : Thread Cert.MainRefIdeal.nD Cert.MainRefIdeal.τ).loc Cert.MainRefIdeal.main_arg4) = m ((c.tc : Thread Cert.MainRefIdeal.nD Cert.MainRefIdeal.τ).loc Cert.MainRefIdeal.main_arg4)
      ∧ r.2.mem ((c.tc : Thread Cert.MainRefIdeal.nD Cert.MainRefIdeal.τ).loc Cert.MainRefIdeal.main_arg5) = m ((c.tc : Thread Cert.MainRefIdeal.nD Cert.MainRefIdeal.τ).loc Cert.MainRefIdeal.main_arg5)
      ∧ r.2.mem ((c.tc : Thread Cert.MainRefIdeal.nD Cert.MainRefIdeal.τ).loc Cert.MainRefIdeal.main_arg6) = m ((c.tc : Thread Cert.MainRefIdeal.nD Cert.MainRefIdeal.τ).loc Cert.MainRefIdeal.main_arg6)
      ∧ r.2.mem ((c.tc : Thread Cert.MainRefIdeal.nD Cert.MainRefIdeal.τ).loc Cert.MainRefIdeal.main_arg7) = m ((c.tc : Thread Cert.MainRefIdeal.nD Cert.MainRefIdeal.τ).loc Cert.MainRefIdeal.main_arg7)
      ∧ r.2.mem ((c.tc : Thread Cert.MainRefIdeal.nD Cert.MainRefIdeal.τ).loc Cert.MainRefIdeal.main_arg8) = m ((c.tc : Thread Cert.MainRefIdeal.nD Cert.MainRefIdeal.τ).loc Cert.MainRefIdeal.main_arg8)
      ∧ r.2.mem ((c.tc : Thread Cert.MainRefIdeal.nD Cert.MainRefIdeal.τ).loc Cert.MainRefIdeal.main_arg9) = m ((c.tc : Thread Cert.MainRefIdeal.nD Cert.MainRefIdeal.τ).loc Cert.MainRefIdeal.main_arg9))
      ∧ r.2.sem = fun _ => 0)

def quiescent_Y [hY : Cert.Y.Facts] : Prop :=
  ∀ (m : (ℓ : Loc Cert.Y.nD Cert.Y.τ Cert.Y.sig) → Buf (Elt Bits) ℓ) (g : Dev Cert.Y.nD → PrngReg), Pre_Y m →
    θ_run (Cert.Y.defs (F := Bits)) (onTc (τ := Cert.Y.τ) (Cert.Y.main (F := Bits))) ⟨m, fun _ => 0, g⟩ (fun r => (∀ c : Dev Cert.Y.nD,
      r.2.mem ((c.tc : Thread Cert.Y.nD Cert.Y.τ).loc Cert.Y.main_arg0) = m ((c.tc : Thread Cert.Y.nD Cert.Y.τ).loc Cert.Y.main_arg0)
      ∧ r.2.mem ((c.tc : Thread Cert.Y.nD Cert.Y.τ).loc Cert.Y.main_arg1) = m ((c.tc : Thread Cert.Y.nD Cert.Y.τ).loc Cert.Y.main_arg1)
      ∧ r.2.mem ((c.tc : Thread Cert.Y.nD Cert.Y.τ).loc Cert.Y.main_arg2) = m ((c.tc : Thread Cert.Y.nD Cert.Y.τ).loc Cert.Y.main_arg2))
      ∧ r.2.sem = fun _ => 0)

def quiescent_YIdeal [hYIdeal : Cert.YIdeal.Facts] : Prop :=
  ∀ (m : (ℓ : Loc Cert.YIdeal.nD Cert.YIdeal.τ Cert.YIdeal.sig) → Buf (Elt Ideal) ℓ) (g : Dev Cert.YIdeal.nD → PrngReg), Pre_YIdeal m →
    θ_run (Cert.YIdeal.defs (F := Ideal)) (onTc (τ := Cert.YIdeal.τ) (Cert.YIdeal.main (F := Ideal))) ⟨m, fun _ => 0, g⟩ (fun r => (∀ c : Dev Cert.YIdeal.nD,
      r.2.mem ((c.tc : Thread Cert.YIdeal.nD Cert.YIdeal.τ).loc Cert.YIdeal.main_arg0) = m ((c.tc : Thread Cert.YIdeal.nD Cert.YIdeal.τ).loc Cert.YIdeal.main_arg0)
      ∧ r.2.mem ((c.tc : Thread Cert.YIdeal.nD Cert.YIdeal.τ).loc Cert.YIdeal.main_arg1) = m ((c.tc : Thread Cert.YIdeal.nD Cert.YIdeal.τ).loc Cert.YIdeal.main_arg1)
      ∧ r.2.mem ((c.tc : Thread Cert.YIdeal.nD Cert.YIdeal.τ).loc Cert.YIdeal.main_arg2) = m ((c.tc : Thread Cert.YIdeal.nD Cert.YIdeal.τ).loc Cert.YIdeal.main_arg2))
      ∧ r.2.sem = fun _ => 0)

def quiescent_YRefIdeal [hYRefIdeal : Cert.YRefIdeal.Facts] : Prop :=
  ∀ (m : (ℓ : Loc Cert.YRefIdeal.nD Cert.YRefIdeal.τ Cert.YRefIdeal.sig) → Buf (Elt Ideal) ℓ) (g : Dev Cert.YRefIdeal.nD → PrngReg), Pre_YRefIdeal m →
    θ_run (Cert.YRefIdeal.defs (F := Ideal)) (onTc (τ := Cert.YRefIdeal.τ) (Cert.YRefIdeal.main (F := Ideal))) ⟨m, fun _ => 0, g⟩ (fun r => (∀ c : Dev Cert.YRefIdeal.nD,
      r.2.mem ((c.tc : Thread Cert.YRefIdeal.nD Cert.YRefIdeal.τ).loc Cert.YRefIdeal.main_arg0) = m ((c.tc : Thread Cert.YRefIdeal.nD Cert.YRefIdeal.τ).loc Cert.YRefIdeal.main_arg0)
      ∧ r.2.mem ((c.tc : Thread Cert.YRefIdeal.nD Cert.YRefIdeal.τ).loc Cert.YRefIdeal.main_arg1) = m ((c.tc : Thread Cert.YRefIdeal.nD Cert.YRefIdeal.τ).loc Cert.YRefIdeal.main_arg1)
      ∧ r.2.mem ((c.tc : Thread Cert.YRefIdeal.nD Cert.YRefIdeal.τ).loc Cert.YRefIdeal.main_arg2) = m ((c.tc : Thread Cert.YRefIdeal.nD Cert.YRefIdeal.τ).loc Cert.YRefIdeal.main_arg2))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2))
      ∧ r.2.sem = fun _ => 0)

def preserves_Main_MainIdeal : Prop :=
  IdealRules.bf16_pair.Statement Cert.MainIdeal.S2560x2x128 Cert.MainIdeal.S2560x1x128
  ∧ IdealRules.bf16_pair.Statement Cert.MainIdeal.S5120x128 Cert.MainIdeal.S2560x128

def algebraic_MainIdeal_MainRefIdeal [hMainIdeal : Cert.MainIdeal.Facts] [hMainRefIdeal : Cert.MainRefIdeal.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.MainRefIdeal.nD Cert.MainRefIdeal.τ Cert.MainRefIdeal.sig) → Buf (Elt Ideal) ℓ) (g' : Dev Cert.MainRefIdeal.nD → PrngReg), Pre_MainIdeal m →
    (∀ c : Dev Cert.MainIdeal.nD,
      m' ((c.tc : Thread Cert.MainRefIdeal.nD Cert.MainRefIdeal.τ).loc Cert.MainRefIdeal.main_arg0) = m ((c.tc : Thread Cert.MainIdeal.nD Cert.MainIdeal.τ).loc Cert.MainIdeal.main_arg0)
      ∧ m' ((c.tc : Thread Cert.MainRefIdeal.nD Cert.MainRefIdeal.τ).loc Cert.MainRefIdeal.main_arg1) = m ((c.tc : Thread Cert.MainIdeal.nD Cert.MainIdeal.τ).loc Cert.MainIdeal.main_arg1)
      ∧ m' ((c.tc : Thread Cert.MainRefIdeal.nD Cert.MainRefIdeal.τ).loc Cert.MainRefIdeal.main_arg2) = m ((c.tc : Thread Cert.MainIdeal.nD Cert.MainIdeal.τ).loc Cert.MainIdeal.main_arg2)
      ∧ m' ((c.tc : Thread Cert.MainRefIdeal.nD Cert.MainRefIdeal.τ).loc Cert.MainRefIdeal.main_arg3) = m ((c.tc : Thread Cert.MainIdeal.nD Cert.MainIdeal.τ).loc Cert.MainIdeal.main_arg3)
      ∧ m' ((c.tc : Thread Cert.MainRefIdeal.nD Cert.MainRefIdeal.τ).loc Cert.MainRefIdeal.main_arg4) = m ((c.tc : Thread Cert.MainIdeal.nD Cert.MainIdeal.τ).loc Cert.MainIdeal.main_arg4)
      ∧ m' ((c.tc : Thread Cert.MainRefIdeal.nD Cert.MainRefIdeal.τ).loc Cert.MainRefIdeal.main_arg5) = m ((c.tc : Thread Cert.MainIdeal.nD Cert.MainIdeal.τ).loc Cert.MainIdeal.main_arg5)
      ∧ m' ((c.tc : Thread Cert.MainRefIdeal.nD Cert.MainRefIdeal.τ).loc Cert.MainRefIdeal.main_arg6) = m ((c.tc : Thread Cert.MainIdeal.nD Cert.MainIdeal.τ).loc Cert.MainIdeal.main_arg6)
      ∧ m' ((c.tc : Thread Cert.MainRefIdeal.nD Cert.MainRefIdeal.τ).loc Cert.MainRefIdeal.main_arg7) = m ((c.tc : Thread Cert.MainIdeal.nD Cert.MainIdeal.τ).loc Cert.MainIdeal.main_arg7)
      ∧ m' ((c.tc : Thread Cert.MainRefIdeal.nD Cert.MainRefIdeal.τ).loc Cert.MainRefIdeal.main_arg8) = m ((c.tc : Thread Cert.MainIdeal.nD Cert.MainIdeal.τ).loc Cert.MainIdeal.main_arg8)
      ∧ m' ((c.tc : Thread Cert.MainRefIdeal.nD Cert.MainRefIdeal.τ).loc Cert.MainRefIdeal.main_arg9) = m ((c.tc : Thread Cert.MainIdeal.nD Cert.MainIdeal.τ).loc Cert.MainIdeal.main_arg9)) →
    ∃ (v0 : (c : Dev Cert.MainIdeal.nD) → Buf (Elt Ideal) ((c.tc : Thread Cert.MainIdeal.nD Cert.MainIdeal.τ).loc Cert.MainIdeal.main_v0_0)) (v1 : (c : Dev Cert.MainIdeal.nD) → Buf (Elt Ideal) ((c.tc : Thread Cert.MainIdeal.nD Cert.MainIdeal.τ).loc Cert.MainIdeal.main_v0_1)) (v2 : (c : Dev Cert.MainIdeal.nD) → Buf (Elt Ideal) ((c.tc : Thread Cert.MainIdeal.nD Cert.MainIdeal.τ).loc Cert.MainIdeal.main_v0_2)) (v3 : (c : Dev Cert.MainIdeal.nD) → Buf (Elt Ideal) ((c.tc : Thread Cert.MainIdeal.nD Cert.MainIdeal.τ).loc Cert.MainIdeal.main_v0_3)) (v4 : (c : Dev Cert.MainIdeal.nD) → Buf (Elt Ideal) ((c.tc : Thread Cert.MainIdeal.nD Cert.MainIdeal.τ).loc Cert.MainIdeal.main_v0_4)) (v5 : (c : Dev Cert.MainIdeal.nD) → Buf (Elt Ideal) ((c.tc : Thread Cert.MainIdeal.nD Cert.MainIdeal.τ).loc Cert.MainIdeal.main_v0_5)) (v6 : (c : Dev Cert.MainIdeal.nD) → Buf (Elt Ideal) ((c.tc : Thread Cert.MainIdeal.nD Cert.MainIdeal.τ).loc Cert.MainIdeal.main_v0_6)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v0_0) = v0 c
          ∧ r.2.mem ((c.tc : Thread Cert.MainIdeal.nD Cert.MainIdeal.τ).loc Cert.MainIdeal.main_v0_1) = v1 c
          ∧ r.2.mem ((c.tc : Thread Cert.MainIdeal.nD Cert.MainIdeal.τ).loc Cert.MainIdeal.main_v0_2) = v2 c
          ∧ r.2.mem ((c.tc : Thread Cert.MainIdeal.nD Cert.MainIdeal.τ).loc Cert.MainIdeal.main_v0_3) = v3 c
          ∧ r.2.mem ((c.tc : Thread Cert.MainIdeal.nD Cert.MainIdeal.τ).loc Cert.MainIdeal.main_v0_4) = v4 c
          ∧ r.2.mem ((c.tc : Thread Cert.MainIdeal.nD Cert.MainIdeal.τ).loc Cert.MainIdeal.main_v0_5) = v5 c
          ∧ r.2.mem ((c.tc : Thread Cert.MainIdeal.nD Cert.MainIdeal.τ).loc Cert.MainIdeal.main_v0_6) = v6 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
          ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
          ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
          ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
          ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
          ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
          ∧ r.2.mem ((c.tc : Thread Cert.MainIdeal.nD Cert.MainIdeal.τ).loc Cert.MainIdeal.main_arg7) = m ((c.tc : Thread Cert.MainIdeal.nD Cert.MainIdeal.τ).loc Cert.MainIdeal.main_arg7)
          ∧ r.2.mem ((c.tc : Thread Cert.MainIdeal.nD Cert.MainIdeal.τ).loc Cert.MainIdeal.main_arg8) = m ((c.tc : Thread Cert.MainIdeal.nD Cert.MainIdeal.τ).loc Cert.MainIdeal.main_arg8)
          ∧ r.2.mem ((c.tc : Thread Cert.MainIdeal.nD Cert.MainIdeal.τ).loc Cert.MainIdeal.main_arg9) = m ((c.tc : Thread Cert.MainIdeal.nD Cert.MainIdeal.τ).loc Cert.MainIdeal.main_arg9))
      ∧ θ_run (Cert.MainRefIdeal.defs (F := Ideal)) (onTc (τ := Cert.MainRefIdeal.τ) (Cert.MainRefIdeal.main (F := Ideal))) ⟨m', fun _ => 0, g'⟩ (fun r => ∀ c : Dev Cert.MainRefIdeal.nD,
          r.2.mem ((c.tc : Thread Cert.MainRefIdeal.nD Cert.MainRefIdeal.τ).loc Cert.MainRefIdeal.main_v0_0) = v0 c
          ∧ r.2.mem ((c.tc : Thread Cert.MainRefIdeal.nD Cert.MainRefIdeal.τ).loc Cert.MainRefIdeal.main_v0_1) = v1 c
          ∧ r.2.mem ((c.tc : Thread Cert.MainRefIdeal.nD Cert.MainRefIdeal.τ).loc Cert.MainRefIdeal.main_v0_2) = v2 c
          ∧ r.2.mem ((c.tc : Thread Cert.MainRefIdeal.nD Cert.MainRefIdeal.τ).loc Cert.MainRefIdeal.main_v0_3) = v3 c
          ∧ r.2.mem ((c.tc : Thread Cert.MainRefIdeal.nD Cert.MainRefIdeal.τ).loc Cert.MainRefIdeal.main_v0_4) = v4 c
          ∧ r.2.mem ((c.tc : Thread Cert.MainRefIdeal.nD Cert.MainRefIdeal.τ).loc Cert.MainRefIdeal.main_v0_5) = v5 c
          ∧ r.2.mem ((c.tc : Thread Cert.MainRefIdeal.nD Cert.MainRefIdeal.τ).loc Cert.MainRefIdeal.main_v0_6) = v6 c
          ∧ r.2.mem ((c.tc : Thread Cert.MainRefIdeal.nD Cert.MainRefIdeal.τ).loc Cert.MainRefIdeal.main_arg0) = m' ((c.tc : Thread Cert.MainRefIdeal.nD Cert.MainRefIdeal.τ).loc Cert.MainRefIdeal.main_arg0)
          ∧ r.2.mem ((c.tc : Thread Cert.MainRefIdeal.nD Cert.MainRefIdeal.τ).loc Cert.MainRefIdeal.main_arg1) = m' ((c.tc : Thread Cert.MainRefIdeal.nD Cert.MainRefIdeal.τ).loc Cert.MainRefIdeal.main_arg1)
          ∧ r.2.mem ((c.tc : Thread Cert.MainRefIdeal.nD Cert.MainRefIdeal.τ).loc Cert.MainRefIdeal.main_arg2) = m' ((c.tc : Thread Cert.MainRefIdeal.nD Cert.MainRefIdeal.τ).loc Cert.MainRefIdeal.main_arg2)
          ∧ r.2.mem ((c.tc : Thread Cert.MainRefIdeal.nD Cert.MainRefIdeal.τ).loc Cert.MainRefIdeal.main_arg3) = m' ((c.tc : Thread Cert.MainRefIdeal.nD Cert.MainRefIdeal.τ).loc Cert.MainRefIdeal.main_arg3)
          ∧ r.2.mem ((c.tc : Thread Cert.MainRefIdeal.nD Cert.MainRefIdeal.τ).loc Cert.MainRefIdeal.main_arg4) = m' ((c.tc : Thread Cert.MainRefIdeal.nD Cert.MainRefIdeal.τ).loc Cert.MainRefIdeal.main_arg4)
          ∧ r.2.mem ((c.tc : Thread Cert.MainRefIdeal.nD Cert.MainRefIdeal.τ).loc Cert.MainRefIdeal.main_arg5) = m' ((c.tc : Thread Cert.MainRefIdeal.nD Cert.MainRefIdeal.τ).loc Cert.MainRefIdeal.main_arg5)
          ∧ r.2.mem ((c.tc : Thread Cert.MainRefIdeal.nD Cert.MainRefIdeal.τ).loc Cert.MainRefIdeal.main_arg6) = m' ((c.tc : Thread Cert.MainRefIdeal.nD Cert.MainRefIdeal.τ).loc Cert.MainRefIdeal.main_arg6)
          ∧ r.2.mem ((c.tc : Thread Cert.MainRefIdeal.nD Cert.MainRefIdeal.τ).loc Cert.MainRefIdeal.main_arg7) = m' ((c.tc : Thread Cert.MainRefIdeal.nD Cert.MainRefIdeal.τ).loc Cert.MainRefIdeal.main_arg7)
          ∧ r.2.mem ((c.tc : Thread Cert.MainRefIdeal.nD Cert.MainRefIdeal.τ).loc Cert.MainRefIdeal.main_arg8) = m' ((c.tc : Thread Cert.MainRefIdeal.nD Cert.MainRefIdeal.τ).loc Cert.MainRefIdeal.main_arg8)
          ∧ r.2.mem ((c.tc : Thread Cert.MainRefIdeal.nD Cert.MainRefIdeal.τ).loc Cert.MainRefIdeal.main_arg9) = m' ((c.tc : Thread Cert.MainRefIdeal.nD Cert.MainRefIdeal.τ).loc Cert.MainRefIdeal.main_arg9))

def preserves_Y_YIdeal : Prop :=
  True

def algebraic_YIdeal_YRefIdeal [hYIdeal : Cert.YIdeal.Facts] [hYRefIdeal : Cert.YRefIdeal.Facts] : Prop :=
  ∀ (m : (ℓ : Loc Cert.YIdeal.nD Cert.YIdeal.τ Cert.YIdeal.sig) → Buf (Elt Ideal) ℓ) (g : Dev Cert.YIdeal.nD → PrngReg)
    (m' : (ℓ : Loc Cert.YRefIdeal.nD Cert.YRefIdeal.τ Cert.YRefIdeal.sig) → Buf (Elt Ideal) ℓ) (g' : Dev Cert.YRefIdeal.nD → PrngReg), Pre_YIdeal m →
    (∀ c : Dev Cert.YIdeal.nD,
      m' ((c.tc : Thread Cert.YRefIdeal.nD Cert.YRefIdeal.τ).loc Cert.YRefIdeal.main_arg0) = m ((c.tc : Thread Cert.YIdeal.nD Cert.YIdeal.τ).loc Cert.YIdeal.main_arg0)
      ∧ m' ((c.tc : Thread Cert.YRefIdeal.nD Cert.YRefIdeal.τ).loc Cert.YRefIdeal.main_arg1) = m ((c.tc : Thread Cert.YIdeal.nD Cert.YIdeal.τ).loc Cert.YIdeal.main_arg1)
      ∧ m' ((c.tc : Thread Cert.YRefIdeal.nD Cert.YRefIdeal.τ).loc Cert.YRefIdeal.main_arg2) = m ((c.tc : Thread Cert.YIdeal.nD Cert.YIdeal.τ).loc Cert.YIdeal.main_arg2)) →
    ∃ (v0 : (c : Dev Cert.YIdeal.nD) → Buf (Elt Ideal) ((c.tc : Thread Cert.YIdeal.nD Cert.YIdeal.τ).loc Cert.YIdeal.main_v0)),
      θ_run (Cert.YIdeal.defs (F := Ideal)) (onTc (τ := Cert.YIdeal.τ) (Cert.YIdeal.main (F := Ideal))) ⟨m, fun _ => 0, g⟩ (fun r => ∀ c : Dev Cert.YIdeal.nD,
          r.2.mem ((c.tc : Thread Cert.YIdeal.nD Cert.YIdeal.τ).loc Cert.YIdeal.main_v0) = v0 c
          ∧ r.2.mem ((c.tc : Thread Cert.YIdeal.nD Cert.YIdeal.τ).loc Cert.YIdeal.main_arg0) = m ((c.tc : Thread Cert.YIdeal.nD Cert.YIdeal.τ).loc Cert.YIdeal.main_arg0)
          ∧ r.2.mem ((c.tc : Thread Cert.YIdeal.nD Cert.YIdeal.τ).loc Cert.YIdeal.main_arg1) = m ((c.tc : Thread Cert.YIdeal.nD Cert.YIdeal.τ).loc Cert.YIdeal.main_arg1)
          ∧ r.2.mem ((c.tc : Thread Cert.YIdeal.nD Cert.YIdeal.τ).loc Cert.YIdeal.main_arg2) = m ((c.tc : Thread Cert.YIdeal.nD Cert.YIdeal.τ).loc Cert.YIdeal.main_arg2))
      ∧ θ_run (Cert.YRefIdeal.defs (F := Ideal)) (onTc (τ := Cert.YRefIdeal.τ) (Cert.YRefIdeal.main (F := Ideal))) ⟨m', fun _ => 0, g'⟩ (fun r => ∀ c : Dev Cert.YRefIdeal.nD,
          r.2.mem ((c.tc : Thread Cert.YRefIdeal.nD Cert.YRefIdeal.τ).loc Cert.YRefIdeal.main_v0) = v0 c
          ∧ r.2.mem ((c.tc : Thread Cert.YRefIdeal.nD Cert.YRefIdeal.τ).loc Cert.YRefIdeal.main_arg0) = m' ((c.tc : Thread Cert.YRefIdeal.nD Cert.YRefIdeal.τ).loc Cert.YRefIdeal.main_arg0)
          ∧ r.2.mem ((c.tc : Thread Cert.YRefIdeal.nD Cert.YRefIdeal.τ).loc Cert.YRefIdeal.main_arg1) = m' ((c.tc : Thread Cert.YRefIdeal.nD Cert.YRefIdeal.τ).loc Cert.YRefIdeal.main_arg1)
          ∧ r.2.mem ((c.tc : Thread Cert.YRefIdeal.nD Cert.YRefIdeal.τ).loc Cert.YRefIdeal.main_arg2) = m' ((c.tc : Thread Cert.YRefIdeal.nD Cert.YRefIdeal.τ).loc Cert.YRefIdeal.main_arg2))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)) →
    ∃ (v0 : (c : Dev Cert.DxIdeal.nD) → Buf (Elt Ideal) ((c.tc : Thread Cert.DxIdeal.nD Cert.DxIdeal.τ).loc Cert.DxIdeal.main_v0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v0) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2))

def Claim : Prop :=
  ∃ (hMain : Cert.Main.Facts) (hMainIdeal : Cert.MainIdeal.Facts) (hMainRefIdeal : Cert.MainRefIdeal.Facts) (hY : Cert.Y.Facts) (hYIdeal : Cert.YIdeal.Facts) (hYRefIdeal : Cert.YRefIdeal.Facts) (hDx : Cert.Dx.Facts) (hDxIdeal : Cert.DxIdeal.Facts) (hDxRefIdeal : Cert.DxRefIdeal.Facts),
    quiescent_Main (hMain := hMain)
    ∧ quiescent_MainIdeal (hMainIdeal := hMainIdeal)
    ∧ quiescent_MainRefIdeal (hMainRefIdeal := hMainRefIdeal)
    ∧ quiescent_Y (hY := hY)
    ∧ quiescent_YIdeal (hYIdeal := hYIdeal)
    ∧ quiescent_YRefIdeal (hYRefIdeal := hYRefIdeal)
    ∧ quiescent_Dx (hDx := hDx)
    ∧ quiescent_DxIdeal (hDxIdeal := hDxIdeal)
    ∧ quiescent_DxRefIdeal (hDxRefIdeal := hDxRefIdeal)
    ∧ preserves_Main_MainIdeal
    ∧ algebraic_MainIdeal_MainRefIdeal (hMainIdeal := hMainIdeal) (hMainRefIdeal := hMainRefIdeal)
    ∧ preserves_Y_YIdeal
    ∧ algebraic_YIdeal_YRefIdeal (hYIdeal := hYIdeal) (hYRefIdeal := hYRefIdeal)
    ∧ preserves_Dx_DxIdeal
    ∧ algebraic_DxIdeal_DxRefIdeal (hDxIdeal := hDxIdeal) (hDxRefIdeal := hDxRefIdeal)
-- ==== Main.lean ====
abbrev S6 : Shape := ⟨1, ![6]⟩
abbrev S6x16 : Shape := ⟨2, ![6, 16]⟩
abbrev S8x128 : Shape := ⟨2, ![8, 128]⟩
abbrev S1920x2560 : Shape := ⟨2, ![1920, 2560]⟩
abbrev S2560x1920 : Shape := ⟨2, ![2560, 1920]⟩
abbrev S2560x2x6912 : Shape := ⟨3, ![2560, 2, 6912]⟩
abbrev S6912x2560 : Shape := ⟨2, ![6912, 2560]⟩
abbrev S2x2560x6912 : Shape := ⟨3, ![2, 2560, 6912]⟩
abbrev S1920x6912 : Shape := ⟨2, ![1920, 6912]⟩
abbrev S3x2x640x6912 : Shape := ⟨4, ![3, 2, 640, 6912]⟩
abbrev S6x1 : Shape := ⟨2, ![6, 1]⟩
abbrev S2560x2x128 : Shape := ⟨3, ![2560, 2, 128]⟩
abbrev S256x2560 : Shape := ⟨2, ![256, 2560]⟩
abbrev S2x2560x256 : Shape := ⟨3, ![2, 2560, 256]⟩
abbrev S1920x256 : Shape := ⟨2, ![1920, 256]⟩
abbrev S3x2x640x256 : Shape := ⟨4, ![3, 2, 640, 256]⟩
abbrev S2560x2x256 : Shape := ⟨3, ![2560, 2, 256]⟩
abbrev S2560x1x128 : Shape := ⟨3, ![2560, 1, 128]⟩
abbrev S2560x128 : Shape := ⟨2, ![2560, 128]⟩
abbrev S1 : Shape := ⟨1, ![1]⟩
abbrev S1x2560x128 : Shape := ⟨3, ![1, 2560, 128]⟩
abbrev S320x8x128 : Shape := ⟨3, ![320, 8, 128]⟩
abbrev S32x8x2560 : Shape := ⟨3, ![32, 8, 2560]⟩
abbrev S8x2560 : Shape := ⟨2, ![8, 2560]⟩
abbrev S320x2560 : Shape := ⟨2, ![320, 2560]⟩
abbrev S1x2560x256 : Shape := ⟨3, ![1, 2560, 256]⟩
abbrev S2560x256 : Shape := ⟨2, ![2560, 256]⟩
abbrev S320x256 : Shape := ⟨2, ![320, 256]⟩
abbrev S1x1x320x256 : Shape := ⟨4, ![1, 1, 320, 256]⟩
abbrev S40x8x256 : Shape := ⟨3, ![40, 8, 256]⟩
abbrev S8x256 : Shape := ⟨2, ![8, 256]⟩
abbrev S1x1x640x256 : Shape := ⟨4, ![1, 1, 640, 256]⟩
abbrev S640x256 : Shape := ⟨2, ![640, 256]⟩
abbrev S2560x1x256 : Shape := ⟨3, ![2560, 1, 256]⟩
abbrev S1x8x128 : Shape := ⟨3, ![1, 8, 128]⟩
abbrev S1x1x1 : Shape := ⟨3, ![1, 1, 1]⟩
abbrev S6x256 : Shape := ⟨2, ![6, 256]⟩

abbrev nBuf : Space → Nat
  | .hbm => 18
  | .vmem => 30
  | .smem => 2
  | _ => 0

abbrev bufTy : (tb : Table) → Fin (tcTables nBuf tb) → BufTy
  | .hbm, ⟨0, _⟩ => ⟨S6, .f32⟩
  | .hbm, ⟨1, _⟩ => ⟨S6, .f32⟩
  | .hbm, ⟨2, _⟩ => ⟨S6x16, .f32⟩
  | .hbm, ⟨3, _⟩ => ⟨S8x128, .f32⟩
  | .hbm, ⟨4, _⟩ => ⟨S8x128, .f32⟩
  | .hbm, ⟨5, _⟩ => ⟨S1920x2560, .fp8e4m3⟩
  | .hbm, ⟨6, _⟩ => ⟨S2560x1920, .fp8e4m3⟩
  | .hbm, ⟨7, _⟩ => ⟨S1920x2560, .fp8e4m3⟩
  | .hbm, ⟨8, _⟩ => ⟨S2560x2x6912, .bf16⟩
  | .hbm, ⟨9, _⟩ => ⟨S6912x2560, .bf16⟩
  | .hbm, ⟨10, _⟩ => ⟨S2x2560x6912, .fp8e4m3⟩
  | .hbm, ⟨11, _⟩ => ⟨S6912x2560, .fp8e4m3⟩
  | .hbm, ⟨12, _⟩ => ⟨S1920x6912, .fp8e4m3⟩
  | .hbm, ⟨13, _⟩ => ⟨S3x2x640x6912, .fp8e4m3⟩
  | .hbm, ⟨14, _⟩ => ⟨S2560x2x6912, .f32⟩
  | .hbm, ⟨15, _⟩ => ⟨S6912x2560, .f32⟩
  | .hbm, ⟨16, _⟩ => ⟨S6x16, .f32⟩
  | .hbm, ⟨17, _⟩ => ⟨S6x1, .f32⟩
  | .local _ .vmem, ⟨0, _⟩ => ⟨S6x16, .f32⟩
  | .local _ .vmem, ⟨1, _⟩ => ⟨S8x128, .f32⟩
  | .local _ .vmem, ⟨2, _⟩ => ⟨S8x128, .f32⟩
  | .local _ .vmem, ⟨3, _⟩ => ⟨S1920x2560, .fp8e4m3⟩
  | .local _ .vmem, ⟨4, _⟩ => ⟨S2560x1920, .fp8e4m3⟩
  | .local _ .vmem, ⟨5, _⟩ => ⟨S1920x2560, .fp8e4m3⟩
  | .local _ .vmem, ⟨6, _⟩ => ⟨S2560x2x128, .bf16⟩
  | .local _ .vmem, ⟨7, _⟩ => ⟨S2560x2x128, .bf16⟩
  | .local _ .vmem, ⟨8, _⟩ => ⟨S2560x2x128, .bf16⟩
  | .local _ .vmem, ⟨9, _⟩ => ⟨S2560x2x128, .bf16⟩
  | .local _ .vmem, ⟨10, _⟩ => ⟨S256x2560, .bf16⟩
  | .local _ .vmem, ⟨11, _⟩ => ⟨S256x2560, .bf16⟩
  | .local _ .vmem, ⟨12, _⟩ => ⟨S2x2560x256, .fp8e4m3⟩
  | .local _ .vmem, ⟨13, _⟩ => ⟨S2x2560x256, .fp8e4m3⟩
  | .local _ .vmem, ⟨14, _⟩ => ⟨S256x2560, .fp8e4m3⟩
  | .local _ .vmem, ⟨15, _⟩ => ⟨S256x2560, .fp8e4m3⟩
  | .local _ .vmem, ⟨16, _⟩ => ⟨S1920x256, .fp8e4m3⟩
  | .local _ .vmem, ⟨17, _⟩ => ⟨S1920x256, .fp8e4m3⟩
  | .local _ .vmem, ⟨18, _⟩ => ⟨S3x2x640x256, .fp8e4m3⟩
  | .local _ .vmem, ⟨19, _⟩ => ⟨S3x2x640x256, .fp8e4m3⟩
  | .local _ .vmem, ⟨20, _⟩ => ⟨S2560x2x256, .f32⟩
  | .local _ .vmem, ⟨21, _⟩ => ⟨S2560x2x256, .f32⟩
  | .local _ .vmem, ⟨22, _⟩ => ⟨S256x2560, .f32⟩
  | .local _ .vmem, ⟨23, _⟩ => ⟨S256x2560, .f32⟩
  | .local _ .vmem, ⟨24, _⟩ => ⟨S6x16, .f32⟩
  | .local _ .vmem, ⟨25, _⟩ => ⟨S6x1, .f32⟩
  | .local _ .vmem, ⟨26, _⟩ => ⟨S8x128, .f32⟩
  | .local _ .vmem, ⟨27, _⟩ => ⟨S8x128, .f32⟩
  | .local _ .vmem, ⟨28, _⟩ => ⟨S8x128, .f32⟩
  | .local _ .vmem, ⟨29, _⟩ => ⟨S8x128, .f32⟩
  | .local _ .smem, ⟨0, _⟩ => ⟨S6, .f32⟩
  | .local _ .smem, ⟨1, _⟩ => ⟨S6, .f32⟩
  | _, _ => ⟨S6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg8_1 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg18_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem18_0 : DmaSem sig := 27

abbrev nD : Nat := 1
abbrev τ : Topo := Topo.v7x

variable {F : FTy → Type} [BitOps F]

abbrev grid0 : Pipeline.Grid := ⟨1, ![27], ![false]⟩

def k0_cond2 (i : grid0.Coords) : BitVec 1 :=
  let arg0 : BitVec 32 := BitVec.ofNat 32 (i 0).val
  let c26_i32 : BitVec 32 := 26#32
  let v696 : BitVec 1 := Scalar.cmpi .eq arg0 c26_i32
  let v697 : BitVec 32 := Scalar.extui v696
  let c0_i32_345 : BitVec 32 := 0#32
  let v698 : BitVec 1 := Scalar.cmpi .ne v697 c0_i32_345
  v698

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, c0_i32_0.toNat, v1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1920x2560 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2560x1920 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1920x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2560x2x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2560x2x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2560 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x2560x256 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2560 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1920x256 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S3x2x640x256 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2560x2x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2560 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S6x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S6x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MainIdeal.lean ====
abbrev S5120x128 : Shape := ⟨2, ![5120, 128]⟩
variable {F : FTy → Type} [FloatOps F]
-- ==== MainRefIdeal.lean ====
abbrev S6 : Shape := ⟨1, ![6]⟩
abbrev S6x16 : Shape := ⟨2, ![6, 16]⟩
abbrev S8x128 : Shape := ⟨2, ![8, 128]⟩
abbrev S1920x2560 : Shape := ⟨2, ![1920, 2560]⟩
abbrev S2560x1920 : Shape := ⟨2, ![2560, 1920]⟩
abbrev S2560x2x6912 : Shape := ⟨3, ![2560, 2, 6912]⟩
abbrev S6912x2560 : Shape := ⟨2, ![6912, 2560]⟩
abbrev S2x2560x6912 : Shape := ⟨3, ![2, 2560, 6912]⟩
abbrev S1920x6912 : Shape := ⟨2, ![1920, 6912]⟩
abbrev S3x2x640x6912 : Shape := ⟨4, ![3, 2, 640, 6912]⟩
abbrev S2560x1x6912 : Shape := ⟨3, ![2560, 1, 6912]⟩
abbrev S2560x6912 : Shape := ⟨2, ![2560, 6912]⟩
abbrev S1 : Shape := ⟨1, ![1]⟩
abbrev S1x2560x6912 : Shape := ⟨3, ![1, 2560, 6912]⟩
abbrev S3x640x6912 : Shape := ⟨3, ![3, 640, 6912]⟩
abbrev S3x1x640x6912 : Shape := ⟨4, ![3, 1, 640, 6912]⟩
abbrev S1x8x128 : Shape := ⟨3, ![1, 8, 128]⟩
abbrev S1x1x1 : Shape := ⟨3, ![1, 1, 1]⟩
abbrev S1x1 : Shape := ⟨2, ![1, 1]⟩
abbrev S1x6912x2560 : Shape := ⟨3, ![1, 6912, 2560]⟩
abbrev S1x1920x6912 : Shape := ⟨3, ![1, 1920, 6912]⟩
abbrev S6x1 : Shape := ⟨2, ![6, 1]⟩
abbrev S6x15 : Shape := ⟨2, ![6, 15]⟩

abbrev nBuf : Space → Nat
  | .hbm => 17
  | .vmem => 15
  | .smem => 2
  | _ => 0

abbrev bufTy : (tb : Table) → Fin (tcTables nBuf tb) → BufTy
  | .hbm, ⟨0, _⟩ => ⟨S6, .f32⟩
  | .hbm, ⟨1, _⟩ => ⟨S6, .f32⟩
  | .hbm, ⟨2, _⟩ => ⟨S6x16, .f32⟩
  | .hbm, ⟨3, _⟩ => ⟨S8x128, .f32⟩
  | .hbm, ⟨4, _⟩ => ⟨S8x128, .f32⟩
  | .hbm, ⟨5, _⟩ => ⟨S1920x2560, .fp8e4m3⟩
  | .hbm, ⟨6, _⟩ => ⟨S2560x1920, .fp8e4m3⟩
  | .hbm, ⟨7, _⟩ => ⟨S1920x2560, .fp8e4m3⟩
  | .hbm, ⟨8, _⟩ => ⟨S2560x2x6912, .bf16⟩
  | .hbm, ⟨9, _⟩ => ⟨S6912x2560, .bf16⟩
  | .hbm, ⟨10, _⟩ => ⟨S2x2560x6912, .fp8e4m3⟩
  | .hbm, ⟨11, _⟩ => ⟨S6912x2560, .fp8e4m3⟩
  | .hbm, ⟨12, _⟩ => ⟨S1920x6912, .fp8e4m3⟩
  | .hbm, ⟨13, _⟩ => ⟨S3x2x640x6912, .fp8e4m3⟩
  | .hbm, ⟨14, _⟩ => ⟨S2560x2x6912, .f32⟩
  | .hbm, ⟨15, _⟩ => ⟨S6912x2560, .f32⟩
  | .hbm, ⟨16, _⟩ => ⟨S6x16, .f32⟩
  | .local _ .vmem, ⟨0, _⟩ => ⟨S6x16, .f32⟩
  | .local _ .vmem, ⟨1, _⟩ => ⟨S8x128, .f32⟩
  | .local _ .vmem, ⟨2, _⟩ => ⟨S8x128, .f32⟩
  | .local _ .vmem, ⟨3, _⟩ => ⟨S1920x2560, .fp8e4m3⟩
  | .local _ .vmem, ⟨4, _⟩ => ⟨S2560x1920, .fp8e4m3⟩
  | .local _ .vmem, ⟨5, _⟩ => ⟨S1920x2560, .fp8e4m3⟩
  | .local _ .vmem, ⟨6, _⟩ => ⟨S2560x2x6912, .bf16⟩
  | .local _ .vmem, ⟨7, _⟩ => ⟨S6912x2560, .bf16⟩
  | .local _ .vmem, ⟨8, _⟩ => ⟨S2x2560x6912, .fp8e4m3⟩
  | .local _ .vmem, ⟨9, _⟩ => ⟨S6912x2560, .fp8e4m3⟩
  | .local _ .vmem, ⟨10, _⟩ => ⟨S1920x6912, .fp8e4m3⟩
  | .local _ .vmem, ⟨11, _⟩ => ⟨S3x2x640x6912, .fp8e4m3⟩
  | .local _ .vmem, ⟨12, _⟩ => ⟨S2560x2x6912, .f32⟩
  | .local _ .vmem, ⟨13, _⟩ => ⟨S6912x2560, .f32⟩
  | .local _ .vmem, ⟨14, _⟩ => ⟨S6x16, .f32⟩
  | .local _ .smem, ⟨0, _⟩ => ⟨S6, .f32⟩
  | .local _ .smem, ⟨1, _⟩ => ⟨S6, .f32⟩
  | _, _ => ⟨S6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg12_0 : Ref sig .tc := ⟨.vmem, 10, rfl⟩
abbrev cc0_stg13_0 : Ref sig .tc := ⟨.vmem, 11, rfl⟩
abbrev cc0_stg14_0 : Ref sig .tc := ⟨.vmem, 12, rfl⟩
abbrev cc0_stg15_0 : Ref sig .tc := ⟨.vmem, 13, rfl⟩
abbrev cc0_stg16_0 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x2560 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2560x1920 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1920x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2560x2x6912 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6912x2560 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x2560x6912 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6912x2560 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1920x6912 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x2x640x6912 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2560x2x6912 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S6912x2560 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S6x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Y.lean ====
abbrev S6 : Shape := ⟨1, ![6]⟩
abbrev S1920x6912 : Shape := ⟨2, ![1920, 6912]⟩
abbrev S6912x2560 : Shape := ⟨2, ![6912, 2560]⟩
abbrev S1920x2560 : Shape := ⟨2, ![1920, 2560]⟩
abbrev S6912x512 : Shape := ⟨2, ![6912, 512]⟩
abbrev S1920x512 : Shape := ⟨2, ![1920, 512]⟩
abbrev S1 : Shape := ⟨1, ![1]⟩

abbrev nBuf : Space → Nat
  | .hbm => 4
  | .vmem => 5
  | .smem => 1
  | _ => 0

abbrev bufTy : (tb : Table) → Fin (tcTables nBuf tb) → BufTy
  | .hbm, ⟨0, _⟩ => ⟨S6, .f32⟩
  | .hbm, ⟨1, _⟩ => ⟨S1920x6912, .fp8e4m3⟩
  | .hbm, ⟨2, _⟩ => ⟨S6912x2560, .fp8e4m3⟩
  | .hbm, ⟨3, _⟩ => ⟨S1920x2560, .bf16⟩
  | .local _ .vmem, ⟨0, _⟩ => ⟨S1920x6912, .fp8e4m3⟩
  | .local _ .vmem, ⟨1, _⟩ => ⟨S6912x512, .fp8e4m3⟩
  | .local _ .vmem, ⟨2, _⟩ => ⟨S6912x512, .fp8e4m3⟩
  | .local _ .vmem, ⟨3, _⟩ => ⟨S1920x512, .bf16⟩
  | .local _ .vmem, ⟨4, _⟩ => ⟨S1920x512, .bf16⟩
  | .local _ .smem, ⟨0, _⟩ => ⟨S6, .f32⟩
  | _, _ => ⟨S6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1920x6912 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6912x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1920x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== YRefIdeal.lean ====
abbrev S6 : Shape := ⟨1, ![6]⟩
abbrev S1920x6912 : Shape := ⟨2, ![1920, 6912]⟩
abbrev S6912x2560 : Shape := ⟨2, ![6912, 2560]⟩
abbrev S1920x2560 : Shape := ⟨2, ![1920, 2560]⟩
abbrev S1 : Shape := ⟨1, ![1]⟩

abbrev nBuf : Space → Nat
  | .hbm => 4
  | .vmem => 3
  | .smem => 1
  | _ => 0

abbrev bufTy : (tb : Table) → Fin (tcTables nBuf tb) → BufTy
  | .hbm, ⟨0, _⟩ => ⟨S6, .f32⟩
  | .hbm, ⟨1, _⟩ => ⟨S1920x6912, .fp8e4m3⟩
  | .hbm, ⟨2, _⟩ => ⟨S6912x2560, .fp8e4m3⟩
  | .hbm, ⟨3, _⟩ => ⟨S1920x2560, .bf16⟩
  | .local _ .vmem, ⟨0, _⟩ => ⟨S1920x6912, .fp8e4m3⟩
  | .local _ .vmem, ⟨1, _⟩ => ⟨S6912x2560, .fp8e4m3⟩
  | .local _ .vmem, ⟨2, _⟩ => ⟨S1920x2560, .bf16⟩
  | .local _ .smem, ⟨0, _⟩ => ⟨S6, .f32⟩
  | _, _ => ⟨S6, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x6912 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6912x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Dx.lean ====
abbrev S6 : Shape := ⟨1, ![6]⟩
abbrev S3x2x640x6912 : Shape := ⟨4, ![3, 2, 640, 6912]⟩
abbrev S2x2560x6912 : Shape := ⟨3, ![2, 2560, 6912]⟩
abbrev S1920x2560 : Shape := ⟨2, ![1920, 2560]⟩
abbrev S2x512x6912 : Shape := ⟨3, ![2, 512, 6912]⟩
abbrev S1920x512 : Shape := ⟨2, ![1920, 512]⟩
abbrev S1 : Shape := ⟨1, ![1]⟩
abbrev S1x1x640x6912 : Shape := ⟨4, ![1, 1, 640, 6912]⟩
abbrev S640x6912 : Shape := ⟨2, ![640, 6912]⟩
abbrev S1x512x6912 : Shape := ⟨3, ![1, 512, 6912]⟩
abbrev S512x6912 : Shape := ⟨2, ![512, 6912]⟩
abbrev S640x512 : Shape := ⟨2, ![640, 512]⟩

abbrev nBuf : Space → Nat
  | .hbm => 4
  | .vmem => 5
  | .smem => 1
  | _ => 0

abbrev bufTy : (tb : Table) → Fin (tcTables nBuf tb) → BufTy
  | .hbm, ⟨0, _⟩ => ⟨S6, .f32⟩
  | .hbm, ⟨1, _⟩ => ⟨S3x2x640x6912, .fp8e4m3⟩
  | .hbm, ⟨2, _⟩ => ⟨S2x2560x6912, .fp8e4m3⟩
  | .hbm, ⟨3, _⟩ => ⟨S1920x2560, .bf16⟩
  | .local _ .vmem, ⟨0, _⟩ => ⟨S3x2x640x6912, .fp8e4m3⟩
  | .local _ .vmem, ⟨1, _⟩ => ⟨S2x512x6912, .fp8e4m3⟩
  | .local _ .vmem, ⟨2, _⟩ => ⟨S2x512x6912, .fp8e4m3⟩
  | .local _ .vmem, ⟨3, _⟩ => ⟨S1920x512, .bf16⟩
  | .local _ .vmem, ⟨4, _⟩ => ⟨S1920x512, .bf16⟩
  | .local _ .smem, ⟨0, _⟩ => ⟨S6, .f32⟩
  | _, _ => ⟨S6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x2x640x6912 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x6912 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1920x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DxRefIdeal.lean ====
abbrev S6 : Shape := ⟨1, ![6]⟩
abbrev S3x2x640x6912 : Shape := ⟨4, ![3, 2, 640, 6912]⟩
abbrev S2x2560x6912 : Shape := ⟨3, ![2, 2560, 6912]⟩
abbrev S1920x2560 : Shape := ⟨2, ![1920, 2560]⟩
abbrev S3x1x640x6912 : Shape := ⟨4, ![3, 1, 640, 6912]⟩
abbrev S3x640x6912 : Shape := ⟨3, ![3, 640, 6912]⟩
abbrev S1920x6912 : Shape := ⟨2, ![1920, 6912]⟩
abbrev S1x2560x6912 : Shape := ⟨3, ![1, 2560, 6912]⟩
abbrev S2560x6912 : Shape := ⟨2, ![2560, 6912]⟩
abbrev S1 : Shape := ⟨1, ![1]⟩

abbrev nBuf : Space → Nat
  | .hbm => 4
  | .vmem => 3
  | .smem => 1
  | _ => 0

abbrev bufTy : (tb : Table) → Fin (tcTables nBuf tb) → BufTy
  | .hbm, ⟨0, _⟩ => ⟨S6, .f32⟩
  | .hbm, ⟨1, _⟩ => ⟨S3x2x640x6912, .fp8e4m3⟩
  | .hbm, ⟨2, _⟩ => ⟨S2x2560x6912, .fp8e4m3⟩
  | .hbm, ⟨3, _⟩ => ⟨S1920x2560, .bf16⟩
  | .local _ .vmem, ⟨0, _⟩ => ⟨S3x2x640x6912, .fp8e4m3⟩
  | .local _ .vmem, ⟨1, _⟩ => ⟨S2x2560x6912, .fp8e4m3⟩
  | .local _ .vmem, ⟨2, _⟩ => ⟨S1920x2560, .bf16⟩
  | .local _ .smem, ⟨0, _⟩ => ⟨S6, .f32⟩
  | _, _ => ⟨S6, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x2x640x6912 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2560x6912 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Common.lean ====
/- Facts that every call's value proof uses: a scalar word read off an SMEM array, a product read at an index with a zero
   accumulator, and the product that contracts the first axis of both operands. -/
module

public import Idealize.ShloMosaic.Lib.MatmulPlain
public import Idealize.ShloMosaic.Lib.ValueIdx
public import Idealize.ShloMosaic.Lib.Pipeline.Value
public import Idealize.ShloMosaic.Lib.Pipeline.ValueKit

@[expose] public section

noncomputable section

namespace Cert.Proof

open Idealize.ShloMosaic hiding ix1 ix2 ix3 ix4 eq_ix1 eq_ix2 eq_ix3 eq_ix4
open Idealize.ShloMosaic.ValueIdx Idealize.SL.Sem
open scoped BigOperators

/-- An array of extended reals over two axes, three axes, four axes, and the six words of a scale vector. -/
abbrev Mat (a b : ℕ) := (⟨2, ![a, b]⟩ : Shape).Idx → EReal
abbrev Arr3 (a b c : ℕ) := (⟨3, ![a, b, c]⟩ : Shape).Idx → EReal
abbrev Arr4 (a b c d : ℕ) := (⟨4, ![a, b, c, d]⟩ : Shape).Idx → EReal
abbrev Six := (⟨1, ![6]⟩ : Shape).Idx → EReal

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section
variable {Val : EltTy → Type} {e : EltTy} {a b c d : ℕ}

/-- A load of the whole of a two-, three- or four-axis array reads it. -/
theorem ld2 (inb) (X : (⟨2, ![a, b]⟩ : Shape).Idx → Val e) :
    View.ld X (Rect.unit (s := ⟨2, ![a, b]⟩) ![0, 0] ![a, b] inb) = X := View.ld_unit_zero hz2 inb X
theorem ld3 (inb) (X : (⟨3, ![a, b, c]⟩ : Shape).Idx → Val e) :
    View.ld X (Rect.unit (s := ⟨3, ![a, b, c]⟩) ![0, 0, 0] ![a, b, c] inb) = X := View.ld_unit_zero hz3 inb X
theorem ld4 (inb) (X : (⟨4, ![a, b, c, d]⟩ : Shape).Idx → Val e) :
    View.ld X (Rect.unit (s := ⟨4, ![a, b, c, d]⟩) ![0, 0, 0, 0] ![a, b, c, d] inb) = X := View.ld_unit_zero hz4 inb X

/-- One store through the whole of an array leaves its payload. -/
theorem canon2 [∀ e, Nonempty (Val e)] (inb) (X : (⟨2, ![a, b]⟩ : Shape).Idx → Val e) :
    View.canon [(⟨Rect.unit (s := ⟨2, ![a, b]⟩) ![0, 0] ![a, b] inb, X⟩ : View.Piece Val ⟨2, ![a, b]⟩ e)] = X := View.canon_unit_zero hz2 inb X
theorem canon3 [∀ e, Nonempty (Val e)] (inb) (X : (⟨3, ![a, b, c]⟩ : Shape).Idx → Val e) :
    View.canon [(⟨Rect.unit (s := ⟨3, ![a, b, c]⟩) ![0, 0, 0] ![a, b, c] inb, X⟩ : View.Piece Val ⟨3, ![a, b, c]⟩ e)] = X := View.canon_unit_zero hz3 inb X
theorem canon4 [∀ e, Nonempty (Val e)] (inb) (X : (⟨4, ![a, b, c, d]⟩ : Shape).Idx → Val e) :
    View.canon [(⟨Rect.unit (s := ⟨4, ![a, b, c, d]⟩) ![0, 0, 0, 0] ![a, b, c, d] inb, X⟩ : View.Piece Val ⟨4, ![a, b, c, d]⟩ e)] = X := View.canon_unit_zero hz4 inb X

/-- A scalar load reads its word. -/
theorem word (k : ℕ) (inb) (X : (⟨1, ![6]⟩ : Shape).Idx → Val e) (x : (⟨1, ![1]⟩ : Shape).Idx) :
    View.ld X (Rect.unit (s := ⟨1, ![6]⟩) ![k] ![1] inb) x = X (ix1 ⟨k, inb 0⟩) := by
  refine congrArg X (funext fun a => Fin.ext ?_)
  match a with
  | ⟨0, _⟩ =>
    have h : (x 0).val < 1 := (x 0).isLt
    show k + 1 * (x 0).val = k
    omega

theorem word0 (inb) (X : (⟨1, ![6]⟩ : Shape).Idx → Val e) (x) :
    View.ld X (Rect.unit (s := ⟨1, ![6]⟩) ![0] ![1] inb) x = X (ix1 0) := word 0 inb X x
theorem word1 (inb) (X : (⟨1, ![6]⟩ : Shape).Idx → Val e) (x) :
    View.ld X (Rect.unit (s := ⟨1, ![6]⟩) ![1] ![1] inb) x = X (ix1 1) := word 1 inb X x
theorem word2 (inb) (X : (⟨1, ![6]⟩ : Shape).Idx → Val e) (x) :
    View.ld X (Rect.unit (s := ⟨1, ![6]⟩) ![2] ![1] inb) x = X (ix1 2) := word 2 inb X x
theorem word3 (inb) (X : (⟨1, ![6]⟩ : Shape).Idx → Val e) (x) :
    View.ld X (Rect.unit (s := ⟨1, ![6]⟩) ![3] ![1] inb) x = X (ix1 3) := word 3 inb X x
theorem word4 (inb) (X : (⟨1, ![6]⟩ : Shape).Idx → Val e) (x) :
    View.ld X (Rect.unit (s := ⟨1, ![6]⟩) ![4] ![1] inb) x = X (ix1 4) := word 4 inb X x
theorem word5 (inb) (X : (⟨1, ![6]⟩ : Shape).Idx → Val e) (x) :
    View.ld X (Rect.unit (s := ⟨1, ![6]⟩) ![5] ![1] inb) x = X (ix1 5) := word 5 inb X x

end

section
variable {α : Type} {a b c d n : ℕ}

/-- Unit axes dropped or added by a shape cast, read at an index. -/
theorem drop3 (x : (⟨3, ![1, b, c]⟩ : Shape).Idx → α) (h : (⟨3, ![1, b, c]⟩ : Shape).ShapeCasts ⟨2, ![b, c]⟩) (r : Fin b) (k : Fin c) :
    shapeCast ⟨2, ![b, c]⟩ x h (ix2 r k) = x (ix3 0 r k) :=
  shapeCast_apply _ _ _ _ (by
    rw [Shape.rowMajor_val_two, Shape.rowMajor_val_three]
    show (0 * b + r.val) * c + k.val = r.val * c + k.val
    rw [Nat.zero_mul, Nat.zero_add])
theorem drop4 (x : (⟨4, ![1, 1, b, c]⟩ : Shape).Idx → α) (h : (⟨4, ![1, 1, b, c]⟩ : Shape).ShapeCasts ⟨2, ![b, c]⟩) (r : Fin b) (k : Fin c) :
    shapeCast ⟨2, ![b, c]⟩ x h (ix2 r k) = x (ix4 0 0 r k) :=
  shapeCast_apply _ _ _ _ (by
    rw [Shape.rowMajor_val_two, Shape.rowMajor_val_four]
    show ((0 * 1 + 0) * b + r.val) * c + k.val = r.val * c + k.val
    simp)
theorem dropMid (x : (⟨3, ![a, 1, c]⟩ : Shape).Idx → α) (h : (⟨3, ![a, 1, c]⟩ : Shape).ShapeCasts ⟨2, ![a, c]⟩) (r : Fin a) (k : Fin c) :
    shapeCast ⟨2, ![a, c]⟩ x h (ix2 r k) = x (ix3 r 0 k) :=
  shapeCast_apply _ _ _ _ (by
    rw [Shape.rowMajor_val_two, Shape.rowMajor_val_three]
    show (r.val * 1 + 0) * c + k.val = r.val * c + k.val
    rw [Nat.mul_one, Nat.add_zero])
theorem add3 (x : (⟨2, ![b, c]⟩ : Shape).Idx → α) (h : (⟨2, ![b, c]⟩ : Shape).ShapeCasts ⟨3, ![1, b, c]⟩) (z : Fin 1) (r : Fin b) (k : Fin c) :
    shapeCast ⟨3, ![1, b, c]⟩ x h (ix3 z r k) = x (ix2 r k) :=
  shapeCast_apply _ _ _ _ (by
    rw [Shape.rowMajor_val_two, Shape.rowMajor_val_three]
    show r.val * c + k.val = (z.val * b + r.val) * c + k.val
    rw [show z.val = 0 by omega, Nat.zero_mul, Nat.zero_add])
theorem add4 (x : (⟨2, ![b, c]⟩ : Shape).Idx → α) (h : (⟨2, ![b, c]⟩ : Shape).ShapeCasts ⟨4, ![1, 1, b, c]⟩) (z y : Fin 1) (r : Fin b) (k : Fin c) :
    shapeCast ⟨4, ![1, 1, b, c]⟩ x h (ix4 z y r k) = x (ix2 r k) :=
  shapeCast_apply _ _ _ _ (by
    rw [Shape.rowMajor_val_two, Shape.rowMajor_val_four]
    show r.val * c + k.val = ((z.val * 1 + y.val) * b + r.val) * c + k.val
    rw [show z.val = 0 by omega, show y.val = 0 by omega]; simp)
theorem addMid (x : (⟨2, ![a, c]⟩ : Shape).Idx → α) (h : (⟨2, ![a, c]⟩ : Shape).ShapeCasts ⟨3, ![a, 1, c]⟩) (r : Fin a) (z : Fin 1) (k : Fin c) :
    shapeCast ⟨3, ![a, 1, c]⟩ x h (ix3 r z k) = x (ix2 r k) :=
  shapeCast_apply _ _ _ _ (by
    rw [Shape.rowMajor_val_two, Shape.rowMajor_val_three]
    show r.val * c + k.val = (r.val * 1 + z.val) * c + k.val
    rw [show z.val = 0 by omega, Nat.mul_one, Nat.add_zero])

/-- Row `r` of the flattened `a × b` rows is row `r % b` of member `r / b`. -/
theorem flatRows (x : (⟨4, ![a, 1, b, c]⟩ : Shape).Idx → α) (h : (⟨4, ![a, 1, b, c]⟩ : Shape).ShapeCasts ⟨3, ![a, b, c]⟩)
    (h' : (⟨3, ![a, b, c]⟩ : Shape).ShapeCasts ⟨2, ![n, c]⟩) (r : Fin n) (k : Fin c) (p : Fin a) (q : Fin b) (e : p.val * b + q.val = r.val) :
    shapeCast ⟨2, ![n, c]⟩ (shapeCast ⟨3, ![a, b, c]⟩ x h) h' (ix2 r k) = x (ix4 p 0 q k) := by
  refine (shapeCast_apply _ _ _ (ix3 p q k) (by
    rw [Shape.rowMajor_val_two, Shape.rowMajor_val_three]
    show (p.val * b + q.val) * c + k.val = r.val * c + k.val
    rw [e])).trans (shapeCast_apply _ _ _ _ (by
      rw [Shape.rowMajor_val_three, Shape.rowMajor_val_four]
      show ((p.val * 1 + 0) * b + q.val) * c + k.val = (p.val * b + q.val) * c + k.val
      rw [Nat.mul_one, Nat.add_zero]))

/-- And the other way. -/
theorem splitRows (x : (⟨2, ![n, c]⟩ : Shape).Idx → α) (h : (⟨2, ![n, c]⟩ : Shape).ShapeCasts ⟨3, ![a, b, c]⟩)
    (h' : (⟨3, ![a, b, c]⟩ : Shape).ShapeCasts ⟨4, ![a, 1, b, c]⟩) (p : Fin a) (z : Fin 1) (q : Fin b) (k : Fin c) (r : Fin n) (e : p.val * b + q.val = r.val) :
    shapeCast ⟨4, ![a, 1, b, c]⟩ (shapeCast ⟨3, ![a, b, c]⟩ x h) h' (ix4 p z q k) = x (ix2 r k) := by
  refine (shapeCast_apply _ _ _ (ix3 p q k) (by
    rw [Shape.rowMajor_val_three, Shape.rowMajor_val_four]
    show (p.val * b + q.val) * c + k.val = ((p.val * 1 + z.val) * b + q.val) * c + k.val
    rw [show z.val = 0 by omega, Nat.mul_one, Nat.add_zero])).trans (shapeCast_apply _ _ _ _ (by
      rw [Shape.rowMajor_val_two, Shape.rowMajor_val_three]
      show r.val * c + k.val = (p.val * b + q.val) * c + k.val
      rw [e]))

end

section
variable {Val : EltTy → Type} {e : EltTy} {a b c d a' b' c' d' : ℕ}

/-- A load through a unit-stride rectangle, read at an index given by its coordinates. -/
theorem at2 (X : (⟨2, ![a, b]⟩ : Shape).Idx → Val e) (o0 o1 : ℕ) (inb) (r : Fin a') (k : Fin b') (r' : Fin a) (k' : Fin b)
    (h0 : r'.val = o0 + r.val) (h1 : k'.val = o1 + k.val) :
    View.ld X (Rect.unit (s := ⟨2, ![a, b]⟩) ![o0, o1] ![a', b'] inb) (ix2 r k) = X (ix2 r' k') :=
  View.ld_unit_apply_of _ _ _ _ _ _ fun x => match x with | ⟨0, _⟩ => h0 | ⟨1, _⟩ => h1
theorem at3 (X : (⟨3, ![a, b, c]⟩ : Shape).Idx → Val e) (o0 o1 o2 : ℕ) (inb) (r : Fin a') (k : Fin b') (l : Fin c') (r' : Fin a) (k' : Fin b) (l' : Fin c)
    (h0 : r'.val = o0 + r.val) (h1 : k'.val = o1 + k.val) (h2 : l'.val = o2 + l.val) :
    View.ld X (Rect.unit (s := ⟨3, ![a, b, c]⟩) ![o0, o1, o2] ![a', b', c'] inb) (ix3 r k l) = X (ix3 r' k' l') :=
  View.ld_unit_apply_of _ _ _ _ _ _ fun x => match x with | ⟨0, _⟩ => h0 | ⟨1, _⟩ => h1 | ⟨2, _⟩ => h2
theorem at4 (X : (⟨4, ![a, b, c, d]⟩ : Shape).Idx → Val e) (o0 o1 o2 o3 : ℕ) (inb) (r : Fin a') (k : Fin b') (l : Fin c') (j : Fin d')
    (r' : Fin a) (k' : Fin b) (l' : Fin c) (j' : Fin d)
    (h0 : r'.val = o0 + r.val) (h1 : k'.val = o1 + k.val) (h2 : l'.val = o2 + l.val) (h3 : j'.val = o3 + j.val) :
    View.ld X (Rect.unit (s := ⟨4, ![a, b, c, d]⟩) ![o0, o1, o2, o3] ![a', b', c', d'] inb) (ix4 r k l j) = X (ix4 r' k' l' j') :=
  View.ld_unit_apply_of _ _ _ _ _ _ fun x => match x with | ⟨0, _⟩ => h0 | ⟨1, _⟩ => h1 | ⟨2, _⟩ => h2 | ⟨3, _⟩ => h3

/-- Where an element of a store's rectangle sits. -/
theorem emb2 (o0 o1 : ℕ) (inb) (x : (⟨2, ![a', b']⟩ : Shape).Idx) (r' : Fin a) (k' : Fin b)
    (h0 : r'.val = o0 + (x 0).val) (h1 : k'.val = o1 + (x 1).val) :
    (Rect.unit (s := ⟨2, ![a, b]⟩) ![o0, o1] ![a', b'] inb).emb x = ix2 r' k' :=
  funext fun y => Fin.ext ((Rect.idx_unit_val _ _ inb x y).trans (match y with | ⟨0, _⟩ => h0.symm | ⟨1, _⟩ => h1.symm))
theorem emb3 (o0 o1 o2 : ℕ) (inb) (x : (⟨3, ![a', b', c']⟩ : Shape).Idx) (r' : Fin a) (k' : Fin b) (l' : Fin c)
    (h0 : r'.val = o0 + (x 0).val) (h1 : k'.val = o1 + (x 1).val) (h2 : l'.val = o2 + (x 2).val) :
    (Rect.unit (s := ⟨3, ![a, b, c]⟩) ![o0, o1, o2] ![a', b', c'] inb).emb x = ix3 r' k' l' :=
  funext fun y => Fin.ext ((Rect.idx_unit_val _ _ inb x y).trans (match y with | ⟨0, _⟩ => h0.symm | ⟨1, _⟩ => h1.symm | ⟨2, _⟩ => h2.symm))
theorem emb4 (o0 o1 o2 o3 : ℕ) (inb) (x : (⟨4, ![a', b', c', d']⟩ : Shape).Idx) (r' : Fin a) (k' : Fin b) (l' : Fin c) (j' : Fin d)
    (h0 : r'.val = o0 + (x 0).val) (h1 : k'.val = o1 + (x 1).val) (h2 : l'.val = o2 + (x 2).val) (h3 : j'.val = o3 + (x 3).val) :
    (Rect.unit (s := ⟨4, ![a, b, c, d]⟩) ![o0, o1, o2, o3] ![a', b', c', d'] inb).emb x = ix4 r' k' l' j' :=
  funext fun y => Fin.ext ((Rect.idx_unit_val _ _ inb x y).trans
    (match y with | ⟨0, _⟩ => h0.symm | ⟨1, _⟩ => h1.symm | ⟨2, _⟩ => h2.symm | ⟨3, _⟩ => h3.symm))

end

/-- `[M,K] × [K,N]` onto zero, at (r, c). -/
theorem plain0 {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    (FloatOps.matmul (DotDims.plain M K N) prec lhs rhs (constant ⟨2, ![M, N]⟩ .f32 0x00000000#32) : FVec Ideal _ .f32) (ix2 r c)
      = ∑ k : Fin K, lhs (ix2 r k) * rhs (ix2 k c) := by
  rw [Ideal.matmul_plain_apply]
  show Ideal.ofBits .f32 0x00000000#32 + _ = _
  rw [Ideal.ofBits_zero_f32, zero_add]

/-- `[M,K] × [N,K]ᵀ` onto zero, at (r, c). -/
theorem trans0 {M K N : ℕ} {φ₁ φ₂ : FTy} (prec : Option ContractPrecision)
    (lhs : FVec Ideal ⟨2, ![M, K]⟩ φ₁) (rhs : FVec Ideal ⟨2, ![N, K]⟩ φ₂) (r : Fin M) (c : Fin N) :
    (FloatOps.matmul (DotDims.transposedRhs M K N) prec lhs rhs (constant ⟨2, ![M, N]⟩ .f32 0x00000000#32) : FVec Ideal _ .f32) (ix2 r c)
      = ∑ k : Fin K, lhs (ix2 r k) * rhs (ix2 c k) := by
  rw [Ideal.matmul_transposedRhs_apply]
  show Ideal.ofBits .f32 0x00000000#32 + _ = _
  rw [Ideal.ofBits_zero_f32, zero_add]

/-- The dimension numbers of `[K,M]ᵀ × [K,N]`. -/
abbrev dotTN (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    (by decide : (([] ++ [1] ++ [0] : List (Fin 2))).Perm (List.finRange 2)),
    (by decide : (([] ++ [1] ++ [0] : List (Fin 2))).Perm (List.finRange 2)),
    rfl, by show 0 < 2; decide, fun a => by fin_cases a <;> rfl⟩

theorem dotTN_rank (M K N : ℕ) : (dotTN M K N).contr.rank = 1 := rfl
theorem dotTN_size (M K N : ℕ) : (dotTN M K N).contr.size ⟨0, by rw [dotTN_rank]; exact Nat.one_pos⟩ = K := rfl

/-- `[K,M]ᵀ × [K,N]` onto zero, at (r, c). -/
theorem tn0 {M K N : ℕ} {φ₁ φ₂ : FTy} (prec : Option ContractPrecision)
    (lhs : FVec Ideal ⟨2, ![K, M]⟩ φ₁) (rhs : FVec Ideal ⟨2, ![K, N]⟩ φ₂) (r : Fin M) (c : Fin N) :
    (FloatOps.matmul (dotTN M K N) prec lhs rhs (constant ⟨2, ![M, N]⟩ .f32 0x00000000#32) : FVec Ideal _ .f32) (ix2 r c)
      = ∑ k : Fin K, lhs (ix2 k r) * rhs (ix2 k c) := by
  rw [Ideal.matmul_apply, ← Equiv.sum_comp (contrEquiv1 (dotTN M K N) K (dotTN_rank M K N) (dotTN_size M K N)).symm]
  show Ideal.ofBits .f32 0x00000000#32 + _ = _
  rw [Ideal.ofBits_zero_f32, zero_add]
  refine Finset.sum_congr rfl fun k _ => ?_
  have hk := contrEquiv1_symm_val (dotTN M K N) K (dotTN_rank M K N) (dotTN_size M K N) k
  have el : (dotTN M K N).lhsIdx (ix2 r c) ((contrEquiv1 (dotTN M K N) K (dotTN_rank M K N) (dotTN_size M K N)).symm k) = ix2 k r := by
    funext a; apply Fin.ext
    match a with
    | ⟨0, _⟩ => exact hk
    | ⟨1, _⟩ => rfl
  have er : (dotTN M K N).rhsIdx (ix2 r c) ((contrEquiv1 (dotTN M K N) K (dotTN_rank M K N) (dotTN_size M K N)).symm k) = ix2 k c := by
    funext a; apply Fin.ext
    match a with
    | ⟨0, _⟩ => exact hk
    | ⟨1, _⟩ => rfl
  rw [el, er]

end Cert.Proof

end
-- ==== Proof.Bound.lean ====
/- Upper bounds of arrays. A maximum is fixed by its upper bounds, and every operation that only takes maxima or moves
   elements about has a simple rule for them. -/
module

public import proofs.«01_k».proof.Proof.Common
public import Idealize.ShloMosaic.PureOps.Ideal.Laws

@[expose] public section

noncomputable section

namespace Cert.Proof

open Idealize.ShloMosaic hiding ix1 ix2 ix3 ix4 eq_ix1 eq_ix2 eq_ix3 eq_ix4
open Idealize.ShloMosaic.ValueIdx Idealize.SL.Sem

/-- `B` bounds every entry. -/
def UB {s : Shape} (x : s.Idx → EReal) (B : EReal) : Prop := ∀ i, x i ≤ B

/-- The magnitude. -/
def ab (v : EReal) : EReal := FloatOps.absf (F := Ideal) (φ := .f32) v

theorem ab_nonneg (v : EReal) : 0 ≤ ab v := by
  show (0 : EReal) ≤ max v (-v)
  rcases le_total 0 v with h | h
  · exact le_max_of_le_left h
  · exact le_max_of_le_right (EReal.neg_nonneg.mpr h)

theorem zero_f32 : Ideal.ofBits .f32 0x00000000#32 = 0 := Ideal.ofBits_zero_f32
theorem bot_f32 : Ideal.ofBits .f32 0xFF800000#32 = ⊥ := by
  simp [Ideal.ofBits, Ideal.ieee]

section
variable {s t : Shape} (B : EReal)

theorem ub_max (x y : FVec Ideal s .f32) : UB (maximumf x y) B ↔ UB x B ∧ UB y B :=
  ⟨fun h => ⟨fun i => (le_max_left _ _).trans (h i), fun i => (le_max_right _ _).trans (h i)⟩, fun h i => max_le (h.1 i) (h.2 i)⟩

theorem ub_cast (x : s.Idx → EReal) (h : s.ShapeCasts t) : UB (shapeCast t x h) B ↔ UB x B :=
  ⟨fun H i => by
    have e := H ((Shape.reshapeEquiv h).symm i)
    unfold shapeCast at e
    rwa [Equiv.apply_symm_apply] at e, fun H j => H _⟩

theorem ub_red {axes : List (Fin s.rank)} (x : FVec Ideal s .f32) (h : s.Reduces axes t) (hφ : FKind.Formats .f32)
    (hacc : (0xFF800000#32 : BitVec FTy.f32.bits) = FKind.maximumf.neutral .f32 hφ) :
    UB (multiReduction .maximumf axes t x 0xFF800000#32 h hφ hacc) B ↔ UB x B := by
  have e : ∀ j, multiReduction (F := Ideal) .maximumf axes t x 0xFF800000#32 h hφ hacc j ≤ B ↔ ∀ i, h.drop i = j → x i ≤ B := fun j => by
    rw [multiReduction_maximumf_eq_fold]
    refine (Finset.fold_max_le (b := Ideal.ofBits .f32 0xFF800000#32) (f := x) B).trans ?_
    rw [bot_f32]
    simp
  exact ⟨fun H i => (e _).1 (H _) i rfl, fun H j => (e j).2 fun i _ => H i⟩

theorem ub_abs (x : FVec Ideal s .f32) : UB (absf x) B ↔ ∀ i, ab (x i) ≤ B := Iff.rfl

/-- One word drawn from a vector of a single entry. -/
theorem ub_word (x : (⟨3, ![1, 1, 1]⟩ : Shape).Idx → EReal) (h) :
    extractAt ![0, 0, 0] x h ≤ B ↔ UB x B := by
  refine ⟨fun H i => ?_, fun H => H _⟩
  have e : ∀ a b : (⟨3, ![1, 1, 1]⟩ : Shape).Idx, a = b := fun a b => funext fun z => by
    fin_cases z
    · exact Subsingleton.elim (α := Fin 1) _ _
    · exact Subsingleton.elim (α := Fin 1) _ _
    · exact Subsingleton.elim (α := Fin 1) _ _
  exact (congrArg x (e i _)).trans_le H

theorem ub2 {a b : ℕ} (x : Mat a b) : UB x B ↔ ∀ i j, x (ix2 i j) ≤ B :=
  ⟨fun H i j => H _, fun H i => (congrArg x (eq_ix2 i)).trans_le (H _ _)⟩
theorem ub3 {a b c : ℕ} (x : Arr3 a b c) : UB x B ↔ ∀ i j k, x (ix3 i j k) ≤ B :=
  ⟨fun H i j k => H _, fun H i => (congrArg x (eq_ix3 i)).trans_le (H _ _ _)⟩

/-- A bound of a column slice is one of those columns. -/
theorem ub_slice {a b c : ℕ} (o : ℕ) (x : Mat a b) (h : Shape.Slices ⟨2, ![a, b]⟩ ![0, o] ⟨2, ![a, c]⟩) :
    UB (extractStridedSlice ⟨2, ![a, c]⟩ ![0, o] x h) B ↔ ∀ (i : Fin a) (j : Fin b), o ≤ j.val → j.val < o + c → x (ix2 i j) ≤ B := by
  have hb : o + c ≤ b := h.2 1
  refine (ub2 B _).trans ⟨fun H i j h1 h2 => ?_, fun H i j => ?_⟩
  · refine (congrArg x ?_).trans_le (H i ⟨j.val - o, by omega⟩)
    funext z; apply Fin.ext
    match z with
    | ⟨0, _⟩ => show i.val = 0 + i.val; omega
    | ⟨1, _⟩ => show j.val = o + (j.val - o); omega
  · refine (congrArg x ?_).trans_le (H i ⟨o + j.val, by omega⟩ (by show o ≤ o + j.val; omega) (by show o + j.val < o + c; omega))
    funext z; apply Fin.ext
    match z with
    | ⟨0, _⟩ => show 0 + i.val = i.val; omega
    | ⟨1, _⟩ => rfl

/-- The two halves of 256 columns bound all of them. -/
theorem ub_halves (x : Mat 8 256) (h0 h1) :
    (UB (extractStridedSlice (⟨2, ![8, 128]⟩ : Shape) ![0, 0] x h0) B ∧ UB (extractStridedSlice (⟨2, ![8, 128]⟩ : Shape) ![0, 128] x h1) B) ↔ UB x B := by
  rw [ub_slice, ub_slice, ub2]
  refine ⟨fun H i j => ?_, fun H => ⟨fun i j _ _ => H i j, fun i j _ _ => H i j⟩⟩
  rcases Nat.lt_or_ge j.val 128 with h | h
  · exact H.1 i j (Nat.zero_le _) (by omega)
  · exact H.2 i j h (by omega)

end

end Cert.Proof

end
-- ==== Proof.MainSpec.lean ====
/- The gradient kernel's mathematics, written once for any number of columns: a block of columns and the whole array are
   the same function of their weights. -/
module

public import proofs.«01_k».proof.Proof.Bound

@[expose] public section

noncomputable section

namespace Cert.Proof.Main

open Idealize.ShloMosaic hiding ix1 ix2 ix3 ix4 eq_ix1 eq_ix2 eq_ix3 eq_ix4
open Idealize.ShloMosaic.ValueIdx Idealize.SL.Sem
open scoped BigOperators

section
variable {α : Type} {a b c d : ℕ}

/-- Two unit slabs stacked along an axis, read in each of them. -/
theorem stack0_left (x y : (⟨3, ![1, b, c]⟩ : Shape).Idx → α) (h : Shape.Concatenates [⟨3, ![1, b, c]⟩, ⟨3, ![1, b, c]⟩] ⟨3, ![2, b, c]⟩ 0) (r : Fin b) (k : Fin c) :
    concatenate (⟨3, ![2, b, c]⟩ : Shape) 0 [⟨⟨3, ![1, b, c]⟩, x⟩, ⟨⟨3, ![1, b, c]⟩, y⟩] h (ix3 0 r k) = x (ix3 0 r k) := by
  refine concatenate_pair_apply_left (t := ⟨3, ![2, b, c]⟩) (0 : Fin 3) x y h (ix3 0 r k) rfl (ix3 0 r k) fun z => ?_
  fin_cases z <;> rfl
theorem stack0_right (x y : (⟨3, ![1, b, c]⟩ : Shape).Idx → α) (h : Shape.Concatenates [⟨3, ![1, b, c]⟩, ⟨3, ![1, b, c]⟩] ⟨3, ![2, b, c]⟩ 0) (r : Fin b) (k : Fin c) :
    concatenate (⟨3, ![2, b, c]⟩ : Shape) 0 [⟨⟨3, ![1, b, c]⟩, x⟩, ⟨⟨3, ![1, b, c]⟩, y⟩] h (ix3 1 r k) = y (ix3 0 r k) := by
  refine concatenate_pair_apply_right (t := ⟨3, ![2, b, c]⟩) (0 : Fin 3) x y h (ix3 1 r k) rfl rfl (ix3 0 r k) (fun z hz => ?_) rfl
  fin_cases z <;> first | rfl | exact (hz rfl).elim
theorem stack1_left (x y : (⟨3, ![a, 1, c]⟩ : Shape).Idx → α) (h : Shape.Concatenates [⟨3, ![a, 1, c]⟩, ⟨3, ![a, 1, c]⟩] ⟨3, ![a, 2, c]⟩ 1) (r : Fin a) (k : Fin c) :
    concatenate (⟨3, ![a, 2, c]⟩ : Shape) 1 [⟨⟨3, ![a, 1, c]⟩, x⟩, ⟨⟨3, ![a, 1, c]⟩, y⟩] h (ix3 r 0 k) = x (ix3 r 0 k) := by
  refine concatenate_pair_apply_left (t := ⟨3, ![a, 2, c]⟩) (1 : Fin 3) x y h (ix3 r 0 k) rfl (ix3 r 0 k) fun z => ?_
  fin_cases z <;> rfl
theorem stack1_right (x y : (⟨3, ![a, 1, c]⟩ : Shape).Idx → α) (h : Shape.Concatenates [⟨3, ![a, 1, c]⟩, ⟨3, ![a, 1, c]⟩] ⟨3, ![a, 2, c]⟩ 1) (r : Fin a) (k : Fin c) :
    concatenate (⟨3, ![a, 2, c]⟩ : Shape) 1 [⟨⟨3, ![a, 1, c]⟩, x⟩, ⟨⟨3, ![a, 1, c]⟩, y⟩] h (ix3 r 1 k) = y (ix3 r 0 k) := by
  refine concatenate_pair_apply_right (t := ⟨3, ![a, 2, c]⟩) (1 : Fin 3) x y h (ix3 r 1 k) rfl rfl (ix3 r 0 k) (fun z hz => ?_) rfl
  fin_cases z <;> first | rfl | exact (hz rfl).elim
theorem stack4_left (x y : (⟨4, ![a, 1, b, c]⟩ : Shape).Idx → α) (h : Shape.Concatenates [⟨4, ![a, 1, b, c]⟩, ⟨4, ![a, 1, b, c]⟩] ⟨4, ![a, 2, b, c]⟩ 1) (p : Fin a) (r : Fin b) (k : Fin c) :
    concatenate (⟨4, ![a, 2, b, c]⟩ : Shape) 1 [⟨⟨4, ![a, 1, b, c]⟩, x⟩, ⟨⟨4, ![a, 1, b, c]⟩, y⟩] h (ix4 p 0 r k) = x (ix4 p 0 r k) := by
  refine concatenate_pair_apply_left (t := ⟨4, ![a, 2, b, c]⟩) (1 : Fin 4) x y h (ix4 p 0 r k) rfl (ix4 p 0 r k) fun z => ?_
  fin_cases z <;> rfl
theorem stack4_right (x y : (⟨4, ![a, 1, b, c]⟩ : Shape).Idx → α) (h : Shape.Concatenates [⟨4, ![a, 1, b, c]⟩, ⟨4, ![a, 1, b, c]⟩] ⟨4, ![a, 2, b, c]⟩ 1) (p : Fin a) (r : Fin b) (k : Fin c) :
    concatenate (⟨4, ![a, 2, b, c]⟩ : Shape) 1 [⟨⟨4, ![a, 1, b, c]⟩, x⟩, ⟨⟨4, ![a, 1, b, c]⟩, y⟩] h (ix4 p 1 r k) = y (ix4 p 0 r k) := by
  refine concatenate_pair_apply_right (t := ⟨4, ![a, 2, b, c]⟩) (1 : Fin 4) x y h (ix4 p 1 r k) rfl rfl (ix4 p 0 r k) (fun z hz => ?_) rfl
  fin_cases z <;> first | rfl | exact (hz rfl).elim

end

/-- The code of a value: times the inverse scale, clipped to ±448. -/
def q (v i : EReal) : EReal := min (Ideal.ofBits .f32 0x43E00000#32) (max (Ideal.ofBits .f32 0xC3E00000#32) (v * i))
/-- The logistic function. -/
def lg (v : EReal) : EReal := Ideal.logistic v
/-- The number one. -/
def one : EReal := Ideal.ofBits .f32 0x3F800000#32

/-- The gated activation and its two derivatives, times the gradient above. -/
def hF (a b : EReal) : EReal := a * lg a * b
def daF (a b dh : EReal) : EReal := dh * b * lg a * (one + a * (one - lg a))
def dbF (a dh : EReal) : EReal := dh * a * lg a

/-- A row of `x` times a column of codes, times the product of two scales. -/
def lin {n : ℕ} (x : Mat n 2560) (g : Fin 2560 → EReal) (s : EReal) (r : Fin n) : EReal := (∑ k : Fin 2560, x (ix2 r k) * g k) * s

section
variable {N n : ℕ} (i s : Six) (x dy : Mat n 2560) (w13 : Arr3 2560 2 N) (w2 : Mat N 2560)

/-- Column `f` of the codes of a gate, and row `f` of the codes of the second weight. -/
def gq (γ : Fin 2) (f : Fin N) (k : Fin 2560) : EReal := q (w13 (ix3 k γ f)) (i (ix1 1))
def wq (f : Fin N) (k : Fin 2560) : EReal := q (w2 (ix2 f k)) (i (ix1 2))

def aAt (r : Fin n) (f : Fin N) : EReal := lin x (gq i w13 0 f) (s (ix1 0) * s (ix1 1)) r
def bAt (r : Fin n) (f : Fin N) : EReal := lin x (gq i w13 1 f) (s (ix1 0) * s (ix1 1)) r
def dhAt (r : Fin n) (f : Fin N) : EReal := lin dy (wq i w2 f) (s (ix1 4) * s (ix1 2)) r
def hAt (r : Fin n) (f : Fin N) : EReal := hF (aAt i s x w13 r f) (bAt i s x w13 r f)
def daAt (r : Fin n) (f : Fin N) : EReal := daF (aAt i s x w13 r f) (bAt i s x w13 r f) (dhAt i s dy w2 r f)
def dbAt (r : Fin n) (f : Fin N) : EReal := dbF (aAt i s x w13 r f) (dhAt i s dy w2 r f)
/-- The gradient of gate `γ`. -/
def dgAt (γ : Fin 2) (r : Fin n) (f : Fin N) : EReal := if γ = 0 then daAt i s x dy w13 w2 r f else dbAt i s x dy w13 w2 r f

end

/-- Row `640 p + q` of the flattened rows. -/
def flat (p : Fin 3) (q : Fin 640) : Fin 1920 := ⟨640 * p.val + q.val, by omega⟩

section
variable {N : ℕ} (i s : Six) (x : Mat 1920 2560) (xt : Mat 2560 1920) (dy : Mat 1920 2560) (w13 : Arr3 2560 2 N) (w2 : Mat N 2560)

/-- The six arrays of results. -/
def w13cA : Arr3 2 2560 N := fun j => gq i w13 (j 0) (j 2) (j 1)
def w2cA : Mat N 2560 := fun j => wq i w2 (j 0) (j 1)
def hcA : Mat 1920 N := fun j => q (hAt i s x w13 (j 0) (j 1)) (i (ix1 3))
def dgcA : Arr4 3 2 640 N := fun j => q (dgAt i s x dy w13 w2 (j 1) (flat (j 0) (j 2)) (j 3)) (i (ix1 5))
def dw13A : Arr3 2560 2 N := fun j =>
  (∑ t : Fin 1920, xt (ix2 (j 0) t) * q (dgAt i s x dy w13 w2 (j 1) t (j 2)) (i (ix1 5))) * (s (ix1 0) * s (ix1 5))
def dw2A : Mat N 2560 := fun j =>
  (∑ t : Fin 1920, q (hAt i s x w13 t (j 0)) (i (ix1 3)) * dy (ix2 t (j 1))) * (s (ix1 3) * s (ix1 4))

/-- The greatest magnitudes: of both gates' weights, of the second weight, of the activation, of both gradients. -/
def m13 : EReal := ⨆ j : Fin 2560 × Fin 2 × Fin N, ab (w13 (ix3 j.1 j.2.1 j.2.2))
def m2 : EReal := ⨆ j : Fin N × Fin 2560, ab (w2 (ix2 j.1 j.2))
def mh : EReal := ⨆ j : Fin 1920 × Fin N, ab (hAt i s x w13 j.1 j.2)
def mg : EReal := ⨆ j : Fin 2 × Fin 1920 × Fin N, ab (dgAt i s x dy w13 w2 j.1 j.2.1 j.2.2)

end

/-- The greatest entry of an array. -/
def top (v : Mat 8 128) : EReal := ⨆ j : Fin 8 × Fin 128, v (ix2 j.1 j.2)

/-- The new history: a first column of the six maxima, then the old history moved on by one. -/
def nhA (hist : Mat 6 16) (c : Fin 6 → EReal) : Mat 6 16 := fun j =>
  if h : (j 1).val = 0 then c (j 0) else hist (ix2 (j 0) ⟨(j 1).val - 1, by have h := idx2_lt1 j; omega⟩)

end Cert.Proof.Main

end
-- ==== Proof.MainCols.lean ====
/- The columns of the blocks: point `t` works on columns `256 t` to `256 t + 255`, and the 27 points together on all of them. -/
module

public import proofs.«01_k».proof.Proof.MainSpec

@[expose] public section

noncomputable section

namespace Cert.Proof.Main

open Idealize.ShloMosaic hiding ix1 ix2 ix3 ix4 eq_ix1 eq_ix2 eq_ix3 eq_ix4
open Idealize.ShloMosaic.ValueIdx Idealize.SL.Sem

/-- Column `f` of the block of point `t`. -/
def col (t : Fin 27) (f : Fin 256) : Fin 6912 := ⟨256 * t.val + f.val, by omega⟩

theorem all_cols (p : Fin 6912 → Prop) : (∀ (t : Fin 27) (f : Fin 256), p (col t f)) ↔ ∀ f, p f := by
  refine ⟨fun h f => ?_, fun h t f => h _⟩
  have e : col ⟨f.val / 256, by omega⟩ ⟨f.val % 256, Nat.mod_lt _ (by omega)⟩ = f := Fin.ext (Nat.div_add_mod f.val 256)
  exact e ▸ h _ _

/-- The columns of the weights that point `t` works on. -/
def sub13 (t : Fin 27) (w13 : Arr3 2560 2 6912) : Arr3 2560 2 256 := fun j => w13 (ix3 (j 0) (j 1) (col t (j 2)))
def sub2 (t : Fin 27) (w2 : Mat 6912 2560) : Mat 256 2560 := fun j => w2 (ix2 (col t (j 0)) (j 1))

section
variable (i s : Six) (x dy : Mat 1920 2560) (amx amdy : Mat 8 128) (w13 : Arr3 2560 2 6912) (w2 : Mat 6912 2560) (B : EReal)

/-- The six new maxima. -/
def maxima : Fin 6 → EReal := ![top amx, m13 w13, m2 w2, mh i s x w13, top amdy, mg i s x dy w13 w2]

theorem maxima_0 : maxima i s x dy amx amdy w13 w2 0 = top amx := rfl
theorem maxima_1 : maxima i s x dy amx amdy w13 w2 1 = m13 w13 := rfl
theorem maxima_2 : maxima i s x dy amx amdy w13 w2 2 = m2 w2 := rfl
theorem maxima_3 : maxima i s x dy amx amdy w13 w2 3 = mh i s x w13 := rfl
theorem maxima_4 : maxima i s x dy amx amdy w13 w2 4 = top amdy := rfl
theorem maxima_5 : maxima i s x dy amx amdy w13 w2 5 = mg i s x dy w13 w2 := rfl

theorem top_le (v : Mat 8 128) : top v ≤ B ↔ UB v B :=
  iSup_le_iff.trans ((Prod.forall (p := fun j : Fin 8 × Fin 128 => v (ix2 j.1 j.2) ≤ B)).trans (ub2 B v).symm)

theorem m13_le : m13 w13 ≤ B ↔ ∀ k γ f, ab (w13 (ix3 k γ f)) ≤ B :=
  iSup_le_iff.trans ⟨fun h k γ f => h (k, γ, f), fun h j => h _ _ _⟩
theorem m2_le : m2 w2 ≤ B ↔ ∀ f d, ab (w2 (ix2 f d)) ≤ B :=
  iSup_le_iff.trans ⟨fun h f d => h (f, d), fun h j => h _ _⟩
theorem mh_le : mh i s x w13 ≤ B ↔ ∀ r f, ab (hAt i s x w13 r f) ≤ B :=
  iSup_le_iff.trans ⟨fun h r f => h (r, f), fun h j => h _ _⟩
theorem mg_le : mg i s x dy w13 w2 ≤ B ↔ ∀ γ r f, ab (dgAt i s x dy w13 w2 γ r f) ≤ B :=
  iSup_le_iff.trans ⟨fun h γ r f => h (γ, r, f), fun h j => h _ _ _⟩

theorem m13_cols : m13 w13 ≤ B ↔ 0 ≤ B ∧ ∀ t : Fin 27, ∀ k γ f, ab (sub13 t w13 (ix3 k γ f)) ≤ B :=
  (m13_le w13 B).trans ⟨fun h => ⟨(ab_nonneg _).trans (h 0 0 0), fun t k γ f => h k γ _⟩,
    fun h k γ => (all_cols fun f => ab (w13 (ix3 k γ f)) ≤ B).1 fun t f => h.2 t k γ f⟩
theorem m2_cols : m2 w2 ≤ B ↔ 0 ≤ B ∧ ∀ t : Fin 27, ∀ f d, ab (sub2 t w2 (ix2 f d)) ≤ B :=
  (m2_le w2 B).trans ⟨fun h => ⟨(ab_nonneg _).trans (h 0 0), fun t f d => h _ d⟩,
    fun h f d => (all_cols fun f => ab (w2 (ix2 f d)) ≤ B).1 (fun t f => h.2 t f d) f⟩
theorem mh_cols : mh i s x w13 ≤ B ↔ 0 ≤ B ∧ ∀ t : Fin 27, ∀ r f, ab (hAt i s x (sub13 t w13) r f) ≤ B :=
  (mh_le i s x w13 B).trans ⟨fun h => ⟨(ab_nonneg _).trans (h 0 0), fun t r f => h r (col t f)⟩,
    fun h r => (all_cols fun f => ab (hAt i s x w13 r f) ≤ B).1 fun t f => h.2 t r f⟩
theorem mg_cols : mg i s x dy w13 w2 ≤ B ↔ 0 ≤ B ∧ ∀ t : Fin 27, ∀ r γ f, ab (dgAt i s x dy (sub13 t w13) (sub2 t w2) γ r f) ≤ B :=
  (mg_le i s x dy w13 w2 B).trans ⟨fun h => ⟨(ab_nonneg _).trans (h 0 0 0), fun t r γ f => h γ r (col t f)⟩,
    fun h γ r => (all_cols fun f => ab (dgAt i s x dy w13 w2 γ r f) ≤ B).1 fun t f => h.2 t r γ f⟩

end

/-- A bound that each point tightens by its own condition is, after point `n`, the conditions of the points up to `n`. -/
theorem running (S : (n : ℕ) → n < 27 → Prop) (z : Prop) (P : Fin 27 → Prop) (h0 : S 0 (by omega) ↔ z ∧ P 0)
    (hs : ∀ (n : ℕ) (h : n + 1 < 26), S (n + 1) (by omega) ↔ S n (by omega) ∧ P ⟨n + 1, by omega⟩) :
    ∀ (n : ℕ) (h : n < 26), S n (by omega) ↔ z ∧ ∀ t : Fin 27, t.val ≤ n → P t
  | 0, _ => h0.trans (and_congr_right fun _ => ⟨fun h t ht => (Fin.ext (by omega) : (0 : Fin 27) = t) ▸ h, fun h => h 0 (le_refl _)⟩)
  | n + 1, h => by
    refine (hs n h).trans ((and_congr_left fun _ => running S z P h0 hs n (by omega)).trans ?_)
    refine ⟨fun H => ⟨H.1.1, fun t ht => ?_⟩, fun H => ⟨⟨H.1, fun t ht => H.2 t (by omega)⟩, H.2 _ (le_refl _)⟩⟩
    rcases Nat.lt_or_ge n t.val with e | e
    · exact (Fin.ext (by show n + 1 = t.val; omega) : (⟨n + 1, by omega⟩ : Fin 27) = t) ▸ H.2
    · exact H.1.2 t e

/-- So with the last point's condition it is all of them. -/
theorem running_all (S : (n : ℕ) → n < 27 → Prop) (z : Prop) (P : Fin 27 → Prop) (h0 : S 0 (by omega) ↔ z ∧ P 0)
    (hs : ∀ (n : ℕ) (h : n + 1 < 26), S (n + 1) (by omega) ↔ S n (by omega) ∧ P ⟨n + 1, by omega⟩) :
    (S 25 (by omega) ∧ P 26) ↔ z ∧ ∀ t, P t := by
  refine (and_congr_left fun _ => running S z P h0 hs 25 (by omega)).trans ⟨fun H => ⟨H.1.1, fun t => ?_⟩, fun H => ⟨⟨H.1, fun t _ => H.2 t⟩, H.2 _⟩⟩
  rcases Nat.lt_or_ge 25 t.val with e | e
  · exact (Fin.ext (by show 26 = t.val; omega) : (26 : Fin 27) = t) ▸ H.2
  · exact H.1.2 t e

end Cert.Proof.Main

end
-- ==== Proof.MainKer.lean ====
/- What the gradient kernel's body computes from its blocks: the codes, and per chunk of 320 rows the activation, its
   gradients and their codes, are the mathematics of MainSpec read at the chunk's rows. -/
module

public import proofs.«01_k».proof.Proof.MainSpec
public import proofs.«01_k».proof.Proof.Gen.MainIdeal.Skeleton

@[expose] public section

noncomputable section

namespace Cert.Proof.Main.Ker

open Cert.MainIdeal Cert.MainIdeal.Gen
open Idealize.ShloMosaic hiding ix1 ix2 ix3 ix4 eq_ix1 eq_ix2 eq_ix3 eq_ix4
open Idealize.ShloMosaic.TcCoe Idealize.ShloMosaic.ValueIdx Idealize.SL.Sem

/-- The two 128-column blocks of the gates' weights side by side. -/
def pair (x8 x9 : Arr3 2560 2 128) : Arr3 2560 2 256 := fun j =>
  if h : (j 2).val < 128 then x8 (ix3 (j 0) (j 1) ⟨(j 2).val, h⟩)
  else x9 (ix3 (j 0) (j 1) ⟨(j 2).val - 128, by have h : (j 2).val < 256 := (j 2).isLt; omega⟩)

theorem pair_lo (x8 x9 : Arr3 2560 2 128) (k : Fin 2560) (γ : Fin 2) (f : Fin 256) (g : Fin 128) (h : f.val = g.val) :
    pair x8 x9 (ix3 k γ f) = x8 (ix3 k γ g) := by
  have hf : f.val < 128 := h ▸ g.isLt
  refine (dif_pos hf).trans (congrArg x8 ?_)
  rw [show (⟨f.val, hf⟩ : Fin 128) = g from Fin.ext h]
theorem pair_hi (x8 x9 : Arr3 2560 2 128) (k : Fin 2560) (γ : Fin 2) (f : Fin 256) (g : Fin 128) (h : f.val = 128 + g.val) :
    pair x8 x9 (ix3 k γ f) = x9 (ix3 k γ g) := by
  have hf : ¬ f.val < 128 := by omega
  refine (dif_neg hf).trans (congrArg x9 ?_)
  rw [show (⟨f.val - 128, by omega⟩ : Fin 128) = g from Fin.ext (by show f.val - 128 = g.val; omega)]

/-- The gate's plane of a block of weights. -/
theorem plane_at (γ : Fin 2) (x : Arr3 2560 2 128) (h h') (k : Fin 2560) (f : Fin 128) :
    shapeCast S2560x128 (rowsOfParity γ S2560x1x128 (s := S2560x2x128) x h) h' (ix2 k f) = x (ix3 k γ f) := by
  refine (dropMid _ _ k f).trans (congrArg x (funext fun a => Fin.ext ?_))
  match a with
  | ⟨0, _⟩ => rfl
  | ⟨1, _⟩ => show 2 * 0 + γ.val = γ.val; omega
  | ⟨2, _⟩ => rfl

theorem pay13_at (x : Arr3 2560 2 128) (k : Fin 2560) (f : Fin 128) : k0_pay13 (F := Ideal) x (ix2 k f) = x (ix3 k 0 f) :=
  plane_at 0 x bitcasts_S2560x2x128_w16_S2560x1x128_w32 shapeCasts_S2560x1x128_S2560x128 k f
theorem pay14_at (x : Arr3 2560 2 128) (k : Fin 2560) (f : Fin 128) : k0_pay14 (F := Ideal) x (ix2 k f) = x (ix3 k 1 f) :=
  plane_at 1 x bitcasts_S2560x2x128_w16_S2560x1x128_w32 shapeCasts_S2560x1x128_S2560x128 k f
theorem pay18_at (x : Arr3 2560 2 128) (k : Fin 2560) (f : Fin 128) : k0_pay18 (F := Ideal) x (ix2 k f) = x (ix3 k 0 f) :=
  plane_at 0 x bitcasts_S2560x2x128_w16_S2560x1x128_w32 shapeCasts_S2560x1x128_S2560x128 k f
theorem pay19_at (x : Arr3 2560 2 128) (k : Fin 2560) (f : Fin 128) : k0_pay19 (F := Ideal) x (ix2 k f) = x (ix3 k 1 f) :=
  plane_at 1 x bitcasts_S2560x2x128_w16_S2560x1x128_w32 shapeCasts_S2560x1x128_S2560x128 k f

/-- The codes of a plane. -/
theorem pay15_at (x : Arr3 2560 2 128) (v : EReal) (z : Fin 1) (k : Fin 2560) (f : Fin 128) :
    k0_pay15 (F := Ideal) x v (ix3 z k f) = q (x (ix3 k 0 f)) v := by
  unfold k0_pay15
  refine (add3 (α := EReal) _ _ z k f).trans ?_
  exact congrArg (q · v) (plane_at 0 x bitcasts_S2560x2x128_w16_S2560x1x128_w32 shapeCasts_S2560x1x128_S2560x128 k f)
theorem pay16_at (x : Arr3 2560 2 128) (v : EReal) (z : Fin 1) (k : Fin 2560) (f : Fin 128) :
    k0_pay16 (F := Ideal) x v (ix3 z k f) = q (x (ix3 k 1 f)) v := by
  unfold k0_pay16
  refine (add3 (α := EReal) _ _ z k f).trans ?_
  exact congrArg (q · v) (plane_at 1 x bitcasts_S2560x2x128_w16_S2560x1x128_w32 shapeCasts_S2560x1x128_S2560x128 k f)
theorem pay20_at (x : Arr3 2560 2 128) (v : EReal) (z : Fin 1) (k : Fin 2560) (f : Fin 128) :
    k0_pay20 (F := Ideal) x v (ix3 z k f) = q (x (ix3 k 0 f)) v := by
  unfold k0_pay20
  refine (add3 (α := EReal) _ _ z k f).trans ?_
  exact congrArg (q · v) (plane_at 0 x bitcasts_S2560x2x128_w16_S2560x1x128_w32 shapeCasts_S2560x1x128_S2560x128 k f)
theorem pay21_at (x : Arr3 2560 2 128) (v : EReal) (z : Fin 1) (k : Fin 2560) (f : Fin 128) :
    k0_pay21 (F := Ideal) x v (ix3 z k f) = q (x (ix3 k 1 f)) v := by
  unfold k0_pay21
  refine (add3 (α := EReal) _ _ z k f).trans ?_
  exact congrArg (q · v) (plane_at 1 x bitcasts_S2560x2x128_w16_S2560x1x128_w32 shapeCasts_S2560x1x128_S2560x128 k f)

variable (i s : Six) (x dy : Mat 1920 2560) (xt : Mat 2560 1920) (w13 : Arr3 2560 2 256) (w2 : Mat 256 2560)

theorem w2c_eq : k0_pay24 (F := Ideal) w2 (i (ix1 2)) = w2cA i w2 := by
  funext j
  obtain ⟨f, k, rfl⟩ : ∃ (f : Fin 256) (k : Fin 2560), j = ix2 f k := ⟨j 0, j 1, eq_ix2 j⟩
  rfl

/-- One gate's plane of codes, with a unit axis in front. -/
def plane (γ : Fin 2) : Arr3 1 2560 256 := fun j => gq i w13 γ (j 2) (j 1)

section
variable (X Y : Mat 320 2560) (r : Fin 320) (R : Fin 1920) (hX : ∀ k, X (ix2 r k) = x (ix2 R k)) (hY : ∀ k, Y (ix2 r k) = dy (ix2 R k))

/-- The printed arrays of a chunk, from its rows and the three arrays of codes. -/
abbrev A := k0_pay86 (F := Ideal) (k0_pay29 (s (ix1 0)) (s (ix1 1))) X (plane i w13 0)
abbrev B := k0_pay87 (F := Ideal) (k0_pay29 (s (ix1 0)) (s (ix1 1))) X (plane i w13 1)
abbrev DH := k0_pay88 (F := Ideal) (k0_pay30 (s (ix1 4)) (s (ix1 2))) Y (w2cA i w2)
abbrev SG := k0_pay89 (F := Ideal) (k0_pay29 (s (ix1 0)) (s (ix1 1))) X (plane i w13 0)
abbrev H := k0_pay90 (F := Ideal) (k0_pay29 (s (ix1 0)) (s (ix1 1))) X (plane i w13 0) X (plane i w13 1)
abbrev DA := k0_pay91 (F := Ideal) (k0_pay29 (s (ix1 0)) (s (ix1 1))) (k0_pay30 (s (ix1 4)) (s (ix1 2))) X (plane i w13 0) X (plane i w13 1) Y (w2cA i w2)
abbrev DB := k0_pay92 (F := Ideal) (A i s w13 X) (DH i s w2 Y) (SG i s w13 X)

include hX in
theorem a_at (f : Fin 256) : A i s w13 X (ix2 r f) = aAt i s x w13 R f :=
  congrArg (· * (s (ix1 0) * s (ix1 1))) ((plain0 (φ₁ := .fp8e4m3) (φ₂ := .fp8e4m3) none _ _ r f).trans (Finset.sum_congr rfl fun k _ =>
    congrArg₂ (· * ·) (hX k) (drop3 _ _ k f)))
include hX in
theorem b_at (f : Fin 256) : B i s w13 X (ix2 r f) = bAt i s x w13 R f :=
  congrArg (· * (s (ix1 0) * s (ix1 1))) ((plain0 (φ₁ := .fp8e4m3) (φ₂ := .fp8e4m3) none _ _ r f).trans (Finset.sum_congr rfl fun k _ =>
    congrArg₂ (· * ·) (hX k) (drop3 _ _ k f)))
include hY in
theorem dh_at (f : Fin 256) : DH i s w2 Y (ix2 r f) = dhAt i s dy w2 R f :=
  congrArg (· * (s (ix1 4) * s (ix1 2))) ((trans0 (φ₁ := .fp8e4m3) (φ₂ := .fp8e4m3) none _ _ r f).trans (Finset.sum_congr rfl fun k _ =>
    congrArg₂ (· * ·) (hY k) (congrFun (shapeCast_self (s := S256x2560) (w2cA i w2) _) (ix2 f k))))

include hX in
theorem h_at (f : Fin 256) : H i s w13 X (ix2 r f) = hAt i s x w13 R f :=
  congrArg₂ hF (a_at i s x w13 X r R hX f) (b_at i s x w13 X r R hX f)
include hX hY in
theorem da_at (f : Fin 256) : DA i s w13 w2 X Y (ix2 r f) = dgAt i s x dy w13 w2 0 R f :=
  (congrFun (congrArg₂ daF (a_at i s x w13 X r R hX f) (b_at i s x w13 X r R hX f)) _).trans (congrArg (daF _ _) (dh_at i s dy w2 Y r R hY f))
include hX hY in
theorem db_at (f : Fin 256) : DB i s w13 w2 X Y (ix2 r f) = dgAt i s x dy w13 w2 1 R f :=
  congrArg₂ dbF (a_at i s x w13 X r R hX f) (dh_at i s dy w2 Y r R hY f)

include hX in
theorem hq_at (f : Fin 256) : k0_pay93 (F := Ideal) (H i s w13 X) (i (ix1 3)) (ix2 r f) = q (hAt i s x w13 R f) (i (ix1 3)) :=
  congrArg (q · (i (ix1 3))) (h_at i s x w13 X r R hX f)
include hX hY in
theorem daq_at (z y : Fin 1) (f : Fin 256) :
    k0_pay94 (F := Ideal) (DA i s w13 w2 X Y) (i (ix1 5)) (ix4 z y r f) = q (dgAt i s x dy w13 w2 0 R f) (i (ix1 5)) := by
  unfold k0_pay94
  refine (add4 (α := EReal) _ _ z y r f).trans ?_
  exact congrArg (q · (i (ix1 5))) (da_at i s x dy w13 w2 X Y r R hX hY f)
include hX hY in
theorem dbq_at (z y : Fin 1) (f : Fin 256) :
    k0_pay95 (F := Ideal) (A i s w13 X) (DH i s w2 Y) (SG i s w13 X) (i (ix1 5)) (ix4 z y r f) = q (dgAt i s x dy w13 w2 1 R f) (i (ix1 5)) := by
  unfold k0_pay95
  refine (add4 (α := EReal) _ _ z y r f).trans ?_
  exact congrArg (q · (i (ix1 5))) (db_at i s x dy w13 w2 X Y r R hX hY f)

end

/-- The block's second weight gradient. -/
theorem dw2_eq : k0_pay115 (F := Ideal) (s (ix1 3)) (s (ix1 4)) (hcA i s x w13) dy = dw2A i s x dy w13 := by
  funext j
  obtain ⟨f, d, rfl⟩ : ∃ (f : Fin 256) (d : Fin 2560), j = ix2 f d := ⟨j 0, j 1, eq_ix2 j⟩
  refine congrArg (· * (s (ix1 3) * s (ix1 4))) ((tn0 (φ₁ := .fp8e4m3) (φ₂ := .fp8e4m3) none _ _ f d).trans (Finset.sum_congr rfl fun t _ => ?_))
  exact congrArg (· * dy (ix2 t d)) (congrFun (shapeCast_self (s := S1920x256) (hcA i s x w13) _) (ix2 t f))

/-- Member `p` of gate `γ`'s codes, with two unit axes in front. -/
def part (p : Fin 3) (γ : Fin 2) : Arr4 1 1 640 256 := fun j => dgcA i s x dy w13 w2 (ix4 p γ (j 2) (j 3))

/-- The three members' rows one after another. -/
theorem rows_at (γ : Fin 2) (t : Fin 1920) (f : Fin 256) (h0 h1 h2 hc) :
    concatenate S1920x256 0 [⟨S640x256, shapeCast S640x256 (part i s x dy w13 w2 0 γ) h0⟩, ⟨S640x256, shapeCast S640x256 (part i s x dy w13 w2 1 γ) h1⟩,
      ⟨S640x256, shapeCast S640x256 (part i s x dy w13 w2 2 γ) h2⟩] hc (ix2 t f) = q (dgAt i s x dy w13 w2 γ t f) (i (ix1 5)) := by
  have e : ∀ (p : Fin 3) (u : Fin 640) (h), flat p u = t →
      shapeCast S640x256 (part i s x dy w13 w2 p γ) h (ix2 u f) = q (dgAt i s x dy w13 w2 γ t f) (i (ix1 5)) := fun p u h hp => by
    refine (drop4 _ _ u f).trans ?_
    show q (dgAt i s x dy w13 w2 γ (flat p u) f) (i (ix1 5)) = _
    rw [hp]
  have side : ∀ b : Fin (⟨2, ![640, 256]⟩ : Shape).rank, ∀ u : Fin 640, b.cast (rfl : (2 : ℕ) = 2) ≠ (0 : Fin 2) →
      ((ix2 u f : (⟨2, ![640, 256]⟩ : Shape).Idx) b).val = ((ix2 t f : (⟨2, ![1920, 256]⟩ : Shape).Idx) (b.cast rfl)).val := fun b u hb => by
    fin_cases b
    · exact (hb rfl).elim
    · rfl
  rcases Nat.lt_or_ge t.val 640 with h | h
  · have hu : t.val < 640 := h
    refine (concatenate_apply_piece (t := S1920x256) (0 : Fin 2) _ hc (ix2 t f) 0 (by show _ < 3; omega) S640x256 _ rfl rfl 0 rfl (ix2 ⟨t.val, hu⟩ f)
      (fun b hb => side b _ hb) (Nat.zero_add _)).trans (e 0 _ _ (Fin.ext ?_))
    show 640 * 0 + t.val = t.val
    omega
  rcases Nat.lt_or_ge t.val 1280 with h' | h'
  · have hu : t.val - 640 < 640 := by omega
    refine (concatenate_apply_piece (t := S1920x256) (0 : Fin 2) _ hc (ix2 t f) 1 (by show _ < 3; omega) S640x256 _ rfl rfl 640 rfl (ix2 ⟨t.val - 640, hu⟩ f)
      (fun b hb => side b _ hb) (by show 640 + (t.val - 640) = t.val; omega)).trans (e 1 _ _ (Fin.ext ?_))
    show 640 * 1 + (t.val - 640) = t.val
    omega
  · have hu : t.val - 1280 < 640 := by have := t.isLt; omega
    refine (concatenate_apply_piece (t := S1920x256) (0 : Fin 2) _ hc (ix2 t f) 2 (by show _ < 3; omega) S640x256 _ rfl rfl 1280 rfl (ix2 ⟨t.val - 1280, hu⟩ f)
      (fun b hb => side b _ hb) (by show 1280 + (t.val - 1280) = t.val; omega)).trans (e 2 _ _ (Fin.ext ?_))
    show 640 * 2 + (t.val - 1280) = t.val
    omega

theorem dw13_lo (d : Fin 2560) (z : Fin 1) (f : Fin 256) :
    k0_pay116 (F := Ideal) (k0_pay114 (s (ix1 0)) (s (ix1 5))) (part i s x dy w13 w2 0 0) (part i s x dy w13 w2 1 0) (part i s x dy w13 w2 2 0) xt (ix3 d z f)
      = dw13A i s x xt dy w13 w2 (ix3 d 0 f) := by
  unfold k0_pay116
  refine (addMid _ _ d z f).trans ?_
  exact congrArg (· * (s (ix1 0) * s (ix1 5))) ((plain0 (φ₁ := .fp8e4m3) (φ₂ := .fp8e4m3) none _ _ d f).trans
    (Finset.sum_congr rfl fun t _ => congrArg (xt (ix2 d t) * ·) (rows_at i s x dy w13 w2 0 t f _ _ _ _)))
theorem dw13_hi (d : Fin 2560) (z : Fin 1) (f : Fin 256) :
    k0_pay1 (F := Ideal) (k0_pay114 (s (ix1 0)) (s (ix1 5))) (k0_pay117 (part i s x dy w13 w2 0 1) (part i s x dy w13 w2 1 1) (part i s x dy w13 w2 2 1) xt) (ix3 d z f)
      = dw13A i s x xt dy w13 w2 (ix3 d 1 f) := by
  unfold k0_pay1
  refine (addMid _ _ d z f).trans ?_
  exact congrArg (· * (s (ix1 0) * s (ix1 5))) ((plain0 (φ₁ := .fp8e4m3) (φ₂ := .fp8e4m3) none _ _ d f).trans
    (Finset.sum_congr rfl fun t _ => congrArg (xt (ix2 d t) * ·) (rows_at i s x dy w13 w2 1 t f _ _ _ _)))

end Cert.Proof.Main.Ker

end
-- ==== Proof.MainPieces.lean ====
/- The stores of one grid point: each stored rectangle holds the block's array of the mathematics at its place, and a load
   of a stored plane or member reads that plane or member. -/
module

public import proofs.«01_k».proof.Proof.MainKer
public import Idealize.ShloMosaic.Lib.Pipeline.FrameBody

@[expose] public section

noncomputable section

namespace Cert.Proof.Main.Ker

open Cert.MainIdeal Cert.MainIdeal.Gen
open Idealize.ShloMosaic hiding ix1 ix2 ix3 ix4 eq_ix1 eq_ix2 eq_ix3 eq_ix4
open Idealize.ShloMosaic.TcCoe Idealize.ShloMosaic.ValueIdx Idealize.SL.Sem

section
variable (i : Six) (x8 x9 : Arr3 2560 2 128) (inb)

theorem piece15 (x : S1x2560x128.Idx) : k0_pay15 (F := Ideal) x8 (i (ix1 1)) x
    = w13cA i (pair x8 x9) ((Rect.unit (s := S2x2560x256) ![0, 0, 0] S1x2560x128.size inb).emb x) := by
  obtain ⟨z, k, f, rfl⟩ : ∃ (z : Fin 1) (k : Fin 2560) (f : Fin 128), x = ix3 z k f := ⟨x 0, x 1, x 2, eq_ix3 x⟩
  rw [emb3 0 0 0 inb (ix3 z k f) 0 k ⟨f.val, by omega⟩ (by show 0 = 0 + z.val; omega) (by show k.val = 0 + k.val; omega) (by show f.val = 0 + f.val; omega)]
  exact (pay15_at x8 _ z k f).trans (congrArg (q · (i (ix1 1))) (pair_lo x8 x9 k 0 _ f rfl).symm)
theorem piece16 (x : S1x2560x128.Idx) : k0_pay16 (F := Ideal) x8 (i (ix1 1)) x
    = w13cA i (pair x8 x9) ((Rect.unit (s := S2x2560x256) ![1, 0, 0] S1x2560x128.size inb).emb x) := by
  obtain ⟨z, k, f, rfl⟩ : ∃ (z : Fin 1) (k : Fin 2560) (f : Fin 128), x = ix3 z k f := ⟨x 0, x 1, x 2, eq_ix3 x⟩
  rw [emb3 1 0 0 inb (ix3 z k f) 1 k ⟨f.val, by omega⟩ (by show 1 = 1 + z.val; omega) (by show k.val = 0 + k.val; omega) (by show f.val = 0 + f.val; omega)]
  exact (pay16_at x8 _ z k f).trans (congrArg (q · (i (ix1 1))) (pair_lo x8 x9 k 1 _ f rfl).symm)
theorem piece20 (x : S1x2560x128.Idx) : k0_pay20 (F := Ideal) x9 (i (ix1 1)) x
    = w13cA i (pair x8 x9) ((Rect.unit (s := S2x2560x256) ![0, 0, 128] S1x2560x128.size inb).emb x) := by
  obtain ⟨z, k, f, rfl⟩ : ∃ (z : Fin 1) (k : Fin 2560) (f : Fin 128), x = ix3 z k f := ⟨x 0, x 1, x 2, eq_ix3 x⟩
  rw [emb3 0 0 128 inb (ix3 z k f) 0 k ⟨128 + f.val, by omega⟩ (by show 0 = 0 + z.val; omega) (by show k.val = 0 + k.val; omega) rfl]
  exact (pay20_at x9 _ z k f).trans (congrArg (q · (i (ix1 1))) (pair_hi x8 x9 k 0 _ f rfl).symm)
theorem piece21 (x : S1x2560x128.Idx) : k0_pay21 (F := Ideal) x9 (i (ix1 1)) x
    = w13cA i (pair x8 x9) ((Rect.unit (s := S2x2560x256) ![1, 0, 128] S1x2560x128.size inb).emb x) := by
  obtain ⟨z, k, f, rfl⟩ : ∃ (z : Fin 1) (k : Fin 2560) (f : Fin 128), x = ix3 z k f := ⟨x 0, x 1, x 2, eq_ix3 x⟩
  rw [emb3 1 0 128 inb (ix3 z k f) 1 k ⟨128 + f.val, by omega⟩ (by show 1 = 1 + z.val; omega) (by show k.val = 0 + k.val; omega) rfl]
  exact (pay21_at x9 _ z k f).trans (congrArg (q · (i (ix1 1))) (pair_hi x8 x9 k 1 _ f rfl).symm)

end

section
variable (i s : Six) (x dy : Mat 1920 2560) (w13 : Arr3 2560 2 256) (w2 : Mat 256 2560)

/-- Reading a gate's plane back. -/
theorem plane0_read (inb) (j : S1x2560x256.Idx) :
    w13cA i w13 ((Rect.unit (s := S2x2560x256) ![0, 0, 0] S1x2560x256.size inb).emb j) = plane i w13 0 j := by
  obtain ⟨z, k, f, rfl⟩ : ∃ (z : Fin 1) (k : Fin 2560) (f : Fin 256), j = ix3 z k f := ⟨j 0, j 1, j 2, eq_ix3 j⟩
  rw [emb3 0 0 0 inb (ix3 z k f) 0 k f (by show 0 = 0 + z.val; omega) (by show k.val = 0 + k.val; omega) (by show f.val = 0 + f.val; omega)]
  rfl
theorem plane1_read (inb) (j : S1x2560x256.Idx) :
    w13cA i w13 ((Rect.unit (s := S2x2560x256) ![1, 0, 0] S1x2560x256.size inb).emb j) = plane i w13 1 j := by
  obtain ⟨z, k, f, rfl⟩ : ∃ (z : Fin 1) (k : Fin 2560) (f : Fin 256), j = ix3 z k f := ⟨j 0, j 1, j 2, eq_ix3 j⟩
  rw [emb3 1 0 0 inb (ix3 z k f) 1 k f (by show 1 = 1 + z.val; omega) (by show k.val = 0 + k.val; omega) (by show f.val = 0 + f.val; omega)]
  rfl

/-- The rows of a chunk. -/
theorem chunk_at (o : ℕ) (inb) (r : Fin 320) (R : Fin 1920) (h : R.val = o + r.val) (k : Fin 2560) :
    View.ld (Val := Elt Ideal) (e' := .fp8e4m3) x (Rect.unit (s := S1920x2560) ![o, 0] S320x2560.size inb) (ix2 r k) = x (ix2 R k) :=
  at2 (Val := Elt Ideal) (e := .fp8e4m3) x o 0 inb r k R k h (Nat.zero_add _).symm

/-- The stored codes of a chunk's activation. -/
theorem pieceH (o : ℕ) (ho : o + 320 ≤ 1920) (inb inb') (j : S320x256.Idx) :
    k0_pay93 (F := Ideal) (H i s w13 (View.ld (Val := Elt Ideal) (e' := .fp8e4m3) x (Rect.unit (s := S1920x2560) ![o, 0] S320x2560.size inb))) (i (ix1 3)) j
      = hcA i s x w13 ((Rect.unit (s := S1920x256) ![o, 0] S320x256.size inb').emb j) := by
  obtain ⟨r, f, rfl⟩ : ∃ (r : Fin 320) (f : Fin 256), j = ix2 r f := ⟨j 0, j 1, eq_ix2 j⟩
  have hR : o + r.val < 1920 := by have := r.isLt; omega
  rw [Cert.Proof.emb2 o 0 inb' (ix2 r f) ⟨o + r.val, hR⟩ f rfl (Nat.zero_add _).symm]
  exact hq_at i s x w13 _ r ⟨o + r.val, hR⟩ (chunk_at x o inb r _ rfl) f

/-- The stored codes of a chunk's two gradients. -/
theorem pieceA (o : ℕ) (p : Fin 3) (b ro : ℕ) (hb : b = p.val) (hr : ro + 320 ≤ 640) (ho : o = 640 * b + ro) (inb inb' inb'') (j : S1x1x320x256.Idx) :
    k0_pay94 (F := Ideal) (DA i s w13 w2 (View.ld (Val := Elt Ideal) (e' := .fp8e4m3) x (Rect.unit (s := S1920x2560) ![o, 0] S320x2560.size inb))
        (View.ld (Val := Elt Ideal) (e' := .fp8e4m3) dy (Rect.unit (s := S1920x2560) ![o, 0] S320x2560.size inb''))) (i (ix1 5)) j
      = dgcA i s x dy w13 w2 ((Rect.unit (s := S3x2x640x256) ![b, 0, ro, 0] S1x1x320x256.size inb').emb j) := by
  obtain ⟨z, y, r, f, rfl⟩ : ∃ (z y : Fin 1) (r : Fin 320) (f : Fin 256), j = ix4 z y r f := ⟨j 0, j 1, j 2, j 3, eq_ix4 j⟩
  have hR : ro + r.val < 640 := by have := r.isLt; omega
  rw [emb4 b 0 ro 0 inb' (ix4 z y r f) p 0 ⟨ro + r.val, hR⟩ f (by show p.val = b + z.val; omega) (by show 0 = 0 + y.val; omega) rfl (Nat.zero_add _).symm]
  have e : (flat p ⟨ro + r.val, hR⟩).val = o + r.val := by show 640 * p.val + (ro + r.val) = o + r.val; omega
  exact daq_at i s x dy w13 w2 _ _ r (flat p ⟨ro + r.val, hR⟩) (chunk_at x o inb r _ e) (chunk_at dy o inb'' r _ e) z y f
theorem pieceB (o : ℕ) (p : Fin 3) (b ro : ℕ) (hb : b = p.val) (hr : ro + 320 ≤ 640) (ho : o = 640 * b + ro) (inb inb' inb'') (j : S1x1x320x256.Idx) :
    k0_pay95 (F := Ideal) (A i s w13 (View.ld (Val := Elt Ideal) (e' := .fp8e4m3) x (Rect.unit (s := S1920x2560) ![o, 0] S320x2560.size inb)))
        (DH i s w2 (View.ld (Val := Elt Ideal) (e' := .fp8e4m3) dy (Rect.unit (s := S1920x2560) ![o, 0] S320x2560.size inb'')))
        (SG i s w13 (View.ld (Val := Elt Ideal) (e' := .fp8e4m3) x (Rect.unit (s := S1920x2560) ![o, 0] S320x2560.size inb))) (i (ix1 5)) j
      = dgcA i s x dy w13 w2 ((Rect.unit (s := S3x2x640x256) ![b, 1, ro, 0] S1x1x320x256.size inb').emb j) := by
  obtain ⟨z, y, r, f, rfl⟩ : ∃ (z y : Fin 1) (r : Fin 320) (f : Fin 256), j = ix4 z y r f := ⟨j 0, j 1, j 2, j 3, eq_ix4 j⟩
  have hR : ro + r.val < 640 := by have := r.isLt; omega
  rw [emb4 b 1 ro 0 inb' (ix4 z y r f) p 1 ⟨ro + r.val, hR⟩ f (by show p.val = b + z.val; omega) (by show 1 = 1 + y.val; omega) rfl (Nat.zero_add _).symm]
  have e : (flat p ⟨ro + r.val, hR⟩).val = o + r.val := by show 640 * p.val + (ro + r.val) = o + r.val; omega
  exact dbq_at i s x dy w13 w2 _ _ r (flat p ⟨ro + r.val, hR⟩) (chunk_at x o inb r _ e) (chunk_at dy o inb'' r _ e) z y f

/-- Reading a member of a gate's codes back. -/
theorem part_read (b g : ℕ) (p : Fin 3) (γ : Fin 2) (hb : p.val = b) (hg : γ.val = g) (inb) (j : S1x1x640x256.Idx) :
    dgcA i s x dy w13 w2 ((Rect.unit (s := S3x2x640x256) ![b, g, 0, 0] S1x1x640x256.size inb).emb j) = part i s x dy w13 w2 p γ j := by
  obtain ⟨z, y, r, f, rfl⟩ : ∃ (z y : Fin 1) (r : Fin 640) (f : Fin 256), j = ix4 z y r f := ⟨j 0, j 1, j 2, j 3, eq_ix4 j⟩
  rw [emb4 b g 0 0 inb (ix4 z y r f) p γ r f (by show p.val = b + z.val; omega) (by show γ.val = g + y.val; omega) (Nat.zero_add _).symm (Nat.zero_add _).symm]
  rfl

variable (xt : Mat 2560 1920)

/-- The stored halves of the gates' weight gradient. -/
theorem pieceLo (inb) (j : S2560x1x256.Idx) :
    k0_pay116 (F := Ideal) (k0_pay114 (s (ix1 0)) (s (ix1 5))) (part i s x dy w13 w2 0 0) (part i s x dy w13 w2 1 0) (part i s x dy w13 w2 2 0) xt j
      = dw13A i s x xt dy w13 w2 ((Rect.unit (s := S2560x2x256) ![0, 0, 0] S2560x1x256.size inb).emb j) := by
  obtain ⟨d, z, f, rfl⟩ : ∃ (d : Fin 2560) (z : Fin 1) (f : Fin 256), j = ix3 d z f := ⟨j 0, j 1, j 2, eq_ix3 j⟩
  rw [emb3 0 0 0 inb (ix3 d z f) d 0 f (Nat.zero_add _).symm (by show 0 = 0 + z.val; omega) (Nat.zero_add _).symm]
  exact dw13_lo i s x dy xt w13 w2 d z f
theorem pieceHi (inb) (j : S2560x1x256.Idx) :
    k0_pay1 (F := Ideal) (k0_pay114 (s (ix1 0)) (s (ix1 5))) (k0_pay117 (part i s x dy w13 w2 0 1) (part i s x dy w13 w2 1 1) (part i s x dy w13 w2 2 1) xt) j
      = dw13A i s x xt dy w13 w2 ((Rect.unit (s := S2560x2x256) ![0, 1, 0] S2560x1x256.size inb).emb j) := by
  obtain ⟨d, z, f, rfl⟩ : ∃ (d : Fin 2560) (z : Fin 1) (f : Fin 256), j = ix3 d z f := ⟨j 0, j 1, j 2, eq_ix3 j⟩
  rw [emb3 0 1 0 inb (ix3 d z f) d 1 f (Nat.zero_add _).symm (by show 1 = 1 + z.val; omega) (Nat.zero_add _).symm]
  exact dw13_hi i s x dy xt w13 w2 d z f

end

/-- A whole load's index is the index. -/
theorem whole2 {a b : ℕ} (inb) (j : (⟨2, ![a, b]⟩ : Shape).Idx) : (Rect.unit (s := ⟨2, ![a, b]⟩) ![0, 0] ![a, b] inb).emb j = j :=
  (Cert.Proof.emb2 0 0 inb j (j 0) (j 1) (Nat.zero_add _).symm (Nat.zero_add _).symm).trans (eq_ix2 j).symm

end Cert.Proof.Main.Ker

end
-- ==== Proof.MainMax.lean ====
/- The greatest magnitudes a grid point folds into its running maxima, read by their upper bounds: a folded maximum is at most
   a bound exactly when the running one and every magnitude of the block are. Also the six words of the new history. -/
module

public import proofs.«01_k».proof.Proof.MainPieces

@[expose] public section

set_option maxRecDepth 16384

noncomputable section

namespace Cert.Proof.Main.Ker

open Cert.MainIdeal Cert.MainIdeal.Gen
open Idealize.ShloMosaic hiding ix1 ix2 ix3 ix4 eq_ix1 eq_ix2 eq_ix3 eq_ix4
open Idealize.ShloMosaic.TcCoe Idealize.ShloMosaic.ValueIdx Idealize.SL.Sem

variable (B : EReal)

/-- Bounds of the folds over the leading rows and over a whole slab. -/
theorem red320 (x : S320x8x128.Idx → EReal) : UB (multiReduction (F := Ideal) (φ := .f32) .maximumf [0] S8x128 x 0xFF800000#32 reduces_S320x8x128_S8x128 (.inl rfl) rfl) B ↔ UB x B :=
  ub_red B x _ _ _
theorem red40 (x : S40x8x256.Idx → EReal) : UB (multiReduction (F := Ideal) (φ := .f32) .maximumf [0] S8x256 x 0xFF800000#32 reduces_S40x8x256_S8x256 (.inl rfl) rfl) B ↔ UB x B :=
  ub_red B x _ _ _
theorem red32 (x : S32x8x2560.Idx → EReal) : UB (multiReduction (F := Ideal) (φ := .f32) .maximumf [0] S8x2560 x 0xFF800000#32 reduces_S32x8x2560_S8x2560 (.inl rfl) rfl) B ↔ UB x B :=
  ub_red B x _ _ _
theorem red1 (x : S1x8x128.Idx → EReal) : UB (multiReduction (F := Ideal) (φ := .f32) .maximumf [1, 2] S1 x 0xFF800000#32 reduces_S1x8x128_S1 (.inl rfl) rfl) B ↔ UB x B :=
  ub_red B x _ _ _

theorem mag320 (g : Mat 2560 128) : UB (multiReduction (F := Ideal) (φ := .f32) .maximumf [0] S8x128 (shapeCast S320x8x128 (absf (F := Ideal) (φ := .f32) g) shapeCasts_S2560x128_S320x8x128)
    0xFF800000#32 reduces_S320x8x128_S8x128 (.inl rfl) rfl) B ↔ ∀ i, ab (g i) ≤ B := (red320 B _).trans (ub_cast B _ _)
theorem mag40 (g : Mat 320 256) : UB (multiReduction (F := Ideal) (φ := .f32) .maximumf [0] S8x256 (shapeCast S40x8x256 (absf (F := Ideal) (φ := .f32) g) shapeCasts_S320x256_S40x8x256)
    0xFF800000#32 reduces_S40x8x256_S8x256 (.inl rfl) rfl) B ↔ UB (absf (F := Ideal) (φ := .f32) g) B := (red40 B _).trans (ub_cast B _ _)

theorem ub_pay17 (acc : Mat 8 128) (g p : Mat 2560 128) : UB (k0_pay17 (F := Ideal) acc g p) B ↔
    UB acc B ∧ (∀ i, ab (g i) ≤ B) ∧ ∀ i, ab (p i) ≤ B := by
  unfold k0_pay17
  exact (ub_max B _ _).trans (and_congr Iff.rfl ((ub_max B _ _).trans (and_congr (mag320 B g) (mag320 B p))))
theorem ub_pay22 (acc : Mat 8 128) (g p : Mat 2560 128) : UB (k0_pay22 (F := Ideal) acc g p) B ↔
    UB acc B ∧ (∀ i, ab (g i) ≤ B) ∧ ∀ i, ab (p i) ≤ B := by
  unfold k0_pay22
  exact (ub_cast B _ _).trans ((ub_max B _ _).trans (and_congr Iff.rfl ((ub_max B _ _).trans (and_congr (mag320 B g) (mag320 B p)))))

/-- The gates' weights of a block. -/
theorem fold13 (acc : Mat 8 128) (x8 x9 : Arr3 2560 2 128) :
    UB (k0_pay22 (F := Ideal) (k0_pay17 acc (k0_pay13 x8) (k0_pay14 x8)) (k0_pay18 x9) (k0_pay19 x9)) B ↔
      UB acc B ∧ ∀ k γ f, ab (pair x8 x9 (ix3 k γ f)) ≤ B := by
  rw [ub_pay22, ub_pay17]
  refine ⟨fun ⟨⟨ha, h0, h1⟩, h2, h3⟩ => ⟨ha, fun k γ f => ?_⟩, fun ⟨ha, h⟩ => ⟨⟨ha, fun j => ?_, fun j => ?_⟩, fun j => ?_, fun j => ?_⟩⟩
  · by_cases c : f.val < 128
    · rw [pair_lo x8 x9 k γ f ⟨f.val, c⟩ rfl]
      match γ with
      | 0 => exact (congrArg ab (pay13_at x8 k ⟨f.val, c⟩)).symm.trans_le (h0 (ix2 k ⟨f.val, c⟩))
      | 1 => exact (congrArg ab (pay14_at x8 k ⟨f.val, c⟩)).symm.trans_le (h1 (ix2 k ⟨f.val, c⟩))
    · have hf : f.val - 128 < 128 := by have := f.isLt; omega
      rw [pair_hi x8 x9 k γ f ⟨f.val - 128, hf⟩ (by show f.val = 128 + (f.val - 128); omega)]
      match γ with
      | 0 => exact (congrArg ab (pay18_at x9 k ⟨f.val - 128, hf⟩)).symm.trans_le (h2 (ix2 k ⟨f.val - 128, hf⟩))
      | 1 => exact (congrArg ab (pay19_at x9 k ⟨f.val - 128, hf⟩)).symm.trans_le (h3 (ix2 k ⟨f.val - 128, hf⟩))
  all_goals obtain ⟨k, f, rfl⟩ : ∃ (k : Fin 2560) (f : Fin 128), j = ix2 k f := ⟨j 0, j 1, eq_ix2 j⟩
  · exact (congrArg ab ((pay13_at x8 k f).trans (pair_lo x8 x9 k 0 ⟨f.val, by omega⟩ f rfl).symm)).trans_le (h k 0 _)
  · exact (congrArg ab ((pay14_at x8 k f).trans (pair_lo x8 x9 k 1 ⟨f.val, by omega⟩ f rfl).symm)).trans_le (h k 1 _)
  · exact (congrArg ab ((pay18_at x9 k f).trans (pair_hi x8 x9 k 0 ⟨128 + f.val, by omega⟩ f rfl).symm)).trans_le (h k 0 _)
  · exact (congrArg ab ((pay19_at x9 k f).trans (pair_hi x8 x9 k 1 ⟨128 + f.val, by omega⟩ f rfl).symm)).trans_le (h k 1 _)

/-- The second weight of a block. -/
theorem ub_pay25 (w : Mat 256 2560) : UB (k0_pay25 (F := Ideal) w) B ↔ ∀ i, ab (w i) ≤ B := by
  unfold k0_pay25
  exact (red32 B _).trans (ub_cast B _ _)
theorem fold2 (acc : Mat 8 128) (w : Mat 256 2560) :
    UB (k0_pay28 (F := Ideal) acc (k0_pay25 w) (k0_pay26 w) (k0_pay27 w)) B ↔ UB acc B ∧ ∀ f d, ab (w (ix2 f d)) ≤ B := by
  have e : (∀ f d, ab (w (ix2 f d)) ≤ B) ↔ UB (k0_pay25 (F := Ideal) w) B :=
    (ub2 B (fun i => ab (w i))).symm.trans (ub_pay25 B w).symm
  rw [e]
  unfold k0_pay28 k0_pay26 k0_pay27
  generalize k0_pay25 (F := Ideal) w = v
  simp only [ub_cast, ub_max, ub_slice, and_assoc]
  rw [ub2 B v]
  refine and_congr Iff.rfl ⟨fun H i j => ?_, fun H => by simp only [H, implies_true, and_self]⟩
  · obtain ⟨h0, h1, h2, h3, h4, h5, h6, h7, h8, h9, h10, h11, h12, h13, h14, h15, h16, h17, h18, h19⟩ := H
    have hj := j.isLt
    by_cases c0 : j.val < 128
    · exact h0 i j (by omega) (by omega)
    by_cases c1 : j.val < 256
    · exact h1 i j (by omega) (by omega)
    by_cases c2 : j.val < 384
    · exact h2 i j (by omega) (by omega)
    by_cases c3 : j.val < 512
    · exact h3 i j (by omega) (by omega)
    by_cases c4 : j.val < 640
    · exact h4 i j (by omega) (by omega)
    by_cases c5 : j.val < 768
    · exact h5 i j (by omega) (by omega)
    by_cases c6 : j.val < 896
    · exact h6 i j (by omega) (by omega)
    by_cases c7 : j.val < 1024
    · exact h7 i j (by omega) (by omega)
    by_cases c8 : j.val < 1152
    · exact h8 i j (by omega) (by omega)
    by_cases c9 : j.val < 1280
    · exact h9 i j (by omega) (by omega)
    by_cases c10 : j.val < 1408
    · exact h10 i j (by omega) (by omega)
    by_cases c11 : j.val < 1536
    · exact h11 i j (by omega) (by omega)
    by_cases c12 : j.val < 1664
    · exact h12 i j (by omega) (by omega)
    by_cases c13 : j.val < 1792
    · exact h13 i j (by omega) (by omega)
    by_cases c14 : j.val < 1920
    · exact h14 i j (by omega) (by omega)
    by_cases c15 : j.val < 2048
    · exact h15 i j (by omega) (by omega)
    by_cases c16 : j.val < 2176
    · exact h16 i j (by omega) (by omega)
    by_cases c17 : j.val < 2304
    · exact h17 i j (by omega) (by omega)
    by_cases c18 : j.val < 2432
    · exact h18 i j (by omega) (by omega)
    by_cases c19 : j.val < 2560
    · exact h19 i j (by omega) (by omega)
    omega

/-- A chunk's activation. -/
theorem ub_pay42 (acc : Mat 8 128) (g : Mat 320 256) : UB (k0_pay42 (F := Ideal) acc g) B ↔ UB acc B ∧ UB (absf (F := Ideal) (φ := .f32) g) B := by
  unfold k0_pay42
  exact (ub_max B _ _).trans (and_congr Iff.rfl ((ub_max B _ _).trans ((ub_halves B _ _ _).trans (mag40 B g))))
theorem ub_pay112 (acc : Mat 8 128) (g : Mat 320 256) : UB (k0_pay112 (F := Ideal) acc g) B ↔ UB acc B ∧ UB (absf (F := Ideal) (φ := .f32) g) B := by
  unfold k0_pay112
  exact (ub_cast B _ _).trans ((ub_max B _ _).trans (and_congr Iff.rfl ((ub_max B _ _).trans ((ub_halves B _ _ _).trans (mag40 B g)))))
/-- A chunk's two gradients. -/
theorem ub_pay43 (acc : Mat 8 128) (g p : Mat 320 256) : UB (k0_pay43 (F := Ideal) acc g p) B ↔
    UB acc B ∧ UB (absf (F := Ideal) (φ := .f32) g) B ∧ UB (absf (F := Ideal) (φ := .f32) p) B := by
  unfold k0_pay43
  exact (ub_max B _ _).trans (and_congr Iff.rfl ((ub_max B _ _).trans (and_congr ((ub_max B _ _).trans ((ub_halves B _ _ _).trans (mag40 B g))) ((ub_max B _ _).trans ((ub_halves B _ _ _).trans (mag40 B p))))))
theorem ub_pay113 (acc : Mat 8 128) (g p : Mat 320 256) : UB (k0_pay113 (F := Ideal) acc g p) B ↔
    UB acc B ∧ UB (absf (F := Ideal) (φ := .f32) g) B ∧ UB (absf (F := Ideal) (φ := .f32) p) B := by
  unfold k0_pay113
  exact (ub_cast B _ _).trans ((ub_max B _ _).trans (and_congr Iff.rfl ((ub_max B _ _).trans (and_congr ((ub_max B _ _).trans ((ub_halves B _ _ _).trans (mag40 B g))) ((ub_max B _ _).trans ((ub_halves B _ _ _).trans (mag40 B p)))))))

/-- The rows are the six chunks' rows. -/
theorem rows_chunks (P : Fin 1920 → Prop) : (∀ r, P r) ↔
    (∀ r : Fin 320, P ⟨0 + r.val, by omega⟩) ∧ (∀ r : Fin 320, P ⟨320 + r.val, by omega⟩) ∧ (∀ r : Fin 320, P ⟨640 + r.val, by omega⟩) ∧ (∀ r : Fin 320, P ⟨960 + r.val, by omega⟩) ∧ (∀ r : Fin 320, P ⟨1280 + r.val, by omega⟩) ∧ (∀ r : Fin 320, P ⟨1600 + r.val, by omega⟩) := by
  refine ⟨fun H => ⟨fun _ => H _, fun _ => H _, fun _ => H _, fun _ => H _, fun _ => H _, fun _ => H _⟩, fun ⟨h0, h1, h2, h3, h4, h5⟩ r => ?_⟩
  have hr := r.isLt
  by_cases c0 : r.val < 320
  · have e := h0 ⟨r.val - 0, by omega⟩
    rwa [show (⟨0 + (r.val - 0), by omega⟩ : Fin 1920) = r from Fin.ext (by show 0 + (r.val - 0) = r.val; omega)] at e
  by_cases c1 : r.val < 640
  · have e := h1 ⟨r.val - 320, by omega⟩
    rwa [show (⟨320 + (r.val - 320), by omega⟩ : Fin 1920) = r from Fin.ext (by show 320 + (r.val - 320) = r.val; omega)] at e
  by_cases c2 : r.val < 960
  · have e := h2 ⟨r.val - 640, by omega⟩
    rwa [show (⟨640 + (r.val - 640), by omega⟩ : Fin 1920) = r from Fin.ext (by show 640 + (r.val - 640) = r.val; omega)] at e
  by_cases c3 : r.val < 1280
  · have e := h3 ⟨r.val - 960, by omega⟩
    rwa [show (⟨960 + (r.val - 960), by omega⟩ : Fin 1920) = r from Fin.ext (by show 960 + (r.val - 960) = r.val; omega)] at e
  by_cases c4 : r.val < 1600
  · have e := h4 ⟨r.val - 1280, by omega⟩
    rwa [show (⟨1280 + (r.val - 1280), by omega⟩ : Fin 1920) = r from Fin.ext (by show 1280 + (r.val - 1280) = r.val; omega)] at e
  by_cases c5 : r.val < 1920
  · have e := h5 ⟨r.val - 1600, by omega⟩
    rwa [show (⟨1600 + (r.val - 1600), by omega⟩ : Fin 1920) = r from Fin.ext (by show 1600 + (r.val - 1600) = r.val; omega)] at e
  omega

section
variable (i s : Six) (x dy : Mat 1920 2560) (w13 : Arr3 2560 2 256) (w2 : Mat 256 2560)

theorem ub_h (o : ℕ) (ho : o + 320 ≤ 1920) (inb) :
    UB (absf (F := Ideal) (φ := .f32) (H i s w13 (View.ld (Val := Elt Ideal) (e' := .fp8e4m3) x (Rect.unit (s := S1920x2560) ![o, 0] S320x2560.size inb)))) B ↔
      ∀ (r : Fin 320) (f : Fin 256), ab (hAt i s x w13 ⟨o + r.val, by have := r.isLt; omega⟩ f) ≤ B :=
  (ub2 B _).trans (forall_congr' fun r => forall_congr' fun f =>
    iff_of_eq (congrArg (fun v => ab v ≤ B) (h_at i s x w13 _ r _ (chunk_at x o inb r _ rfl) f)))
theorem ub_da (o : ℕ) (ho : o + 320 ≤ 1920) (inb inb') :
    UB (absf (F := Ideal) (φ := .f32) (DA i s w13 w2 (View.ld (Val := Elt Ideal) (e' := .fp8e4m3) x (Rect.unit (s := S1920x2560) ![o, 0] S320x2560.size inb))
      (View.ld (Val := Elt Ideal) (e' := .fp8e4m3) dy (Rect.unit (s := S1920x2560) ![o, 0] S320x2560.size inb')))) B ↔
      ∀ (r : Fin 320) (f : Fin 256), ab (dgAt i s x dy w13 w2 0 ⟨o + r.val, by have := r.isLt; omega⟩ f) ≤ B :=
  (ub2 B _).trans (forall_congr' fun r => forall_congr' fun f =>
    iff_of_eq (congrArg (fun v => ab v ≤ B) (da_at i s x dy w13 w2 _ _ r _ (chunk_at x o inb r _ rfl) (chunk_at dy o inb' r _ rfl) f)))
theorem ub_db (o : ℕ) (ho : o + 320 ≤ 1920) (inb inb') :
    UB (absf (F := Ideal) (φ := .f32) (DB i s w13 w2 (View.ld (Val := Elt Ideal) (e' := .fp8e4m3) x (Rect.unit (s := S1920x2560) ![o, 0] S320x2560.size inb))
      (View.ld (Val := Elt Ideal) (e' := .fp8e4m3) dy (Rect.unit (s := S1920x2560) ![o, 0] S320x2560.size inb')))) B ↔
      ∀ (r : Fin 320) (f : Fin 256), ab (dgAt i s x dy w13 w2 1 ⟨o + r.val, by have := r.isLt; omega⟩ f) ≤ B :=
  (ub2 B _).trans (forall_congr' fun r => forall_congr' fun f =>
    iff_of_eq (congrArg (fun v => ab v ≤ B) (db_at i s x dy w13 w2 _ _ r _ (chunk_at x o inb r _ rfl) (chunk_at dy o inb' r _ rfl) f)))

/-- The activation of a block. -/
theorem foldH (acc : Mat 8 128) : UB (k0_pay112 (F := Ideal) (k0_pay42 (F := Ideal) (k0_pay42 (F := Ideal) (k0_pay42 (F := Ideal) (k0_pay42 (F := Ideal) (k0_pay42 (F := Ideal) acc
      (H i s w13 (View.ld (Val := Elt Ideal) (e' := .fp8e4m3) x (Rect.unit (s := S1920x2560) ![0, 0] S320x2560.size inb_S1920x2560_S320x2560_0_0))))
      (H i s w13 (View.ld (Val := Elt Ideal) (e' := .fp8e4m3) x (Rect.unit (s := S1920x2560) ![320, 0] S320x2560.size inb_S1920x2560_S320x2560_320_0))))
      (H i s w13 (View.ld (Val := Elt Ideal) (e' := .fp8e4m3) x (Rect.unit (s := S1920x2560) ![640, 0] S320x2560.size inb_S1920x2560_S320x2560_640_0))))
      (H i s w13 (View.ld (Val := Elt Ideal) (e' := .fp8e4m3) x (Rect.unit (s := S1920x2560) ![960, 0] S320x2560.size inb_S1920x2560_S320x2560_960_0))))
      (H i s w13 (View.ld (Val := Elt Ideal) (e' := .fp8e4m3) x (Rect.unit (s := S1920x2560) ![1280, 0] S320x2560.size inb_S1920x2560_S320x2560_1280_0))))
      (H i s w13 (View.ld (Val := Elt Ideal) (e' := .fp8e4m3) x (Rect.unit (s := S1920x2560) ![1600, 0] S320x2560.size inb_S1920x2560_S320x2560_1600_0)))) B ↔ UB acc B ∧ ∀ r f, ab (hAt i s x w13 r f) ≤ B := by
  rw [rows_chunks (fun r => ∀ f, ab (hAt i s x w13 r f) ≤ B), ub_pay112, ub_pay42, ub_pay42, ub_pay42, ub_pay42, ub_pay42,
    ub_h B i s x w13 0 (by norm_num), ub_h B i s x w13 320 (by norm_num), ub_h B i s x w13 640 (by norm_num), ub_h B i s x w13 960 (by norm_num), ub_h B i s x w13 1280 (by norm_num), ub_h B i s x w13 1600 (by norm_num)]
  simp only [and_assoc]
/-- The two gradients of a block. -/
theorem foldG (acc : Mat 8 128) : UB (k0_pay113 (F := Ideal) (k0_pay43 (F := Ideal) (k0_pay43 (F := Ideal) (k0_pay43 (F := Ideal) (k0_pay43 (F := Ideal) (k0_pay43 (F := Ideal) acc
      (DA i s w13 w2 (View.ld (Val := Elt Ideal) (e' := .fp8e4m3) x (Rect.unit (s := S1920x2560) ![0, 0] S320x2560.size inb_S1920x2560_S320x2560_0_0)) (View.ld (Val := Elt Ideal) (e' := .fp8e4m3) dy (Rect.unit (s := S1920x2560) ![0, 0] S320x2560.size inb_S1920x2560_S320x2560_0_0)))
      (DB i s w13 w2 (View.ld (Val := Elt Ideal) (e' := .fp8e4m3) x (Rect.unit (s := S1920x2560) ![0, 0] S320x2560.size inb_S1920x2560_S320x2560_0_0)) (View.ld (Val := Elt Ideal) (e' := .fp8e4m3) dy (Rect.unit (s := S1920x2560) ![0, 0] S320x2560.size inb_S1920x2560_S320x2560_0_0))))
      (DA i s w13 w2 (View.ld (Val := Elt Ideal) (e' := .fp8e4m3) x (Rect.unit (s := S1920x2560) ![320, 0] S320x2560.size inb_S1920x2560_S320x2560_320_0)) (View.ld (Val := Elt Ideal) (e' := .fp8e4m3) dy (Rect.unit (s := S1920x2560) ![320, 0] S320x2560.size inb_S1920x2560_S320x2560_320_0)))
      (DB i s w13 w2 (View.ld (Val := Elt Ideal) (e' := .fp8e4m3) x (Rect.unit (s := S1920x2560) ![320, 0] S320x2560.size inb_S1920x2560_S320x2560_320_0)) (View.ld (Val := Elt Ideal) (e' := .fp8e4m3) dy (Rect.unit (s := S1920x2560) ![320, 0] S320x2560.size inb_S1920x2560_S320x2560_320_0))))
      (DA i s w13 w2 (View.ld (Val := Elt Ideal) (e' := .fp8e4m3) x (Rect.unit (s := S1920x2560) ![640, 0] S320x2560.size inb_S1920x2560_S320x2560_640_0)) (View.ld (Val := Elt Ideal) (e' := .fp8e4m3) dy (Rect.unit (s := S1920x2560) ![640, 0] S320x2560.size inb_S1920x2560_S320x2560_640_0)))
      (DB i s w13 w2 (View.ld (Val := Elt Ideal) (e' := .fp8e4m3) x (Rect.unit (s := S1920x2560) ![640, 0] S320x2560.size inb_S1920x2560_S320x2560_640_0)) (View.ld (Val := Elt Ideal) (e' := .fp8e4m3) dy (Rect.unit (s := S1920x2560) ![640, 0] S320x2560.size inb_S1920x2560_S320x2560_640_0))))
      (DA i s w13 w2 (View.ld (Val := Elt Ideal) (e' := .fp8e4m3) x (Rect.unit (s := S1920x2560) ![960, 0] S320x2560.size inb_S1920x2560_S320x2560_960_0)) (View.ld (Val := Elt Ideal) (e' := .fp8e4m3) dy (Rect.unit (s := S1920x2560) ![960, 0] S320x2560.size inb_S1920x2560_S320x2560_960_0)))
      (DB i s w13 w2 (View.ld (Val := Elt Ideal) (e' := .fp8e4m3) x (Rect.unit (s := S1920x2560) ![960, 0] S320x2560.size inb_S1920x2560_S320x2560_960_0)) (View.ld (Val := Elt Ideal) (e' := .fp8e4m3) dy (Rect.unit (s := S1920x2560) ![960, 0] S320x2560.size inb_S1920x2560_S320x2560_960_0))))
      (DA i s w13 w2 (View.ld (Val := Elt Ideal) (e' := .fp8e4m3) x (Rect.unit (s := S1920x2560) ![1280, 0] S320x2560.size inb_S1920x2560_S320x2560_1280_0)) (View.ld (Val := Elt Ideal) (e' := .fp8e4m3) dy (Rect.unit (s := S1920x2560) ![1280, 0] S320x2560.size inb_S1920x2560_S320x2560_1280_0)))
      (DB i s w13 w2 (View.ld (Val := Elt Ideal) (e' := .fp8e4m3) x (Rect.unit (s := S1920x2560) ![1280, 0] S320x2560.size inb_S1920x2560_S320x2560_1280_0)) (View.ld (Val := Elt Ideal) (e' := .fp8e4m3) dy (Rect.unit (s := S1920x2560) ![1280, 0] S320x2560.size inb_S1920x2560_S320x2560_1280_0))))
      (DA i s w13 w2 (View.ld (Val := Elt Ideal) (e' := .fp8e4m3) x (Rect.unit (s := S1920x2560) ![1600, 0] S320x2560.size inb_S1920x2560_S320x2560_1600_0)) (View.ld (Val := Elt Ideal) (e' := .fp8e4m3) dy (Rect.unit (s := S1920x2560) ![1600, 0] S320x2560.size inb_S1920x2560_S320x2560_1600_0)))
      (DB i s w13 w2 (View.ld (Val := Elt Ideal) (e' := .fp8e4m3) x (Rect.unit (s := S1920x2560) ![1600, 0] S320x2560.size inb_S1920x2560_S320x2560_1600_0)) (View.ld (Val := Elt Ideal) (e' := .fp8e4m3) dy (Rect.unit (s := S1920x2560) ![1600, 0] S320x2560.size inb_S1920x2560_S320x2560_1600_0)))) B ↔ UB acc B ∧ ∀ r γ f, ab (dgAt i s x dy w13 w2 γ r f) ≤ B := by
  have two : ∀ r : Fin 1920, (∀ γ f, ab (dgAt i s x dy w13 w2 γ r f) ≤ B) ↔ (∀ f, ab (dgAt i s x dy w13 w2 0 r f) ≤ B) ∧ ∀ f, ab (dgAt i s x dy w13 w2 1 r f) ≤ B :=
    fun r => Fin.forall_fin_two
  rw [show (∀ r γ f, ab (dgAt i s x dy w13 w2 γ r f) ≤ B) ↔ ∀ r, (∀ f, ab (dgAt i s x dy w13 w2 0 r f) ≤ B) ∧ ∀ f, ab (dgAt i s x dy w13 w2 1 r f) ≤ B from
    forall_congr' two, rows_chunks (fun r => (∀ f, ab (dgAt i s x dy w13 w2 0 r f) ≤ B) ∧ ∀ f, ab (dgAt i s x dy w13 w2 1 r f) ≤ B)]
  rw [ub_pay113, ub_pay43, ub_pay43, ub_pay43, ub_pay43, ub_pay43,
    ub_da B i s x dy w13 w2 0 (by norm_num), ub_db B i s x dy w13 w2 0 (by norm_num), ub_da B i s x dy w13 w2 320 (by norm_num), ub_db B i s x dy w13 w2 320 (by norm_num), ub_da B i s x dy w13 w2 640 (by norm_num), ub_db B i s x dy w13 w2 640 (by norm_num), ub_da B i s x dy w13 w2 960 (by norm_num), ub_db B i s x dy w13 w2 960 (by norm_num), ub_da B i s x dy w13 w2 1280 (by norm_num), ub_db B i s x dy w13 w2 1280 (by norm_num), ub_da B i s x dy w13 w2 1600 (by norm_num), ub_db B i s x dy w13 w2 1600 (by norm_num)]
  simp only [forall_and, and_assoc]

end

/-- The zero a first point starts from. -/
theorem ub_zero : UB (k0_pay9 (F := Ideal)) B ↔ 0 ≤ B := by
  unfold k0_pay9
  simp only [ub_cast]
  exact ⟨fun h => zero_f32.symm.trans_le (h (ix2 0 0)), fun h _ => zero_f32.trans_le h⟩

/-- A word of the history: the greatest entry. -/
def word (v : Mat 8 128) : EReal := extractAt ![0, 0, 0] (shapeCast S1x1x1 (multiReduction (F := Ideal) (φ := .f32) .maximumf [1, 2] S1 (shapeCast S1x8x128 v shapeCasts_S8x128_S1x8x128)
    0xFF800000#32 reduces_S1x8x128_S1 (.inl rfl) rfl) shapeCasts_S1_S1x1x1) inpos_S1x1x1_p0_0_0
theorem word_le (v : Mat 8 128) : word v ≤ B ↔ UB v B :=
  (ub_word B _ _).trans ((ub_cast B _ _).trans ((red1 B _).trans (ub_cast B _ _)))
/-- A choice by the row number, or by the column number. -/
theorem row_yes (n : BitVec 32) (a b : Mat 6 16) (r : Fin 6) (k : Fin 16) (h : IntOp.cmpi .eq (BitVec.ofNat 32 (0 * 6 + r.val)) n = 1#1) :
    select (cmpi .eq (iota .tc S6x16 32 [0] iota_S6x16_d0_w32) (broadcast S6x16 n)) a b (ix2 r k) = a (ix2 r k) := by
  show Scalar.select (IntOp.cmpi .eq (BitVec.ofNat 32 (0 * 6 + r.val)) n) _ _ = _
  rw [h]; rfl
theorem row_no (n : BitVec 32) (a b : Mat 6 16) (r : Fin 6) (k : Fin 16) (h : IntOp.cmpi .eq (BitVec.ofNat 32 (0 * 6 + r.val)) n = 0#1) :
    select (cmpi .eq (iota .tc S6x16 32 [0] iota_S6x16_d0_w32) (broadcast S6x16 n)) a b (ix2 r k) = b (ix2 r k) := by
  show Scalar.select (IntOp.cmpi .eq (BitVec.ofNat 32 (0 * 6 + r.val)) n) _ _ = _
  rw [h]; rfl
theorem col_yes (n : BitVec 32) (a b : Mat 6 16) (r : Fin 6) (k : Fin 16) (h : IntOp.cmpi .eq (BitVec.ofNat 32 (0 * 16 + k.val)) n = 1#1) :
    select (cmpi .eq (iota .tc S6x16 32 [1] iota_S6x16_d1_w32) (broadcast S6x16 n)) a b (ix2 r k) = a (ix2 r k) := by
  show Scalar.select (IntOp.cmpi .eq (BitVec.ofNat 32 (0 * 16 + k.val)) n) _ _ = _
  rw [h]; rfl
theorem col_no (n : BitVec 32) (a b : Mat 6 16) (r : Fin 6) (k : Fin 16) (h : IntOp.cmpi .eq (BitVec.ofNat 32 (0 * 16 + k.val)) n = 0#1) :
    select (cmpi .eq (iota .tc S6x16 32 [1] iota_S6x16_d1_w32) (broadcast S6x16 n)) a b (ix2 r k) = b (ix2 r k) := by
  show Scalar.select (IntOp.cmpi .eq (BitVec.ofNat 32 (0 * 16 + k.val)) n) _ _ = _
  rw [h]; rfl
theorem col_ne : ∀ k : Fin 16, k ≠ 0 → IntOp.cmpi .eq (BitVec.ofNat 32 (0 * 16 + k.val)) 0#32 = 0#1 := by decide

theorem entry0 (u0 u1 u2 u3 u4 u5 : Mat 8 128) (hist : Mat 6 16) :
    k0_pay5 (F := Ideal) (iota .tc S6x16 32 [0] iota_S6x16_d0_w32) (iota .tc S6x16 32 [1] iota_S6x16_d1_w32) (k0_pay3 u0 u1 u2 u3) k0_pay4 u4 u5 hist (ix2 0 0) = word u0 := by
  unfold k0_pay5 k0_pay4 k0_pay3
  dsimp only
  refine (col_yes 0#32 _ _ 0 0 (by decide)).trans ?_
  refine (row_no 5#32 _ _ 0 0 (by decide)).trans ?_
  refine (row_no 4#32 _ _ 0 0 (by decide)).trans ?_
  refine (row_no 3#32 _ _ 0 0 (by decide)).trans ?_
  refine (row_no 2#32 _ _ 0 0 (by decide)).trans ?_
  refine (row_no 1#32 _ _ 0 0 (by decide)).trans ?_
  refine (row_yes 0#32 _ _ 0 0 (by decide)).trans ?_
  unfold word
  dsimp only [broadcast]
theorem entry1 (u0 u1 u2 u3 u4 u5 : Mat 8 128) (hist : Mat 6 16) :
    k0_pay5 (F := Ideal) (iota .tc S6x16 32 [0] iota_S6x16_d0_w32) (iota .tc S6x16 32 [1] iota_S6x16_d1_w32) (k0_pay3 u0 u1 u2 u3) k0_pay4 u4 u5 hist (ix2 1 0) = word u1 := by
  unfold k0_pay5 k0_pay4 k0_pay3
  dsimp only
  refine (col_yes 0#32 _ _ 1 0 (by decide)).trans ?_
  refine (row_no 5#32 _ _ 1 0 (by decide)).trans ?_
  refine (row_no 4#32 _ _ 1 0 (by decide)).trans ?_
  refine (row_no 3#32 _ _ 1 0 (by decide)).trans ?_
  refine (row_no 2#32 _ _ 1 0 (by decide)).trans ?_
  refine (row_yes 1#32 _ _ 1 0 (by decide)).trans ?_
  unfold word
  dsimp only [broadcast]
theorem entry2 (u0 u1 u2 u3 u4 u5 : Mat 8 128) (hist : Mat 6 16) :
    k0_pay5 (F := Ideal) (iota .tc S6x16 32 [0] iota_S6x16_d0_w32) (iota .tc S6x16 32 [1] iota_S6x16_d1_w32) (k0_pay3 u0 u1 u2 u3) k0_pay4 u4 u5 hist (ix2 2 0) = word u2 := by
  unfold k0_pay5 k0_pay4 k0_pay3
  dsimp only
  refine (col_yes 0#32 _ _ 2 0 (by decide)).trans ?_
  refine (row_no 5#32 _ _ 2 0 (by decide)).trans ?_
  refine (row_no 4#32 _ _ 2 0 (by decide)).trans ?_
  refine (row_no 3#32 _ _ 2 0 (by decide)).trans ?_
  refine (row_yes 2#32 _ _ 2 0 (by decide)).trans ?_
  unfold word
  dsimp only [broadcast]
theorem entry3 (u0 u1 u2 u3 u4 u5 : Mat 8 128) (hist : Mat 6 16) :
    k0_pay5 (F := Ideal) (iota .tc S6x16 32 [0] iota_S6x16_d0_w32) (iota .tc S6x16 32 [1] iota_S6x16_d1_w32) (k0_pay3 u0 u1 u2 u3) k0_pay4 u4 u5 hist (ix2 3 0) = word u3 := by
  unfold k0_pay5 k0_pay4 k0_pay3
  dsimp only
  refine (col_yes 0#32 _ _ 3 0 (by decide)).trans ?_
  refine (row_no 5#32 _ _ 3 0 (by decide)).trans ?_
  refine (row_no 4#32 _ _ 3 0 (by decide)).trans ?_
  refine (row_yes 3#32 _ _ 3 0 (by decide)).trans ?_
  unfold word
  dsimp only [broadcast]
theorem entry4 (u0 u1 u2 u3 u4 u5 : Mat 8 128) (hist : Mat 6 16) :
    k0_pay5 (F := Ideal) (iota .tc S6x16 32 [0] iota_S6x16_d0_w32) (iota .tc S6x16 32 [1] iota_S6x16_d1_w32) (k0_pay3 u0 u1 u2 u3) k0_pay4 u4 u5 hist (ix2 4 0) = word u4 := by
  unfold k0_pay5 k0_pay4
  dsimp only
  refine (col_yes 0#32 _ _ 4 0 (by decide)).trans ?_
  refine (row_no 5#32 _ _ 4 0 (by decide)).trans ?_
  refine (row_yes 4#32 _ _ 4 0 (by decide)).trans ?_
  unfold word
  dsimp only [broadcast]
theorem entry5 (u0 u1 u2 u3 u4 u5 : Mat 8 128) (hist : Mat 6 16) :
    k0_pay5 (F := Ideal) (iota .tc S6x16 32 [0] iota_S6x16_d0_w32) (iota .tc S6x16 32 [1] iota_S6x16_d1_w32) (k0_pay3 u0 u1 u2 u3) k0_pay4 u4 u5 hist (ix2 5 0) = word u5 := by
  unfold k0_pay5 k0_pay4
  dsimp only
  refine (col_yes 0#32 _ _ 5 0 (by decide)).trans ?_
  refine (row_yes 5#32 _ _ 5 0 (by decide)).trans ?_
  unfold word
  dsimp only [broadcast]

/-- The new history. -/
theorem history (u0 u1 u2 u3 u4 u5 : Mat 8 128) (hist : Mat 6 16) (c : Fin 6 → EReal)
    (h0 : ∀ B, c 0 ≤ B ↔ UB u0 B) (h1 : ∀ B, c 1 ≤ B ↔ UB u1 B) (h2 : ∀ B, c 2 ≤ B ↔ UB u2 B)
    (h3 : ∀ B, c 3 ≤ B ↔ UB u3 B) (h4 : ∀ B, c 4 ≤ B ↔ UB u4 B) (h5 : ∀ B, c 5 ≤ B ↔ UB u5 B) :
    k0_pay5 (F := Ideal) (iota .tc S6x16 32 [0] iota_S6x16_d0_w32) (iota .tc S6x16 32 [1] iota_S6x16_d1_w32) (k0_pay3 u0 u1 u2 u3) k0_pay4 u4 u5 hist = nhA hist c := by
  funext j
  obtain ⟨r, k, rfl⟩ : ∃ (r : Fin 6) (k : Fin 16), j = ix2 r k := ⟨j 0, j 1, eq_ix2 j⟩
  by_cases hk : k = 0
  · subst hk
    have e : nhA hist c (ix2 r 0) = c r := dif_pos rfl
    rw [e]
    match r with
    | 0 => exact (entry0 u0 u1 u2 u3 u4 u5 hist).trans (eq_of_forall_ge_iff fun B => (word_le B u0).trans (h0 B).symm)
    | 1 => exact (entry1 u0 u1 u2 u3 u4 u5 hist).trans (eq_of_forall_ge_iff fun B => (word_le B u1).trans (h1 B).symm)
    | 2 => exact (entry2 u0 u1 u2 u3 u4 u5 hist).trans (eq_of_forall_ge_iff fun B => (word_le B u2).trans (h2 B).symm)
    | 3 => exact (entry3 u0 u1 u2 u3 u4 u5 hist).trans (eq_of_forall_ge_iff fun B => (word_le B u3).trans (h3 B).symm)
    | 4 => exact (entry4 u0 u1 u2 u3 u4 u5 hist).trans (eq_of_forall_ge_iff fun B => (word_le B u4).trans (h4 B).symm)
    | 5 => exact (entry5 u0 u1 u2 u3 u4 u5 hist).trans (eq_of_forall_ge_iff fun B => (word_le B u5).trans (h5 B).symm)
  · have hk' : k.val ≠ 0 := fun e => hk (Fin.ext e)
    have e : nhA hist c (ix2 r k) = hist (ix2 r ⟨k.val - 1, by omega⟩) := dif_neg hk'
    rw [e]
    have e' : dynamicRotate (s := S6x16) 1 1#32 none hist rotates_S6x16_d1 (ix2 r k) = hist (ix2 r ⟨k.val - 1, by omega⟩) := by
      refine congrArg hist (funext fun b => ?_)
      match b with
      | 0 => rfl
      | 1 => exact Fin.ext (by show (k.val + 16 - 1 % 16) % 16 = k.val - 1; omega)
    rw [← e']
    unfold k0_pay5
    exact col_no 0#32 _ _ r k (col_ne k hk)

end Cert.Proof.Main.Ker

end
-- ==== Proof.MainCaseA.lean ====
/- The kernel's stores at a grid point (the first one): what each output window then holds, in the block's own mathematics. -/
module

public import proofs.«01_k».proof.Proof.MainPieces
public import proofs.«01_k».proof.Proof.Gen.MainIdeal.Frame

@[expose] public section

set_option maxRecDepth 16384

noncomputable section

namespace Cert.Proof.Main.CaseA

open Cert.MainIdeal Cert.MainIdeal.Gen Cert.Proof.Main Cert.Proof.Main.Ker
open Idealize.ShloMosaic hiding ix1 ix2 ix3 ix4 eq_ix1 eq_ix2 eq_ix3 eq_ix4
open Idealize.ShloMosaic.TcCoe Idealize.ShloMosaic.ValueIdx Idealize.SL.Sem

variable {c : Dev nD} {i : grid0.Coords} {arg1 : Memref sig .tc .smem S6 .f32} {harg1 : arg1.IsWhole} {arg2 : Memref sig .tc .smem S6 .f32} {harg2 : arg2.IsWhole} {arg3 : Memref sig .tc .vmem S6x16 .f32} {harg3 : arg3.IsWhole} {arg4 : Memref sig .tc .vmem S8x128 .f32} {harg4 : arg4.IsWhole} {arg5 : Memref sig .tc .vmem S8x128 .f32} {harg5 : arg5.IsWhole} {arg6 : Memref sig .tc .vmem S1920x2560 .fp8e4m3} {harg6 : arg6.IsWhole} {arg7 : Memref sig .tc .vmem S2560x1920 .fp8e4m3} {harg7 : arg7.IsWhole} {arg8 : Memref sig .tc .vmem S1920x2560 .fp8e4m3} {harg8 : arg8.IsWhole} {arg9 : Memref sig .tc .vmem S2560x2x128 .bf16} {harg9 : arg9.IsWhole} {arg10 : Memref sig .tc .vmem S2560x2x128 .bf16} {harg10 : arg10.IsWhole} {arg11 : Memref sig .tc .vmem S256x2560 .bf16} {harg11 : arg11.IsWhole} {arg12 : Memref sig .tc .vmem S2x2560x256 .fp8e4m3} {harg12 : arg12.IsWhole} {arg13 : Memref sig .tc .vmem S256x2560 .fp8e4m3} {harg13 : arg13.IsWhole} {arg14 : Memref sig .tc .vmem S1920x256 .fp8e4m3} {harg14 : arg14.IsWhole} {arg15 : Memref sig .tc .vmem S3x2x640x256 .fp8e4m3} {harg15 : arg15.IsWhole} {arg16 : Memref sig .tc .vmem S2560x2x256 .f32} {harg16 : arg16.IsWhole} {arg17 : Memref sig .tc .vmem S256x2560 .f32} {harg17 : arg17.IsWhole} {arg18 : Memref sig .tc .vmem S6x16 .f32} {harg18 : arg18.IsWhole} {arg19 : Memref sig .tc .vmem S6x1 .f32} {harg19 : arg19.IsWhole} {arg20 : Memref sig .tc .vmem S8x128 .f32} {harg20 : arg20.IsWhole} {arg21 : Memref sig .tc .vmem S8x128 .f32} {harg21 : arg21.IsWhole} {arg22 : Memref sig .tc .vmem S8x128 .f32} {harg22 : arg22.IsWhole} {arg23 : Memref sig .tc .vmem S8x128 .f32} {harg23 : arg23.IsWhole} {hc0 : cond0_0 i} {hc1 : ¬cond0_1 i} {x0 : Vec Ideal S6 .f32} {x1 : Vec Ideal S6 .f32} {x2 : Vec Ideal S6x16 .f32} {x3 : Vec Ideal S8x128 .f32} {x4 : Vec Ideal S8x128 .f32} {x5 : Vec Ideal S1920x2560 .fp8e4m3} {x6 : Vec Ideal S2560x1920 .fp8e4m3} {x7 : Vec Ideal S1920x2560 .fp8e4m3} {x8 : Vec Ideal S2560x2x128 .bf16} {x9 : Vec Ideal S2560x2x128 .bf16} {x10 : Vec Ideal S256x2560 .bf16}

/-- The scalar words. -/
theorem w_r : (kernelRun0_A.sl.r c arg1 harg1 x0) = x0 (ix1 1) := by
  unfold kernelRun0_A.sl.r
  rw [View.readAt_eq_ld, harg1.read_unread]
  exact word1 _ _ _
theorem w_r_10 : (kernelRun0_A.sl.r_10 c arg2 harg2 x1) = x1 (ix1 0) := by
  unfold kernelRun0_A.sl.r_10
  rw [View.readAt_eq_ld, harg2.read_unread]
  exact word0 _ _ _
theorem w_r_11 : (kernelRun0_A.sl.r_11 c arg2 harg2 x1) = x1 (ix1 1) := by
  unfold kernelRun0_A.sl.r_11
  rw [View.readAt_eq_ld, harg2.read_unread]
  exact word1 _ _ _
theorem w_r_12 : (kernelRun0_A.sl.r_12 c arg2 harg2 x1) = x1 (ix1 4) := by
  unfold kernelRun0_A.sl.r_12
  rw [View.readAt_eq_ld, harg2.read_unread]
  exact word4 _ _ _
theorem w_r_13 : (kernelRun0_A.sl.r_13 c arg2 harg2 x1) = x1 (ix1 2) := by
  unfold kernelRun0_A.sl.r_13
  rw [View.readAt_eq_ld, harg2.read_unread]
  exact word2 _ _ _
theorem w_r_18 : (kernelRun0_A.sl.r_18 c arg1 harg1 x0) = x0 (ix1 3) := by
  unfold kernelRun0_A.sl.r_18
  rw [View.readAt_eq_ld, harg1.read_unread]
  exact word3 _ _ _
theorem w_r_19 : (kernelRun0_A.sl.r_19 c arg1 harg1 x0) = x0 (ix1 5) := by
  unfold kernelRun0_A.sl.r_19
  rw [View.readAt_eq_ld, harg1.read_unread]
  exact word5 _ _ _
theorem w_r_6 : (kernelRun0_A.sl.r_6 c arg1 harg1 x0) = x0 (ix1 2) := by
  unfold kernelRun0_A.sl.r_6
  rw [View.readAt_eq_ld, harg1.read_unread]
  exact word2 _ _ _
theorem w_r_67 : (kernelRun0_A.sl.r_67 c arg2 harg2 x1) = x1 (ix1 3) := by
  unfold kernelRun0_A.sl.r_67
  rw [View.readAt_eq_ld, harg2.read_unread]
  exact word3 _ _ _
theorem w_r_68 : (kernelRun0_A.sl.r_68 c arg2 harg2 x1) = x1 (ix1 5) := by
  unfold kernelRun0_A.sl.r_68
  rw [View.readAt_eq_ld, harg2.read_unread]
  exact word5 _ _ _

/-- The gate weight codes: every stored rectangle holds its part. -/
theorem codes (y) : View.canon (kernelRun0_A.sl.H11_4 c arg1 harg1 arg9 harg9 arg10 harg10 x0 x8 x9) y = w13cA x0 (pair x8 x9) y := by
  refine View.canon_apply_of_pieces (w13cA x0 (pair x8 x9)) _ ?_ y (View.cover_of_tiledL (kernelRun0_A.sl.H11_4 c arg1 harg1 arg9 harg9 arg10 harg10 x0 x8 x9) S1x2560x128.size (by sl_kernel_rfl) y)
  unfold kernelRun0_A.sl.H11_4
  simp only [w_r, View.readAt_eq_ld, harg9.read_unread, harg10.read_unread, ld2, ld3]
  exact List.forall_mem_cons.2 ⟨piece21 x0 x8 x9 inb_S2x2560x256_S1x2560x128_1_0_128, List.forall_mem_cons.2 ⟨piece20 x0 x8 x9 inb_S2x2560x256_S1x2560x128_0_0_128,
    List.forall_mem_cons.2 ⟨piece16 x0 x8 x9 inb_S2x2560x256_S1x2560x128_1_0_0, List.forall_mem_cons.2 ⟨piece15 x0 x8 x9 inb_S2x2560x256_S1x2560x128_0_0_0, fun _ h => (List.not_mem_nil h).elim⟩⟩⟩⟩
theorem w_v152 : (kernelRun0_A.sl.v152 c arg1 harg1 arg9 harg9 arg10 harg10 arg12 x0 x8 x9) = plane x0 (pair x8 x9) 0 := by
  unfold kernelRun0_A.sl.v152
  rw [View.readCov_eq_canon']
  exact funext fun j => (codes _).trans (plane0_read x0 _ _ j)
theorem w_v158 : (kernelRun0_A.sl.v158 c arg1 harg1 arg9 harg9 arg10 harg10 arg12 x0 x8 x9) = plane x0 (pair x8 x9) 1 := by
  unfold kernelRun0_A.sl.v158
  rw [View.readCov_eq_canon']
  exact funext fun j => (codes _).trans (plane1_read x0 _ _ j)

/-- The down-projection codes. -/
theorem codes2 : View.canon (kernelRun0_A.sl.H12_1 c arg1 harg1 arg11 harg11 x0 x10) = w2cA x0 x10 := by
  unfold kernelRun0_A.sl.H12_1
  simp only [w_r_6, View.readAt_eq_ld, harg11.read_unread, ld2, ld3]
  rw [canon2]
  exact w2c_eq x0 x10
theorem w_v164 : (kernelRun0_A.sl.v164 c arg1 harg1 arg11 harg11 arg13 x0 x10) = w2cA x0 x10 := by
  unfold kernelRun0_A.sl.v164
  rw [View.readCov_eq_canon', codes2]
  exact funext fun j => congrArg (w2cA x0 x10) (whole2 _ j)

/-- The activation codes, chunk by chunk. -/
theorem hcodes (y) : View.canon (kernelRun0_A.sl.H13_6 c arg1 harg1 arg2 harg2 arg6 harg6 arg9 harg9 arg10 harg10 arg12 x0 x1 x5 x8 x9) y = hcA x0 x1 x5 (pair x8 x9) y := by
  refine View.canon_apply_of_pieces (hcA x0 x1 x5 (pair x8 x9)) _ ?_ y (View.cover_of_tiledL (kernelRun0_A.sl.H13_6 c arg1 harg1 arg2 harg2 arg6 harg6 arg9 harg9 arg10 harg10 arg12 x0 x1 x5 x8 x9) S320x256.size (by sl_kernel_rfl) y)
  unfold kernelRun0_A.sl.H13_6
  simp only [kernelRun0_A.sl.r_62, kernelRun0_A.sl.r_14, kernelRun0_A.sl.r_26, kernelRun0_A.sl.r_45, kernelRun0_A.sl.cst_98, kernelRun0_A.sl.r_52, kernelRun0_A.sl.r_27, kernelRun0_A.sl.cst_193, kernelRun0_A.sl.r_37, kernelRun0_A.sl.r_16, kernelRun0_A.sl.r_17, w_v152, w_v158, w_r_10, w_r_11, w_r_18, View.readAt_eq_ld, harg6.read_unread, harg9.read_unread, harg10.read_unread, ld2, ld3]
  refine List.forall_mem_cons.2 ⟨pieceH x0 x1 x5 (pair x8 x9) 1600 (by norm_num) inb_S1920x2560_S320x2560_1600_0 inb_S1920x256_S320x256_1600_0, ?_⟩
  refine List.forall_mem_cons.2 ⟨pieceH x0 x1 x5 (pair x8 x9) 1280 (by norm_num) inb_S1920x2560_S320x2560_1280_0 inb_S1920x256_S320x256_1280_0, ?_⟩
  refine List.forall_mem_cons.2 ⟨pieceH x0 x1 x5 (pair x8 x9) 960 (by norm_num) inb_S1920x2560_S320x2560_960_0 inb_S1920x256_S320x256_960_0, ?_⟩
  refine List.forall_mem_cons.2 ⟨pieceH x0 x1 x5 (pair x8 x9) 640 (by norm_num) inb_S1920x2560_S320x2560_640_0 inb_S1920x256_S320x256_640_0, ?_⟩
  refine List.forall_mem_cons.2 ⟨pieceH x0 x1 x5 (pair x8 x9) 320 (by norm_num) inb_S1920x2560_S320x2560_320_0 inb_S1920x256_S320x256_320_0, ?_⟩
  refine List.forall_mem_cons.2 ⟨pieceH x0 x1 x5 (pair x8 x9) 0 (by norm_num) inb_S1920x2560_S320x2560_0_0 inb_S1920x256_S320x256_0_0, ?_⟩
  exact fun _ h => (List.not_mem_nil h).elim
theorem w_v661 : (kernelRun0_A.sl.v661 c arg1 harg1 arg2 harg2 arg6 harg6 arg9 harg9 arg10 harg10 arg12 arg14 x0 x1 x5 x8 x9) = hcA x0 x1 x5 (pair x8 x9) := by
  unfold kernelRun0_A.sl.v661
  rw [View.readCov_eq_canon']
  exact funext fun j => (hcodes _).trans (congrArg (hcA x0 x1 x5 (pair x8 x9)) (whole2 _ j))

/-- The gradient codes, chunk by chunk. -/
theorem gcodes (y) : View.canon (kernelRun0_A.sl.H14_12 c arg1 harg1 arg2 harg2 arg6 harg6 arg8 harg8 arg9 harg9 arg10 harg10 arg11 harg11 arg12 arg13 x0 x1 x5 x7 x8 x9 x10) y = dgcA x0 x1 x5 x7 (pair x8 x9) x10 y := by
  refine View.canon_apply_of_pieces (dgcA x0 x1 x5 x7 (pair x8 x9) x10) _ ?_ y (View.cover_of_tiledL (kernelRun0_A.sl.H14_12 c arg1 harg1 arg2 harg2 arg6 harg6 arg8 harg8 arg9 harg9 arg10 harg10 arg11 harg11 arg12 arg13 x0 x1 x5 x7 x8 x9 x10) S1x1x320x256.size (by sl_kernel_rfl) y)
  unfold kernelRun0_A.sl.H14_12
  simp only [kernelRun0_A.sl.r_63, kernelRun0_A.sl.r_35, kernelRun0_A.sl.r_50, kernelRun0_A.sl.r_51, kernelRun0_A.sl.r_26, kernelRun0_A.sl.r_14, kernelRun0_A.sl.r_44, kernelRun0_A.sl.r_31, kernelRun0_A.sl.r_30, kernelRun0_A.sl.r_43, kernelRun0_A.sl.r_53, kernelRun0_A.sl.cst_98, kernelRun0_A.sl.r_61, kernelRun0_A.sl.r_66, kernelRun0_A.sl.r_17, kernelRun0_A.sl.r_23, kernelRun0_A.sl.r_60, kernelRun0_A.sl.r_59, kernelRun0_A.sl.r_15, kernelRun0_A.sl.r_49, kernelRun0_A.sl.r_36, kernelRun0_A.sl.r_16, kernelRun0_A.sl.cst_270, kernelRun0_A.sl.r_22, kernelRun0_A.sl.r_27, w_v152, w_v158, w_v164, w_r_10, w_r_11, w_r_12, w_r_13, w_r_19, View.readAt_eq_ld, harg6.read_unread, harg8.read_unread, harg9.read_unread, harg10.read_unread, harg11.read_unread, ld2, ld3]
  refine List.forall_mem_cons.2 ⟨pieceB x0 x1 x5 x7 (pair x8 x9) x10 1600 2 2 320 rfl (by norm_num) (by norm_num) inb_S1920x2560_S320x2560_1600_0 inb_S3x2x640x256_S1x1x320x256_2_1_320_0 inb_S1920x2560_S320x2560_1600_0, ?_⟩
  refine List.forall_mem_cons.2 ⟨pieceA x0 x1 x5 x7 (pair x8 x9) x10 1600 2 2 320 rfl (by norm_num) (by norm_num) inb_S1920x2560_S320x2560_1600_0 inb_S3x2x640x256_S1x1x320x256_2_0_320_0 inb_S1920x2560_S320x2560_1600_0, ?_⟩
  refine List.forall_mem_cons.2 ⟨pieceB x0 x1 x5 x7 (pair x8 x9) x10 1280 2 2 0 rfl (by norm_num) (by norm_num) inb_S1920x2560_S320x2560_1280_0 inb_S3x2x640x256_S1x1x320x256_2_1_0_0 inb_S1920x2560_S320x2560_1280_0, ?_⟩
  refine List.forall_mem_cons.2 ⟨pieceA x0 x1 x5 x7 (pair x8 x9) x10 1280 2 2 0 rfl (by norm_num) (by norm_num) inb_S1920x2560_S320x2560_1280_0 inb_S3x2x640x256_S1x1x320x256_2_0_0_0 inb_S1920x2560_S320x2560_1280_0, ?_⟩
  refine List.forall_mem_cons.2 ⟨pieceB x0 x1 x5 x7 (pair x8 x9) x10 960 1 1 320 rfl (by norm_num) (by norm_num) inb_S1920x2560_S320x2560_960_0 inb_S3x2x640x256_S1x1x320x256_1_1_320_0 inb_S1920x2560_S320x2560_960_0, ?_⟩
  refine List.forall_mem_cons.2 ⟨pieceA x0 x1 x5 x7 (pair x8 x9) x10 960 1 1 320 rfl (by norm_num) (by norm_num) inb_S1920x2560_S320x2560_960_0 inb_S3x2x640x256_S1x1x320x256_1_0_320_0 inb_S1920x2560_S320x2560_960_0, ?_⟩
  refine List.forall_mem_cons.2 ⟨pieceB x0 x1 x5 x7 (pair x8 x9) x10 640 1 1 0 rfl (by norm_num) (by norm_num) inb_S1920x2560_S320x2560_640_0 inb_S3x2x640x256_S1x1x320x256_1_1_0_0 inb_S1920x2560_S320x2560_640_0, ?_⟩
  refine List.forall_mem_cons.2 ⟨pieceA x0 x1 x5 x7 (pair x8 x9) x10 640 1 1 0 rfl (by norm_num) (by norm_num) inb_S1920x2560_S320x2560_640_0 inb_S3x2x640x256_S1x1x320x256_1_0_0_0 inb_S1920x2560_S320x2560_640_0, ?_⟩
  refine List.forall_mem_cons.2 ⟨pieceB x0 x1 x5 x7 (pair x8 x9) x10 320 0 0 320 rfl (by norm_num) (by norm_num) inb_S1920x2560_S320x2560_320_0 inb_S3x2x640x256_S1x1x320x256_0_1_320_0 inb_S1920x2560_S320x2560_320_0, ?_⟩
  refine List.forall_mem_cons.2 ⟨pieceA x0 x1 x5 x7 (pair x8 x9) x10 320 0 0 320 rfl (by norm_num) (by norm_num) inb_S1920x2560_S320x2560_320_0 inb_S3x2x640x256_S1x1x320x256_0_0_320_0 inb_S1920x2560_S320x2560_320_0, ?_⟩
  refine List.forall_mem_cons.2 ⟨pieceB x0 x1 x5 x7 (pair x8 x9) x10 0 0 0 0 rfl (by norm_num) (by norm_num) inb_S1920x2560_S320x2560_0_0 inb_S3x2x640x256_S1x1x320x256_0_1_0_0 inb_S1920x2560_S320x2560_0_0, ?_⟩
  refine List.forall_mem_cons.2 ⟨pieceA x0 x1 x5 x7 (pair x8 x9) x10 0 0 0 0 rfl (by norm_num) (by norm_num) inb_S1920x2560_S320x2560_0_0 inb_S3x2x640x256_S1x1x320x256_0_0_0_0 inb_S1920x2560_S320x2560_0_0, ?_⟩
  exact fun _ h => (List.not_mem_nil h).elim
theorem w_v668 : (kernelRun0_A.sl.v668 c arg1 harg1 arg2 harg2 arg6 harg6 arg8 harg8 arg9 harg9 arg10 harg10 arg11 harg11 arg12 arg13 arg15 x0 x1 x5 x7 x8 x9 x10) = part x0 x1 x5 x7 (pair x8 x9) x10 0 0 := by
  unfold kernelRun0_A.sl.v668
  rw [View.readCov_eq_canon']
  exact funext fun j => (gcodes _).trans (part_read x0 x1 x5 x7 (pair x8 x9) x10 0 0 0 0 rfl rfl _ j)
theorem w_v670 : (kernelRun0_A.sl.v670 c arg1 harg1 arg2 harg2 arg6 harg6 arg8 harg8 arg9 harg9 arg10 harg10 arg11 harg11 arg12 arg13 arg15 x0 x1 x5 x7 x8 x9 x10) = part x0 x1 x5 x7 (pair x8 x9) x10 1 0 := by
  unfold kernelRun0_A.sl.v670
  rw [View.readCov_eq_canon']
  exact funext fun j => (gcodes _).trans (part_read x0 x1 x5 x7 (pair x8 x9) x10 1 0 1 0 rfl rfl _ j)
theorem w_v672 : (kernelRun0_A.sl.v672 c arg1 harg1 arg2 harg2 arg6 harg6 arg8 harg8 arg9 harg9 arg10 harg10 arg11 harg11 arg12 arg13 arg15 x0 x1 x5 x7 x8 x9 x10) = part x0 x1 x5 x7 (pair x8 x9) x10 2 0 := by
  unfold kernelRun0_A.sl.v672
  rw [View.readCov_eq_canon']
  exact funext fun j => (gcodes _).trans (part_read x0 x1 x5 x7 (pair x8 x9) x10 2 0 2 0 rfl rfl _ j)
theorem w_v682 : (kernelRun0_A.sl.v682 c arg1 harg1 arg2 harg2 arg6 harg6 arg8 harg8 arg9 harg9 arg10 harg10 arg11 harg11 arg12 arg13 arg15 x0 x1 x5 x7 x8 x9 x10) = part x0 x1 x5 x7 (pair x8 x9) x10 0 1 := by
  unfold kernelRun0_A.sl.v682
  rw [View.readCov_eq_canon']
  exact funext fun j => (gcodes _).trans (part_read x0 x1 x5 x7 (pair x8 x9) x10 0 1 0 1 rfl rfl _ j)
theorem w_v684 : (kernelRun0_A.sl.v684 c arg1 harg1 arg2 harg2 arg6 harg6 arg8 harg8 arg9 harg9 arg10 harg10 arg11 harg11 arg12 arg13 arg15 x0 x1 x5 x7 x8 x9 x10) = part x0 x1 x5 x7 (pair x8 x9) x10 1 1 := by
  unfold kernelRun0_A.sl.v684
  rw [View.readCov_eq_canon']
  exact funext fun j => (gcodes _).trans (part_read x0 x1 x5 x7 (pair x8 x9) x10 1 1 1 1 rfl rfl _ j)
theorem w_v686 : (kernelRun0_A.sl.v686 c arg1 harg1 arg2 harg2 arg6 harg6 arg8 harg8 arg9 harg9 arg10 harg10 arg11 harg11 arg12 arg13 arg15 x0 x1 x5 x7 x8 x9 x10) = part x0 x1 x5 x7 (pair x8 x9) x10 2 1 := by
  unfold kernelRun0_A.sl.v686
  rw [View.readCov_eq_canon']
  exact funext fun j => (gcodes _).trans (part_read x0 x1 x5 x7 (pair x8 x9) x10 2 1 2 1 rfl rfl _ j)

/-- The stores of the two weight gradients. -/
theorem halves : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10).2.2.2.2.1 = [⟨Rect.unit (s := S2560x2x256) ![0, 1, 0] S2560x1x256.size inb_S2560x2x256_S2560x1x256_0_1_0, k0_pay1 (kernelRun0_A.sl.r_69 c arg2 harg2 x1) (kernelRun0_A.sl.r_71 c arg1 harg1 arg2 harg2 arg6 harg6 arg7 harg7 arg8 harg8 arg9 harg9 arg10 harg10 arg11 harg11 arg12 arg13 arg15 x0 x1 x5 x6 x7 x8 x9 x10)⟩,
    ⟨Rect.unit (s := S2560x2x256) ![0, 0, 0] S2560x1x256.size inb_S2560x2x256_S2560x1x256_0_0_0, k0_pay116 (kernelRun0_A.sl.r_69 c arg2 harg2 x1) (kernelRun0_A.sl.v668 c arg1 harg1 arg2 harg2 arg6 harg6 arg8 harg8 arg9 harg9 arg10 harg10 arg11 harg11 arg12 arg13 arg15 x0 x1 x5 x7 x8 x9 x10) (kernelRun0_A.sl.v670 c arg1 harg1 arg2 harg2 arg6 harg6 arg8 harg8 arg9 harg9 arg10 harg10 arg11 harg11 arg12 arg13 arg15 x0 x1 x5 x7 x8 x9 x10) (kernelRun0_A.sl.v672 c arg1 harg1 arg2 harg2 arg6 harg6 arg8 harg8 arg9 harg9 arg10 harg10 arg11 harg11 arg12 arg13 arg15 x0 x1 x5 x7 x8 x9 x10)
      (View.readAt (Elt Ideal) arg7.view (Rect.unit (s := S2560x1920) ![0, 0] S2560x1920.size inb_S2560x1920_S2560x1920_0_0).toLoadRect (harg7.unread x6))⟩] := rfl
theorem whole : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10).2.2.2.2.2.1 = [⟨Rect.unit (s := S256x2560) ![0, 0] S256x2560.size inb_S256x2560_S256x2560_0_0, (kernelRun0_A.sl.r_70 c arg1 harg1 arg2 harg2 arg6 harg6 arg8 harg8 arg9 harg9 arg10 harg10 arg12 arg14 x0 x1 x5 x7 x8 x9)⟩] := rfl

/-- What the output windows hold. -/
theorem out_11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 = w13cA x0 (pair x8 x9) := by
  unfold out0_A_11
  rw [View.read_writes_junk_eq_canon]
  exact funext codes
theorem out_12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 = w2cA x0 x10 := by
  unfold out0_A_12
  rw [View.read_writes_junk_eq_canon]
  exact codes2
theorem out_13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 = hcA x0 x1 x5 (pair x8 x9) := by
  unfold out0_A_13
  rw [View.read_writes_junk_eq_canon]
  exact funext hcodes
theorem out_14 : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 = dgcA x0 x1 x5 x7 (pair x8 x9) x10 := by
  unfold out0_A_14
  rw [View.read_writes_junk_eq_canon]
  exact funext gcodes
theorem out_15 : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 = dw13A x0 x1 x5 x6 x7 (pair x8 x9) x10 := by
  unfold out0_A_15
  rw [View.read_writes_junk_eq_canon]
  refine funext fun y => View.canon_apply_of_pieces (dw13A x0 x1 x5 x6 x7 (pair x8 x9) x10) _ ?_ y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 y)
  rw [halves]
  simp only [kernelRun0_A.sl.r_69, kernelRun0_A.sl.r_70, kernelRun0_A.sl.r_71, w_v668, w_v670, w_v672, w_v682, w_v684, w_v686, w_r, w_r_10, w_r_11, w_r_12, w_r_13, w_r_18, w_r_19, w_r_6, w_r_67, w_r_68, View.readAt_eq_ld, harg6.read_unread, harg7.read_unread, harg8.read_unread, harg9.read_unread, harg10.read_unread, harg11.read_unread, ld2, ld3]
  exact List.forall_mem_cons.2 ⟨pieceHi x0 x1 x5 x7 (pair x8 x9) x10 x6 inb_S2560x2x256_S2560x1x256_0_1_0, List.forall_mem_cons.2 ⟨pieceLo x0 x1 x5 x7 (pair x8 x9) x10 x6 inb_S2560x2x256_S2560x1x256_0_0_0,
    fun _ h => (List.not_mem_nil h).elim⟩⟩
theorem out_16 : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 = dw2A x0 x1 x5 x7 (pair x8 x9) := by
  unfold out0_A_16
  rw [View.read_writes_junk_eq_canon]
  rw [whole]
  simp only [kernelRun0_A.sl.r_69, kernelRun0_A.sl.r_70, kernelRun0_A.sl.r_71, w_v661, w_r, w_r_10, w_r_11, w_r_12, w_r_13, w_r_18, w_r_19, w_r_6, w_r_67, w_r_68, View.readAt_eq_ld, harg6.read_unread, harg7.read_unread, harg8.read_unread, harg9.read_unread, harg10.read_unread, harg11.read_unread, ld2, ld3]
  rw [canon2]
  exact dw2_eq x0 x1 x5 x7 (pair x8 x9)

end Cert.Proof.Main.CaseA

end
-- ==== Proof.MainFoldA.lean ====
/- The running maxima after the first grid point. -/
module

public import proofs.«01_k».proof.Proof.MainMax
public import proofs.«01_k».proof.Proof.MainCaseA

@[expose] public section

set_option maxRecDepth 16384

noncomputable section

namespace Cert.Proof.Main.CaseA

open Cert.MainIdeal Cert.MainIdeal.Gen Cert.Proof.Main Cert.Proof.Main.Ker
open Idealize.ShloMosaic hiding ix1 ix2 ix3 ix4 eq_ix1 eq_ix2 eq_ix3 eq_ix4
open Idealize.ShloMosaic.TcCoe Idealize.ShloMosaic.ValueIdx Idealize.SL.Sem

variable {c : Dev nD} {i : grid0.Coords} {arg1 : Memref sig .tc .smem S6 .f32} {harg1 : arg1.IsWhole} {arg2 : Memref sig .tc .smem S6 .f32} {harg2 : arg2.IsWhole} {arg3 : Memref sig .tc .vmem S6x16 .f32} {harg3 : arg3.IsWhole} {arg4 : Memref sig .tc .vmem S8x128 .f32} {harg4 : arg4.IsWhole} {arg5 : Memref sig .tc .vmem S8x128 .f32} {harg5 : arg5.IsWhole} {arg6 : Memref sig .tc .vmem S1920x2560 .fp8e4m3} {harg6 : arg6.IsWhole} {arg7 : Memref sig .tc .vmem S2560x1920 .fp8e4m3} {harg7 : arg7.IsWhole} {arg8 : Memref sig .tc .vmem S1920x2560 .fp8e4m3} {harg8 : arg8.IsWhole} {arg9 : Memref sig .tc .vmem S2560x2x128 .bf16} {harg9 : arg9.IsWhole} {arg10 : Memref sig .tc .vmem S2560x2x128 .bf16} {harg10 : arg10.IsWhole} {arg11 : Memref sig .tc .vmem S256x2560 .bf16} {harg11 : arg11.IsWhole} {arg12 : Memref sig .tc .vmem S2x2560x256 .fp8e4m3} {harg12 : arg12.IsWhole} {arg13 : Memref sig .tc .vmem S256x2560 .fp8e4m3} {harg13 : arg13.IsWhole} {arg14 : Memref sig .tc .vmem S1920x256 .fp8e4m3} {harg14 : arg14.IsWhole} {arg15 : Memref sig .tc .vmem S3x2x640x256 .fp8e4m3} {harg15 : arg15.IsWhole} {arg16 : Memref sig .tc .vmem S2560x2x256 .f32} {harg16 : arg16.IsWhole} {arg17 : Memref sig .tc .vmem S256x2560 .f32} {harg17 : arg17.IsWhole} {arg18 : Memref sig .tc .vmem S6x16 .f32} {harg18 : arg18.IsWhole} {arg19 : Memref sig .tc .vmem S6x1 .f32} {harg19 : arg19.IsWhole} {arg20 : Memref sig .tc .vmem S8x128 .f32} {harg20 : arg20.IsWhole} {arg21 : Memref sig .tc .vmem S8x128 .f32} {harg21 : arg21.IsWhole} {arg22 : Memref sig .tc .vmem S8x128 .f32} {harg22 : arg22.IsWhole} {arg23 : Memref sig .tc .vmem S8x128 .f32} {harg23 : arg23.IsWhole} {hc0 : cond0_0 i} {hc1 : ¬cond0_1 i} {x0 : Vec Ideal S6 .f32} {x1 : Vec Ideal S6 .f32} {x2 : Vec Ideal S6x16 .f32} {x3 : Vec Ideal S8x128 .f32} {x4 : Vec Ideal S8x128 .f32} {x5 : Vec Ideal S1920x2560 .fp8e4m3} {x6 : Vec Ideal S2560x1920 .fp8e4m3} {x7 : Vec Ideal S1920x2560 .fp8e4m3} {x8 : Vec Ideal S2560x2x128 .bf16} {x9 : Vec Ideal S2560x2x128 .bf16} {x10 : Vec Ideal S256x2560 .bf16}
theorem w_v3 : (kernelRun0_A.sl.v3 (F := Ideal) c arg20) = k0_pay9 (F := Ideal) := by
  unfold kernelRun0_A.sl.v3 kernelRun0_A.sl.HS0_1
  rw [View.readCov_eq_canon', canon2]
  exact funext fun j => congrArg _ (whole2 _ j)
theorem w_v96 : (kernelRun0_A.sl.v96 (F := Ideal) c arg21) = k0_pay9 (F := Ideal) := by
  unfold kernelRun0_A.sl.v96 kernelRun0_A.sl.HS1_1
  rw [View.readCov_eq_canon', canon2]
  exact funext fun j => congrArg _ (whole2 _ j)
theorem w_v149 : (kernelRun0_A.sl.v149 (F := Ideal) c arg22) = k0_pay9 (F := Ideal) := by
  unfold kernelRun0_A.sl.v149 kernelRun0_A.sl.HS2_1
  rw [View.readCov_eq_canon', canon2]
  exact funext fun j => congrArg _ (whole2 _ j)
theorem w_v150 : (kernelRun0_A.sl.v150 (F := Ideal) c arg23) = k0_pay9 (F := Ideal) := by
  unfold kernelRun0_A.sl.v150 kernelRun0_A.sl.HS3_1
  rw [View.readCov_eq_canon', canon2]
  exact funext fun j => congrArg _ (whole2 _ j)

theorem scr0 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10).2.2.2.2.2.2.2.2.1 = ⟨Rect.unit (s := S8x128) ![0, 0] S8x128.size inb_S8x128_S8x128_0_0, k0_pay22 (kernelRun0_A.sl.r_3 c arg9 harg9 arg20 x8) (kernelRun0_A.sl.r_4 c arg10 harg10 x9) (kernelRun0_A.sl.r_5 c arg10 harg10 x9)⟩ :: (kernelRun0_A.sl.HS0_1) := rfl
theorem sc0 (B : EReal) : UB (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10) B ↔ 0 ≤ B ∧ ∀ k γ f, ab (pair x8 x9 (ix3 k γ f)) ≤ B := by
  unfold sout0_A_0
  rw [View.read_writes_junk_eq_canon, scr0, View.canon_cons_unit_zero hz2]
  simp only [kernelRun0_A.sl.r_3, kernelRun0_A.sl.r_1, kernelRun0_A.sl.r_2, kernelRun0_A.sl.r_4, kernelRun0_A.sl.r_5, w_v3, View.readAt_eq_ld, harg9.read_unread, harg10.read_unread, ld2, ld3]
  exact (fold13 B (k0_pay9 (F := Ideal)) x8 x9).trans (and_congr (ub_zero B) Iff.rfl)

theorem scr1 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10).2.2.2.2.2.2.2.2.2.1 = ⟨Rect.unit (s := S8x128) ![0, 0] S8x128.size inb_S8x128_S8x128_0_0, k0_pay28 (kernelRun0_A.sl.v96 c arg21) (kernelRun0_A.sl.r_7 c arg11 harg11 x10) (kernelRun0_A.sl.r_8 c arg11 harg11 x10) (kernelRun0_A.sl.r_9 c arg11 harg11 x10)⟩ :: (kernelRun0_A.sl.HS1_1) := rfl
theorem sc1 (B : EReal) : UB (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10) B ↔ 0 ≤ B ∧ ∀ f d, ab (x10 (ix2 f d)) ≤ B := by
  unfold sout0_A_1
  rw [View.read_writes_junk_eq_canon, scr1, View.canon_cons_unit_zero hz2]
  simp only [kernelRun0_A.sl.r_7, kernelRun0_A.sl.r_8, kernelRun0_A.sl.r_9, w_v96, View.readAt_eq_ld, harg11.read_unread, ld2, ld3]
  exact (fold2 B (k0_pay9 (F := Ideal)) x10).trans (and_congr (ub_zero B) Iff.rfl)

theorem scr2 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10).2.2.2.2.2.2.2.2.2.2.1 = ⟨Rect.unit (s := S8x128) ![0, 0] S8x128.size inb_S8x128_S8x128_0_0, k0_pay112 (kernelRun0_A.sl.r_57 c arg1 harg1 arg2 harg2 arg6 harg6 arg9 harg9 arg10 harg10 arg12 arg22 x0 x1 x5 x8 x9) (kernelRun0_A.sl.r_62 c arg1 harg1 arg2 harg2 arg6 harg6 arg9 harg9 arg10 harg10 arg12 x0 x1 x5 x8 x9)⟩ :: (kernelRun0_A.sl.HS2_1) := rfl
theorem sc2 (B : EReal) : UB (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10) B ↔ 0 ≤ B ∧ ∀ r f, ab (hAt x0 x1 x5 (pair x8 x9) r f) ≤ B := by
  unfold sout0_A_2
  rw [View.read_writes_junk_eq_canon, scr2, View.canon_cons_unit_zero hz2]
  simp only [kernelRun0_A.sl.r_57, kernelRun0_A.sl.r_46, kernelRun0_A.sl.r_38, kernelRun0_A.sl.r_32, kernelRun0_A.sl.r_24, kernelRun0_A.sl.r_20, kernelRun0_A.sl.r_14, kernelRun0_A.sl.r_16, kernelRun0_A.sl.r_17, kernelRun0_A.sl.r_28, kernelRun0_A.sl.r_26, kernelRun0_A.sl.r_27, kernelRun0_A.sl.cst_98, kernelRun0_A.sl.r_34, kernelRun0_A.sl.r_42, kernelRun0_A.sl.r_55, kernelRun0_A.sl.r_52, kernelRun0_A.sl.r_56, kernelRun0_A.sl.r_62, w_v149, w_r_10, w_r_11, w_v152, w_v158, View.readAt_eq_ld, harg6.read_unread, harg9.read_unread, harg10.read_unread, ld2, ld3]
  exact (foldH B x0 x1 x5 (pair x8 x9) (k0_pay9 (F := Ideal))).trans (and_congr (ub_zero B) Iff.rfl)

theorem scr3 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10).2.2.2.2.2.2.2.2.2.2.2.1 = ⟨Rect.unit (s := S8x128) ![0, 0] S8x128.size inb_S8x128_S8x128_0_0, k0_pay113 (kernelRun0_A.sl.r_58 c arg1 harg1 arg2 harg2 arg6 harg6 arg8 harg8 arg9 harg9 arg10 harg10 arg11 harg11 arg12 arg13 arg23 x0 x1 x5 x7 x8 x9 x10) (kernelRun0_A.sl.r_64 c arg1 harg1 arg2 harg2 arg6 harg6 arg8 harg8 arg9 harg9 arg10 harg10 arg11 harg11 arg12 arg13 x0 x1 x5 x7 x8 x9 x10) (kernelRun0_A.sl.r_65 c arg1 harg1 arg2 harg2 arg6 harg6 arg8 harg8 arg9 harg9 arg10 harg10 arg11 harg11 arg12 arg13 x0 x1 x5 x7 x8 x9 x10)⟩ :: (kernelRun0_A.sl.HS3_1) := rfl
theorem sc3 (B : EReal) : UB (sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10) B ↔ 0 ≤ B ∧ ∀ r γ f, ab (dgAt x0 x1 x5 x7 (pair x8 x9) x10 γ r f) ≤ B := by
  unfold sout0_A_3
  rw [View.read_writes_junk_eq_canon, scr3, View.canon_cons_unit_zero hz2]
  simp only [kernelRun0_A.sl.r_58, kernelRun0_A.sl.r_48, kernelRun0_A.sl.r_41, kernelRun0_A.sl.r_33, kernelRun0_A.sl.r_25, kernelRun0_A.sl.r_21, kernelRun0_A.sl.r_14, kernelRun0_A.sl.r_15, kernelRun0_A.sl.r_16, kernelRun0_A.sl.r_17, kernelRun0_A.sl.r_22, kernelRun0_A.sl.r_29, kernelRun0_A.sl.r_26, kernelRun0_A.sl.r_27, kernelRun0_A.sl.cst_98, kernelRun0_A.sl.r_30, kernelRun0_A.sl.r_39, kernelRun0_A.sl.r_35, kernelRun0_A.sl.r_40, kernelRun0_A.sl.r_36, kernelRun0_A.sl.r_44, kernelRun0_A.sl.r_47, kernelRun0_A.sl.r_43, kernelRun0_A.sl.r_53, kernelRun0_A.sl.r_54, kernelRun0_A.sl.r_49, kernelRun0_A.sl.r_50, kernelRun0_A.sl.r_51, kernelRun0_A.sl.r_64, kernelRun0_A.sl.r_59, kernelRun0_A.sl.r_61, kernelRun0_A.sl.r_63, kernelRun0_A.sl.cst_270, kernelRun0_A.sl.r_65, kernelRun0_A.sl.r_60, w_v150, w_r_10, w_r_11, w_r_12, w_r_13, w_v152, w_v158, w_v164, View.readAt_eq_ld, harg6.read_unread, harg8.read_unread, harg9.read_unread, harg10.read_unread, harg11.read_unread, ld2, ld3]
  exact (foldG B x0 x1 x5 x7 (pair x8 x9) x10 (k0_pay9 (F := Ideal))).trans (and_congr (ub_zero B) Iff.rfl)

end Cert.Proof.Main.CaseA

end
-- ==== Proof.MainCaseB.lean ====
/- The kernel's stores at a grid point (a middle one): what each output window then holds, in the block's own mathematics. -/
module

public import proofs.«01_k».proof.Proof.MainPieces
public import proofs.«01_k».proof.Proof.Gen.MainIdeal.Frame

@[expose] public section

set_option maxRecDepth 16384

noncomputable section

namespace Cert.Proof.Main.CaseB

open Cert.MainIdeal Cert.MainIdeal.Gen Cert.Proof.Main Cert.Proof.Main.Ker
open Idealize.ShloMosaic hiding ix1 ix2 ix3 ix4 eq_ix1 eq_ix2 eq_ix3 eq_ix4
open Idealize.ShloMosaic.TcCoe Idealize.ShloMosaic.ValueIdx Idealize.SL.Sem

variable {c : Dev nD} {i : grid0.Coords} {arg1 : Memref sig .tc .smem S6 .f32} {harg1 : arg1.IsWhole} {arg2 : Memref sig .tc .smem S6 .f32} {harg2 : arg2.IsWhole} {arg3 : Memref sig .tc .vmem S6x16 .f32} {harg3 : arg3.IsWhole} {arg4 : Memref sig .tc .vmem S8x128 .f32} {harg4 : arg4.IsWhole} {arg5 : Memref sig .tc .vmem S8x128 .f32} {harg5 : arg5.IsWhole} {arg6 : Memref sig .tc .vmem S1920x2560 .fp8e4m3} {harg6 : arg6.IsWhole} {arg7 : Memref sig .tc .vmem S2560x1920 .fp8e4m3} {harg7 : arg7.IsWhole} {arg8 : Memref sig .tc .vmem S1920x2560 .fp8e4m3} {harg8 : arg8.IsWhole} {arg9 : Memref sig .tc .vmem S2560x2x128 .bf16} {harg9 : arg9.IsWhole} {arg10 : Memref sig .tc .vmem S2560x2x128 .bf16} {harg10 : arg10.IsWhole} {arg11 : Memref sig .tc .vmem S256x2560 .bf16} {harg11 : arg11.IsWhole} {arg12 : Memref sig .tc .vmem S2x2560x256 .fp8e4m3} {harg12 : arg12.IsWhole} {arg13 : Memref sig .tc .vmem S256x2560 .fp8e4m3} {harg13 : arg13.IsWhole} {arg14 : Memref sig .tc .vmem S1920x256 .fp8e4m3} {harg14 : arg14.IsWhole} {arg15 : Memref sig .tc .vmem S3x2x640x256 .fp8e4m3} {harg15 : arg15.IsWhole} {arg16 : Memref sig .tc .vmem S2560x2x256 .f32} {harg16 : arg16.IsWhole} {arg17 : Memref sig .tc .vmem S256x2560 .f32} {harg17 : arg17.IsWhole} {arg18 : Memref sig .tc .vmem S6x16 .f32} {harg18 : arg18.IsWhole} {arg19 : Memref sig .tc .vmem S6x1 .f32} {harg19 : arg19.IsWhole} {arg20 : Memref sig .tc .vmem S8x128 .f32} {harg20 : arg20.IsWhole} {arg21 : Memref sig .tc .vmem S8x128 .f32} {harg21 : arg21.IsWhole} {arg22 : Memref sig .tc .vmem S8x128 .f32} {harg22 : arg22.IsWhole} {arg23 : Memref sig .tc .vmem S8x128 .f32} {harg23 : arg23.IsWhole} {hc0 : ¬cond0_0 i} {hc1 : ¬cond0_1 i} {x0 : Vec Ideal S6 .f32} {x1 : Vec Ideal S6 .f32} {x2 : Vec Ideal S6x16 .f32} {x3 : Vec Ideal S8x128 .f32} {x4 : Vec Ideal S8x128 .f32} {x5 : Vec Ideal S1920x2560 .fp8e4m3} {x6 : Vec Ideal S2560x1920 .fp8e4m3} {x7 : Vec Ideal S1920x2560 .fp8e4m3} {x8 : Vec Ideal S2560x2x128 .bf16} {x9 : Vec Ideal S2560x2x128 .bf16} {x10 : Vec Ideal S256x2560 .bf16} {xs0 : Vec Ideal S8x128 .f32} {xs1 : Vec Ideal S8x128 .f32} {xs2 : Vec Ideal S8x128 .f32} {xs3 : Vec Ideal S8x128 .f32}

/-- The scalar words. -/
theorem w_r : (kernelRun0_B.sl.r c arg1 harg1 x0) = x0 (ix1 1) := by
  unfold kernelRun0_B.sl.r
  rw [View.readAt_eq_ld, harg1.read_unread]
  exact word1 _ _ _
theorem w_r_12 : (kernelRun0_B.sl.r_12 c arg2 harg2 x1) = x1 (ix1 0) := by
  unfold kernelRun0_B.sl.r_12
  rw [View.readAt_eq_ld, harg2.read_unread]
  exact word0 _ _ _
theorem w_r_13 : (kernelRun0_B.sl.r_13 c arg2 harg2 x1) = x1 (ix1 1) := by
  unfold kernelRun0_B.sl.r_13
  rw [View.readAt_eq_ld, harg2.read_unread]
  exact word1 _ _ _
theorem w_r_14 : (kernelRun0_B.sl.r_14 c arg2 harg2 x1) = x1 (ix1 4) := by
  unfold kernelRun0_B.sl.r_14
  rw [View.readAt_eq_ld, harg2.read_unread]
  exact word4 _ _ _
theorem w_r_15 : (kernelRun0_B.sl.r_15 c arg2 harg2 x1) = x1 (ix1 2) := by
  unfold kernelRun0_B.sl.r_15
  rw [View.readAt_eq_ld, harg2.read_unread]
  exact word2 _ _ _
theorem w_r_22 : (kernelRun0_B.sl.r_22 c arg1 harg1 x0) = x0 (ix1 3) := by
  unfold kernelRun0_B.sl.r_22
  rw [View.readAt_eq_ld, harg1.read_unread]
  exact word3 _ _ _
theorem w_r_23 : (kernelRun0_B.sl.r_23 c arg1 harg1 x0) = x0 (ix1 5) := by
  unfold kernelRun0_B.sl.r_23
  rw [View.readAt_eq_ld, harg1.read_unread]
  exact word5 _ _ _
theorem w_r_7 : (kernelRun0_B.sl.r_7 c arg1 harg1 x0) = x0 (ix1 2) := by
  unfold kernelRun0_B.sl.r_7
  rw [View.readAt_eq_ld, harg1.read_unread]
  exact word2 _ _ _
theorem w_r_71 : (kernelRun0_B.sl.r_71 c arg2 harg2 x1) = x1 (ix1 3) := by
  unfold kernelRun0_B.sl.r_71
  rw [View.readAt_eq_ld, harg2.read_unread]
  exact word3 _ _ _
theorem w_r_72 : (kernelRun0_B.sl.r_72 c arg2 harg2 x1) = x1 (ix1 5) := by
  unfold kernelRun0_B.sl.r_72
  rw [View.readAt_eq_ld, harg2.read_unread]
  exact word5 _ _ _

/-- The gate weight codes: every stored rectangle holds its part. -/
theorem codes (y) : View.canon (kernelRun0_B.sl.H11_4 c arg1 harg1 arg9 harg9 arg10 harg10 x0 x8 x9) y = w13cA x0 (pair x8 x9) y := by
  refine View.canon_apply_of_pieces (w13cA x0 (pair x8 x9)) _ ?_ y (View.cover_of_tiledL (kernelRun0_B.sl.H11_4 c arg1 harg1 arg9 harg9 arg10 harg10 x0 x8 x9) S1x2560x128.size (by sl_kernel_rfl) y)
  unfold kernelRun0_B.sl.H11_4
  simp only [w_r, View.readAt_eq_ld, harg9.read_unread, harg10.read_unread, ld2, ld3]
  exact List.forall_mem_cons.2 ⟨piece21 x0 x8 x9 inb_S2x2560x256_S1x2560x128_1_0_128, List.forall_mem_cons.2 ⟨piece20 x0 x8 x9 inb_S2x2560x256_S1x2560x128_0_0_128,
    List.forall_mem_cons.2 ⟨piece16 x0 x8 x9 inb_S2x2560x256_S1x2560x128_1_0_0, List.forall_mem_cons.2 ⟨piece15 x0 x8 x9 inb_S2x2560x256_S1x2560x128_0_0_0, fun _ h => (List.not_mem_nil h).elim⟩⟩⟩⟩
theorem w_v152 : (kernelRun0_B.sl.v152 c arg1 harg1 arg9 harg9 arg10 harg10 arg12 x0 x8 x9) = plane x0 (pair x8 x9) 0 := by
  unfold kernelRun0_B.sl.v152
  rw [View.readCov_eq_canon']
  exact funext fun j => (codes _).trans (plane0_read x0 _ _ j)
theorem w_v158 : (kernelRun0_B.sl.v158 c arg1 harg1 arg9 harg9 arg10 harg10 arg12 x0 x8 x9) = plane x0 (pair x8 x9) 1 := by
  unfold kernelRun0_B.sl.v158
  rw [View.readCov_eq_canon']
  exact funext fun j => (codes _).trans (plane1_read x0 _ _ j)

/-- The down-projection codes. -/
theorem codes2 : View.canon (kernelRun0_B.sl.H12_1 c arg1 harg1 arg11 harg11 x0 x10) = w2cA x0 x10 := by
  unfold kernelRun0_B.sl.H12_1
  simp only [w_r_7, View.readAt_eq_ld, harg11.read_unread, ld2, ld3]
  rw [canon2]
  exact w2c_eq x0 x10
theorem w_v164 : (kernelRun0_B.sl.v164 c arg1 harg1 arg11 harg11 arg13 x0 x10) = w2cA x0 x10 := by
  unfold kernelRun0_B.sl.v164
  rw [View.readCov_eq_canon', codes2]
  exact funext fun j => congrArg (w2cA x0 x10) (whole2 _ j)

/-- The activation codes, chunk by chunk. -/
theorem hcodes (y) : View.canon (kernelRun0_B.sl.H13_6 c arg1 harg1 arg2 harg2 arg6 harg6 arg9 harg9 arg10 harg10 arg12 x0 x1 x5 x8 x9) y = hcA x0 x1 x5 (pair x8 x9) y := by
  refine View.canon_apply_of_pieces (hcA x0 x1 x5 (pair x8 x9)) _ ?_ y (View.cover_of_tiledL (kernelRun0_B.sl.H13_6 c arg1 harg1 arg2 harg2 arg6 harg6 arg9 harg9 arg10 harg10 arg12 x0 x1 x5 x8 x9) S320x256.size (by sl_kernel_rfl) y)
  unfold kernelRun0_B.sl.H13_6
  simp only [kernelRun0_B.sl.r_20, kernelRun0_B.sl.r_21, kernelRun0_B.sl.r_31, kernelRun0_B.sl.r_30, kernelRun0_B.sl.r_49, kernelRun0_B.sl.r_41, kernelRun0_B.sl.cst_193, kernelRun0_B.sl.cst_98, kernelRun0_B.sl.r_16, kernelRun0_B.sl.r_56, kernelRun0_B.sl.r_66, w_v152, w_v158, w_r_12, w_r_13, w_r_22, View.readAt_eq_ld, harg6.read_unread, harg9.read_unread, harg10.read_unread, ld2, ld3]
  refine List.forall_mem_cons.2 ⟨pieceH x0 x1 x5 (pair x8 x9) 1600 (by norm_num) inb_S1920x2560_S320x2560_1600_0 inb_S1920x256_S320x256_1600_0, ?_⟩
  refine List.forall_mem_cons.2 ⟨pieceH x0 x1 x5 (pair x8 x9) 1280 (by norm_num) inb_S1920x2560_S320x2560_1280_0 inb_S1920x256_S320x256_1280_0, ?_⟩
  refine List.forall_mem_cons.2 ⟨pieceH x0 x1 x5 (pair x8 x9) 960 (by norm_num) inb_S1920x2560_S320x2560_960_0 inb_S1920x256_S320x256_960_0, ?_⟩
  refine List.forall_mem_cons.2 ⟨pieceH x0 x1 x5 (pair x8 x9) 640 (by norm_num) inb_S1920x2560_S320x2560_640_0 inb_S1920x256_S320x256_640_0, ?_⟩
  refine List.forall_mem_cons.2 ⟨pieceH x0 x1 x5 (pair x8 x9) 320 (by norm_num) inb_S1920x2560_S320x2560_320_0 inb_S1920x256_S320x256_320_0, ?_⟩
  refine List.forall_mem_cons.2 ⟨pieceH x0 x1 x5 (pair x8 x9) 0 (by norm_num) inb_S1920x2560_S320x2560_0_0 inb_S1920x256_S320x256_0_0, ?_⟩
  exact fun _ h => (List.not_mem_nil h).elim
theorem w_v661 : (kernelRun0_B.sl.v661 c arg1 harg1 arg2 harg2 arg6 harg6 arg9 harg9 arg10 harg10 arg12 arg14 x0 x1 x5 x8 x9) = hcA x0 x1 x5 (pair x8 x9) := by
  unfold kernelRun0_B.sl.v661
  rw [View.readCov_eq_canon']
  exact funext fun j => (hcodes _).trans (congrArg (hcA x0 x1 x5 (pair x8 x9)) (whole2 _ j))

/-- The gradient codes, chunk by chunk. -/
theorem gcodes (y) : View.canon (kernelRun0_B.sl.H14_12 c arg1 harg1 arg2 harg2 arg6 harg6 arg8 harg8 arg9 harg9 arg10 harg10 arg11 harg11 arg12 arg13 x0 x1 x5 x7 x8 x9 x10) y = dgcA x0 x1 x5 x7 (pair x8 x9) x10 y := by
  refine View.canon_apply_of_pieces (dgcA x0 x1 x5 x7 (pair x8 x9) x10) _ ?_ y (View.cover_of_tiledL (kernelRun0_B.sl.H14_12 c arg1 harg1 arg2 harg2 arg6 harg6 arg8 harg8 arg9 harg9 arg10 harg10 arg11 harg11 arg12 arg13 x0 x1 x5 x7 x8 x9 x10) S1x1x320x256.size (by sl_kernel_rfl) y)
  unfold kernelRun0_B.sl.H14_12
  simp only [kernelRun0_B.sl.r_63, kernelRun0_B.sl.r_35, kernelRun0_B.sl.r_20, kernelRun0_B.sl.r_70, kernelRun0_B.sl.r_65, kernelRun0_B.sl.r_54, kernelRun0_B.sl.r_26, kernelRun0_B.sl.r_57, kernelRun0_B.sl.r_31, kernelRun0_B.sl.r_30, kernelRun0_B.sl.r_55, kernelRun0_B.sl.r_53, kernelRun0_B.sl.cst_98, kernelRun0_B.sl.r_48, kernelRun0_B.sl.r_17, kernelRun0_B.sl.r_34, kernelRun0_B.sl.r_16, kernelRun0_B.sl.r_64, kernelRun0_B.sl.r_67, kernelRun0_B.sl.cst_270, kernelRun0_B.sl.r_21, kernelRun0_B.sl.r_47, kernelRun0_B.sl.r_27, kernelRun0_B.sl.r_40, kernelRun0_B.sl.r_39, w_v152, w_v158, w_v164, w_r_12, w_r_13, w_r_14, w_r_15, w_r_23, View.readAt_eq_ld, harg6.read_unread, harg8.read_unread, harg9.read_unread, harg10.read_unread, harg11.read_unread, ld2, ld3]
  refine List.forall_mem_cons.2 ⟨pieceB x0 x1 x5 x7 (pair x8 x9) x10 1600 2 2 320 rfl (by norm_num) (by norm_num) inb_S1920x2560_S320x2560_1600_0 inb_S3x2x640x256_S1x1x320x256_2_1_320_0 inb_S1920x2560_S320x2560_1600_0, ?_⟩
  refine List.forall_mem_cons.2 ⟨pieceA x0 x1 x5 x7 (pair x8 x9) x10 1600 2 2 320 rfl (by norm_num) (by norm_num) inb_S1920x2560_S320x2560_1600_0 inb_S3x2x640x256_S1x1x320x256_2_0_320_0 inb_S1920x2560_S320x2560_1600_0, ?_⟩
  refine List.forall_mem_cons.2 ⟨pieceB x0 x1 x5 x7 (pair x8 x9) x10 1280 2 2 0 rfl (by norm_num) (by norm_num) inb_S1920x2560_S320x2560_1280_0 inb_S3x2x640x256_S1x1x320x256_2_1_0_0 inb_S1920x2560_S320x2560_1280_0, ?_⟩
  refine List.forall_mem_cons.2 ⟨pieceA x0 x1 x5 x7 (pair x8 x9) x10 1280 2 2 0 rfl (by norm_num) (by norm_num) inb_S1920x2560_S320x2560_1280_0 inb_S3x2x640x256_S1x1x320x256_2_0_0_0 inb_S1920x2560_S320x2560_1280_0, ?_⟩
  refine List.forall_mem_cons.2 ⟨pieceB x0 x1 x5 x7 (pair x8 x9) x10 960 1 1 320 rfl (by norm_num) (by norm_num) inb_S1920x2560_S320x2560_960_0 inb_S3x2x640x256_S1x1x320x256_1_1_320_0 inb_S1920x2560_S320x2560_960_0, ?_⟩
  refine List.forall_mem_cons.2 ⟨pieceA x0 x1 x5 x7 (pair x8 x9) x10 960 1 1 320 rfl (by norm_num) (by norm_num) inb_S1920x2560_S320x2560_960_0 inb_S3x2x640x256_S1x1x320x256_1_0_320_0 inb_S1920x2560_S320x2560_960_0, ?_⟩
  refine List.forall_mem_cons.2 ⟨pieceB x0 x1 x5 x7 (pair x8 x9) x10 640 1 1 0 rfl (by norm_num) (by norm_num) inb_S1920x2560_S320x2560_640_0 inb_S3x2x640x256_S1x1x320x256_1_1_0_0 inb_S1920x2560_S320x2560_640_0, ?_⟩
  refine List.forall_mem_cons.2 ⟨pieceA x0 x1 x5 x7 (pair x8 x9) x10 640 1 1 0 rfl (by norm_num) (by norm_num) inb_S1920x2560_S320x2560_640_0 inb_S3x2x640x256_S1x1x320x256_1_0_0_0 inb_S1920x2560_S320x2560_640_0, ?_⟩
  refine List.forall_mem_cons.2 ⟨pieceB x0 x1 x5 x7 (pair x8 x9) x10 320 0 0 320 rfl (by norm_num) (by norm_num) inb_S1920x2560_S320x2560_320_0 inb_S3x2x640x256_S1x1x320x256_0_1_320_0 inb_S1920x2560_S320x2560_320_0, ?_⟩
  refine List.forall_mem_cons.2 ⟨pieceA x0 x1 x5 x7 (pair x8 x9) x10 320 0 0 320 rfl (by norm_num) (by norm_num) inb_S1920x2560_S320x2560_320_0 inb_S3x2x640x256_S1x1x320x256_0_0_320_0 inb_S1920x2560_S320x2560_320_0, ?_⟩
  refine List.forall_mem_cons.2 ⟨pieceB x0 x1 x5 x7 (pair x8 x9) x10 0 0 0 0 rfl (by norm_num) (by norm_num) inb_S1920x2560_S320x2560_0_0 inb_S3x2x640x256_S1x1x320x256_0_1_0_0 inb_S1920x2560_S320x2560_0_0, ?_⟩
  refine List.forall_mem_cons.2 ⟨pieceA x0 x1 x5 x7 (pair x8 x9) x10 0 0 0 0 rfl (by norm_num) (by norm_num) inb_S1920x2560_S320x2560_0_0 inb_S3x2x640x256_S1x1x320x256_0_0_0_0 inb_S1920x2560_S320x2560_0_0, ?_⟩
  exact fun _ h => (List.not_mem_nil h).elim
theorem w_v668 : (kernelRun0_B.sl.v668 c arg1 harg1 arg2 harg2 arg6 harg6 arg8 harg8 arg9 harg9 arg10 harg10 arg11 harg11 arg12 arg13 arg15 x0 x1 x5 x7 x8 x9 x10) = part x0 x1 x5 x7 (pair x8 x9) x10 0 0 := by
  unfold kernelRun0_B.sl.v668
  rw [View.readCov_eq_canon']
  exact funext fun j => (gcodes _).trans (part_read x0 x1 x5 x7 (pair x8 x9) x10 0 0 0 0 rfl rfl _ j)
theorem w_v670 : (kernelRun0_B.sl.v670 c arg1 harg1 arg2 harg2 arg6 harg6 arg8 harg8 arg9 harg9 arg10 harg10 arg11 harg11 arg12 arg13 arg15 x0 x1 x5 x7 x8 x9 x10) = part x0 x1 x5 x7 (pair x8 x9) x10 1 0 := by
  unfold kernelRun0_B.sl.v670
  rw [View.readCov_eq_canon']
  exact funext fun j => (gcodes _).trans (part_read x0 x1 x5 x7 (pair x8 x9) x10 1 0 1 0 rfl rfl _ j)
theorem w_v672 : (kernelRun0_B.sl.v672 c arg1 harg1 arg2 harg2 arg6 harg6 arg8 harg8 arg9 harg9 arg10 harg10 arg11 harg11 arg12 arg13 arg15 x0 x1 x5 x7 x8 x9 x10) = part x0 x1 x5 x7 (pair x8 x9) x10 2 0 := by
  unfold kernelRun0_B.sl.v672
  rw [View.readCov_eq_canon']
  exact funext fun j => (gcodes _).trans (part_read x0 x1 x5 x7 (pair x8 x9) x10 2 0 2 0 rfl rfl _ j)
theorem w_v682 : (kernelRun0_B.sl.v682 c arg1 harg1 arg2 harg2 arg6 harg6 arg8 harg8 arg9 harg9 arg10 harg10 arg11 harg11 arg12 arg13 arg15 x0 x1 x5 x7 x8 x9 x10) = part x0 x1 x5 x7 (pair x8 x9) x10 0 1 := by
  unfold kernelRun0_B.sl.v682
  rw [View.readCov_eq_canon']
  exact funext fun j => (gcodes _).trans (part_read x0 x1 x5 x7 (pair x8 x9) x10 0 1 0 1 rfl rfl _ j)
theorem w_v684 : (kernelRun0_B.sl.v684 c arg1 harg1 arg2 harg2 arg6 harg6 arg8 harg8 arg9 harg9 arg10 harg10 arg11 harg11 arg12 arg13 arg15 x0 x1 x5 x7 x8 x9 x10) = part x0 x1 x5 x7 (pair x8 x9) x10 1 1 := by
  unfold kernelRun0_B.sl.v684
  rw [View.readCov_eq_canon']
  exact funext fun j => (gcodes _).trans (part_read x0 x1 x5 x7 (pair x8 x9) x10 1 1 1 1 rfl rfl _ j)
theorem w_v686 : (kernelRun0_B.sl.v686 c arg1 harg1 arg2 harg2 arg6 harg6 arg8 harg8 arg9 harg9 arg10 harg10 arg11 harg11 arg12 arg13 arg15 x0 x1 x5 x7 x8 x9 x10) = part x0 x1 x5 x7 (pair x8 x9) x10 2 1 := by
  unfold kernelRun0_B.sl.v686
  rw [View.readCov_eq_canon']
  exact funext fun j => (gcodes _).trans (part_read x0 x1 x5 x7 (pair x8 x9) x10 2 1 2 1 rfl rfl _ j)

/-- The stores of the two weight gradients. -/
theorem halves : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3).2.2.2.2.1 = [⟨Rect.unit (s := S2560x2x256) ![0, 1, 0] S2560x1x256.size inb_S2560x2x256_S2560x1x256_0_1_0, k0_pay1 (kernelRun0_B.sl.r_73 c arg2 harg2 x1) (kernelRun0_B.sl.r_75 c arg1 harg1 arg2 harg2 arg6 harg6 arg7 harg7 arg8 harg8 arg9 harg9 arg10 harg10 arg11 harg11 arg12 arg13 arg15 x0 x1 x5 x6 x7 x8 x9 x10)⟩,
    ⟨Rect.unit (s := S2560x2x256) ![0, 0, 0] S2560x1x256.size inb_S2560x2x256_S2560x1x256_0_0_0, k0_pay116 (kernelRun0_B.sl.r_73 c arg2 harg2 x1) (kernelRun0_B.sl.v668 c arg1 harg1 arg2 harg2 arg6 harg6 arg8 harg8 arg9 harg9 arg10 harg10 arg11 harg11 arg12 arg13 arg15 x0 x1 x5 x7 x8 x9 x10) (kernelRun0_B.sl.v670 c arg1 harg1 arg2 harg2 arg6 harg6 arg8 harg8 arg9 harg9 arg10 harg10 arg11 harg11 arg12 arg13 arg15 x0 x1 x5 x7 x8 x9 x10) (kernelRun0_B.sl.v672 c arg1 harg1 arg2 harg2 arg6 harg6 arg8 harg8 arg9 harg9 arg10 harg10 arg11 harg11 arg12 arg13 arg15 x0 x1 x5 x7 x8 x9 x10)
      (View.readAt (Elt Ideal) arg7.view (Rect.unit (s := S2560x1920) ![0, 0] S2560x1920.size inb_S2560x1920_S2560x1920_0_0).toLoadRect (harg7.unread x6))⟩] := rfl
theorem whole : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3).2.2.2.2.2.1 = [⟨Rect.unit (s := S256x2560) ![0, 0] S256x2560.size inb_S256x2560_S256x2560_0_0, (kernelRun0_B.sl.r_74 c arg1 harg1 arg2 harg2 arg6 harg6 arg8 harg8 arg9 harg9 arg10 harg10 arg12 arg14 x0 x1 x5 x7 x8 x9)⟩] := rfl

/-- What the output windows hold. -/
theorem out_11 : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 = w13cA x0 (pair x8 x9) := by
  unfold out0_B_11
  rw [View.read_writes_junk_eq_canon]
  exact funext codes
theorem out_12 : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 = w2cA x0 x10 := by
  unfold out0_B_12
  rw [View.read_writes_junk_eq_canon]
  exact codes2
theorem out_13 : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 = hcA x0 x1 x5 (pair x8 x9) := by
  unfold out0_B_13
  rw [View.read_writes_junk_eq_canon]
  exact funext hcodes
theorem out_14 : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 = dgcA x0 x1 x5 x7 (pair x8 x9) x10 := by
  unfold out0_B_14
  rw [View.read_writes_junk_eq_canon]
  exact funext gcodes
theorem out_15 : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 = dw13A x0 x1 x5 x6 x7 (pair x8 x9) x10 := by
  unfold out0_B_15
  rw [View.read_writes_junk_eq_canon]
  refine funext fun y => View.canon_apply_of_pieces (dw13A x0 x1 x5 x6 x7 (pair x8 x9) x10) _ ?_ y (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 y)
  rw [halves]
  simp only [kernelRun0_B.sl.r_73, kernelRun0_B.sl.r_74, kernelRun0_B.sl.r_75, w_v668, w_v670, w_v672, w_v682, w_v684, w_v686, w_r, w_r_12, w_r_13, w_r_14, w_r_15, w_r_22, w_r_23, w_r_7, w_r_71, w_r_72, View.readAt_eq_ld, harg6.read_unread, harg7.read_unread, harg8.read_unread, harg9.read_unread, harg10.read_unread, harg11.read_unread, ld2, ld3]
  exact List.forall_mem_cons.2 ⟨pieceHi x0 x1 x5 x7 (pair x8 x9) x10 x6 inb_S2560x2x256_S2560x1x256_0_1_0, List.forall_mem_cons.2 ⟨pieceLo x0 x1 x5 x7 (pair x8 x9) x10 x6 inb_S2560x2x256_S2560x1x256_0_0_0,
    fun _ h => (List.not_mem_nil h).elim⟩⟩
theorem out_16 : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 = dw2A x0 x1 x5 x7 (pair x8 x9) := by
  unfold out0_B_16
  rw [View.read_writes_junk_eq_canon]
  rw [whole]
  simp only [kernelRun0_B.sl.r_73, kernelRun0_B.sl.r_74, kernelRun0_B.sl.r_75, w_v661, w_r, w_r_12, w_r_13, w_r_14, w_r_15, w_r_22, w_r_23, w_r_7, w_r_71, w_r_72, View.readAt_eq_ld, harg6.read_unread, harg7.read_unread, harg8.read_unread, harg9.read_unread, harg10.read_unread, harg11.read_unread, ld2, ld3]
  rw [canon2]
  exact dw2_eq x0 x1 x5 x7 (pair x8 x9)

end Cert.Proof.Main.CaseB

end
-- ==== Proof.MainFoldB.lean ====
/- The running maxima after a middle grid point. -/
module

public import proofs.«01_k».proof.Proof.MainMax
public import proofs.«01_k».proof.Proof.MainCaseB

@[expose] public section

set_option maxRecDepth 16384

noncomputable section

namespace Cert.Proof.Main.CaseB

open Cert.MainIdeal Cert.MainIdeal.Gen Cert.Proof.Main Cert.Proof.Main.Ker
open Idealize.ShloMosaic hiding ix1 ix2 ix3 ix4 eq_ix1 eq_ix2 eq_ix3 eq_ix4
open Idealize.ShloMosaic.TcCoe Idealize.ShloMosaic.ValueIdx Idealize.SL.Sem

variable {c : Dev nD} {i : grid0.Coords} {arg1 : Memref sig .tc .smem S6 .f32} {harg1 : arg1.IsWhole} {arg2 : Memref sig .tc .smem S6 .f32} {harg2 : arg2.IsWhole} {arg3 : Memref sig .tc .vmem S6x16 .f32} {harg3 : arg3.IsWhole} {arg4 : Memref sig .tc .vmem S8x128 .f32} {harg4 : arg4.IsWhole} {arg5 : Memref sig .tc .vmem S8x128 .f32} {harg5 : arg5.IsWhole} {arg6 : Memref sig .tc .vmem S1920x2560 .fp8e4m3} {harg6 : arg6.IsWhole} {arg7 : Memref sig .tc .vmem S2560x1920 .fp8e4m3} {harg7 : arg7.IsWhole} {arg8 : Memref sig .tc .vmem S1920x2560 .fp8e4m3} {harg8 : arg8.IsWhole} {arg9 : Memref sig .tc .vmem S2560x2x128 .bf16} {harg9 : arg9.IsWhole} {arg10 : Memref sig .tc .vmem S2560x2x128 .bf16} {harg10 : arg10.IsWhole} {arg11 : Memref sig .tc .vmem S256x2560 .bf16} {harg11 : arg11.IsWhole} {arg12 : Memref sig .tc .vmem S2x2560x256 .fp8e4m3} {harg12 : arg12.IsWhole} {arg13 : Memref sig .tc .vmem S256x2560 .fp8e4m3} {harg13 : arg13.IsWhole} {arg14 : Memref sig .tc .vmem S1920x256 .fp8e4m3} {harg14 : arg14.IsWhole} {arg15 : Memref sig .tc .vmem S3x2x640x256 .fp8e4m3} {harg15 : arg15.IsWhole} {arg16 : Memref sig .tc .vmem S2560x2x256 .f32} {harg16 : arg16.IsWhole} {arg17 : Memref sig .tc .vmem S256x2560 .f32} {harg17 : arg17.IsWhole} {arg18 : Memref sig .tc .vmem S6x16 .f32} {harg18 : arg18.IsWhole} {arg19 : Memref sig .tc .vmem S6x1 .f32} {harg19 : arg19.IsWhole} {arg20 : Memref sig .tc .vmem S8x128 .f32} {harg20 : arg20.IsWhole} {arg21 : Memref sig .tc .vmem S8x128 .f32} {harg21 : arg21.IsWhole} {arg22 : Memref sig .tc .vmem S8x128 .f32} {harg22 : arg22.IsWhole} {arg23 : Memref sig .tc .vmem S8x128 .f32} {harg23 : arg23.IsWhole} {hc0 : ¬cond0_0 i} {hc1 : ¬cond0_1 i} {x0 : Vec Ideal S6 .f32} {x1 : Vec Ideal S6 .f32} {x2 : Vec Ideal S6x16 .f32} {x3 : Vec Ideal S8x128 .f32} {x4 : Vec Ideal S8x128 .f32} {x5 : Vec Ideal S1920x2560 .fp8e4m3} {x6 : Vec Ideal S2560x1920 .fp8e4m3} {x7 : Vec Ideal S1920x2560 .fp8e4m3} {x8 : Vec Ideal S2560x2x128 .bf16} {x9 : Vec Ideal S2560x2x128 .bf16} {x10 : Vec Ideal S256x2560 .bf16} {xs0 : Vec Ideal S8x128 .f32} {xs1 : Vec Ideal S8x128 .f32} {xs2 : Vec Ideal S8x128 .f32} {xs3 : Vec Ideal S8x128 .f32}

theorem scr0 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3).2.2.2.2.2.2.2.2.1 = ⟨Rect.unit (s := S8x128) ![0, 0] S8x128.size inb_S8x128_S8x128_0_0, k0_pay22 (kernelRun0_B.sl.r_4 c arg9 harg9 arg20 harg20 x8 xs0) (kernelRun0_B.sl.r_5 c arg10 harg10 x9) (kernelRun0_B.sl.r_6 c arg10 harg10 x9)⟩ :: [] := rfl
theorem sc0 (B : EReal) : UB (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3) B ↔ UB xs0 B ∧ ∀ k γ f, ab (pair x8 x9 (ix3 k γ f)) ≤ B := by
  unfold sout0_B_0
  rw [View.read_writes_junk_eq_canon, scr0, View.canon_cons_unit_zero hz2]
  simp only [kernelRun0_B.sl.r_4, kernelRun0_B.sl.r_1, kernelRun0_B.sl.r_2, kernelRun0_B.sl.r_3, kernelRun0_B.sl.r_5, kernelRun0_B.sl.r_6, View.readAt_eq_ld, harg9.read_unread, harg10.read_unread, harg20.read_unread, ld2, ld3]
  exact fold13 B xs0 x8 x9

theorem scr1 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3).2.2.2.2.2.2.2.2.2.1 = ⟨Rect.unit (s := S8x128) ![0, 0] S8x128.size inb_S8x128_S8x128_0_0, k0_pay28 (kernelRun0_B.sl.r_8 c arg21 harg21 xs1) (kernelRun0_B.sl.r_9 c arg11 harg11 x10) (kernelRun0_B.sl.r_10 c arg11 harg11 x10) (kernelRun0_B.sl.r_11 c arg11 harg11 x10)⟩ :: [] := rfl
theorem sc1 (B : EReal) : UB (sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3) B ↔ UB xs1 B ∧ ∀ f d, ab (x10 (ix2 f d)) ≤ B := by
  unfold sout0_B_1
  rw [View.read_writes_junk_eq_canon, scr1, View.canon_cons_unit_zero hz2]
  simp only [kernelRun0_B.sl.r_8, kernelRun0_B.sl.r_9, kernelRun0_B.sl.r_10, kernelRun0_B.sl.r_11, View.readAt_eq_ld, harg11.read_unread, harg21.read_unread, ld2, ld3]
  exact fold2 B xs1 x10

theorem scr2 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3).2.2.2.2.2.2.2.2.2.2.1 = ⟨Rect.unit (s := S8x128) ![0, 0] S8x128.size inb_S8x128_S8x128_0_0, k0_pay112 (kernelRun0_B.sl.r_61 c arg1 harg1 arg2 harg2 arg6 harg6 arg9 harg9 arg10 harg10 arg12 arg22 harg22 x0 x1 x5 x8 x9 xs2) (kernelRun0_B.sl.r_66 c arg1 harg1 arg2 harg2 arg6 harg6 arg9 harg9 arg10 harg10 arg12 x0 x1 x5 x8 x9)⟩ :: [] := rfl
theorem sc2 (B : EReal) : UB (sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3) B ↔ UB xs2 B ∧ ∀ r f, ab (hAt x0 x1 x5 (pair x8 x9) r f) ≤ B := by
  unfold sout0_B_2
  rw [View.read_writes_junk_eq_canon, scr2, View.canon_cons_unit_zero hz2]
  simp only [kernelRun0_B.sl.r_61, kernelRun0_B.sl.r_50, kernelRun0_B.sl.r_42, kernelRun0_B.sl.r_36, kernelRun0_B.sl.r_28, kernelRun0_B.sl.r_18, kernelRun0_B.sl.r_24, kernelRun0_B.sl.r_16, kernelRun0_B.sl.r_20, kernelRun0_B.sl.r_21, kernelRun0_B.sl.r_32, kernelRun0_B.sl.r_30, kernelRun0_B.sl.r_31, kernelRun0_B.sl.cst_98, kernelRun0_B.sl.r_38, kernelRun0_B.sl.r_46, kernelRun0_B.sl.r_59, kernelRun0_B.sl.r_56, kernelRun0_B.sl.r_60, kernelRun0_B.sl.r_66, w_r_12, w_r_13, w_v152, w_v158, View.readAt_eq_ld, harg6.read_unread, harg9.read_unread, harg10.read_unread, harg22.read_unread, ld2, ld3]
  exact foldH B x0 x1 x5 (pair x8 x9) xs2

theorem scr3 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3).2.2.2.2.2.2.2.2.2.2.2.1 = ⟨Rect.unit (s := S8x128) ![0, 0] S8x128.size inb_S8x128_S8x128_0_0, k0_pay113 (kernelRun0_B.sl.r_62 c arg1 harg1 arg2 harg2 arg6 harg6 arg8 harg8 arg9 harg9 arg10 harg10 arg11 harg11 arg12 arg13 arg23 harg23 x0 x1 x5 x7 x8 x9 x10 xs3) (kernelRun0_B.sl.r_68 c arg1 harg1 arg2 harg2 arg6 harg6 arg8 harg8 arg9 harg9 arg10 harg10 arg11 harg11 arg12 arg13 x0 x1 x5 x7 x8 x9 x10) (kernelRun0_B.sl.r_69 c arg1 harg1 arg2 harg2 arg6 harg6 arg8 harg8 arg9 harg9 arg10 harg10 arg11 harg11 arg12 arg13 x0 x1 x5 x7 x8 x9 x10)⟩ :: [] := rfl
theorem sc3 (B : EReal) : UB (sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3) B ↔ UB xs3 B ∧ ∀ r γ f, ab (dgAt x0 x1 x5 x7 (pair x8 x9) x10 γ r f) ≤ B := by
  unfold sout0_B_3
  rw [View.read_writes_junk_eq_canon, scr3, View.canon_cons_unit_zero hz2]
  simp only [kernelRun0_B.sl.r_62, kernelRun0_B.sl.r_52, kernelRun0_B.sl.r_45, kernelRun0_B.sl.r_37, kernelRun0_B.sl.r_29, kernelRun0_B.sl.r_19, kernelRun0_B.sl.r_25, kernelRun0_B.sl.r_16, kernelRun0_B.sl.r_17, kernelRun0_B.sl.r_20, kernelRun0_B.sl.r_21, kernelRun0_B.sl.r_26, kernelRun0_B.sl.r_33, kernelRun0_B.sl.r_30, kernelRun0_B.sl.r_31, kernelRun0_B.sl.cst_98, kernelRun0_B.sl.r_34, kernelRun0_B.sl.r_43, kernelRun0_B.sl.r_39, kernelRun0_B.sl.r_44, kernelRun0_B.sl.r_40, kernelRun0_B.sl.r_48, kernelRun0_B.sl.r_51, kernelRun0_B.sl.r_47, kernelRun0_B.sl.r_57, kernelRun0_B.sl.r_58, kernelRun0_B.sl.r_53, kernelRun0_B.sl.r_54, kernelRun0_B.sl.r_55, kernelRun0_B.sl.r_68, kernelRun0_B.sl.r_63, kernelRun0_B.sl.r_65, kernelRun0_B.sl.r_67, kernelRun0_B.sl.cst_270, kernelRun0_B.sl.r_69, kernelRun0_B.sl.r_64, w_r_12, w_r_13, w_r_14, w_r_15, w_v152, w_v158, w_v164, View.readAt_eq_ld, harg6.read_unread, harg8.read_unread, harg9.read_unread, harg10.read_unread, harg11.read_unread, harg23.read_unread, ld2, ld3]
  exact foldG B x0 x1 x5 x7 (pair x8 x9) x10 xs3

end Cert.Proof.Main.CaseB

end
-- ==== Proof.MainCaseC.lean ====
/- The kernel's stores at a grid point (the last one): what each output window then holds, in the block's own mathematics. -/
module

public import proofs.«01_k».proof.Proof.MainPieces
public import proofs.«01_k».proof.Proof.Gen.MainIdeal.Frame

@[expose] public section

set_option maxRecDepth 16384

noncomputable section

namespace Cert.Proof.Main.CaseC

open Cert.MainIdeal Cert.MainIdeal.Gen Cert.Proof.Main Cert.Proof.Main.Ker
open Idealize.ShloMosaic hiding ix1 ix2 ix3 ix4 eq_ix1 eq_ix2 eq_ix3 eq_ix4
open Idealize.ShloMosaic.TcCoe Idealize.ShloMosaic.ValueIdx Idealize.SL.Sem

variable {c : Dev nD} {i : grid0.Coords} {arg1 : Memref sig .tc .smem S6 .f32} {harg1 : arg1.IsWhole} {arg2 : Memref sig .tc .smem S6 .f32} {harg2 : arg2.IsWhole} {arg3 : Memref sig .tc .vmem S6x16 .f32} {harg3 : arg3.IsWhole} {arg4 : Memref sig .tc .vmem S8x128 .f32} {harg4 : arg4.IsWhole} {arg5 : Memref sig .tc .vmem S8x128 .f32} {harg5 : arg5.IsWhole} {arg6 : Memref sig .tc .vmem S1920x2560 .fp8e4m3} {harg6 : arg6.IsWhole} {arg7 : Memref sig .tc .vmem S2560x1920 .fp8e4m3} {harg7 : arg7.IsWhole} {arg8 : Memref sig .tc .vmem S1920x2560 .fp8e4m3} {harg8 : arg8.IsWhole} {arg9 : Memref sig .tc .vmem S2560x2x128 .bf16} {harg9 : arg9.IsWhole} {arg10 : Memref sig .tc .vmem S2560x2x128 .bf16} {harg10 : arg10.IsWhole} {arg11 : Memref sig .tc .vmem S256x2560 .bf16} {harg11 : arg11.IsWhole} {arg12 : Memref sig .tc .vmem S2x2560x256 .fp8e4m3} {harg12 : arg12.IsWhole} {arg13 : Memref sig .tc .vmem S256x2560 .fp8e4m3} {harg13 : arg13.IsWhole} {arg14 : Memref sig .tc .vmem S1920x256 .fp8e4m3} {harg14 : arg14.IsWhole} {arg15 : Memref sig .tc .vmem S3x2x640x256 .fp8e4m3} {harg15 : arg15.IsWhole} {arg16 : Memref sig .tc .vmem S2560x2x256 .f32} {harg16 : arg16.IsWhole} {arg17 : Memref sig .tc .vmem S256x2560 .f32} {harg17 : arg17.IsWhole} {arg18 : Memref sig .tc .vmem S6x16 .f32} {harg18 : arg18.IsWhole} {arg19 : Memref sig .tc .vmem S6x1 .f32} {harg19 : arg19.IsWhole} {arg20 : Memref sig .tc .vmem S8x128 .f32} {harg20 : arg20.IsWhole} {arg21 : Memref sig .tc .vmem S8x128 .f32} {harg21 : arg21.IsWhole} {arg22 : Memref sig .tc .vmem S8x128 .f32} {harg22 : arg22.IsWhole} {arg23 : Memref sig .tc .vmem S8x128 .f32} {harg23 : arg23.IsWhole} {hc0 : ¬cond0_0 i} {hc1 : cond0_1 i} {x0 : Vec Ideal S6 .f32} {x1 : Vec Ideal S6 .f32} {x2 : Vec Ideal S6x16 .f32} {x3 : Vec Ideal S8x128 .f32} {x4 : Vec Ideal S8x128 .f32} {x5 : Vec Ideal S1920x2560 .fp8e4m3} {x6 : Vec Ideal S2560x1920 .fp8e4m3} {x7 : Vec Ideal S1920x2560 .fp8e4m3} {x8 : Vec Ideal S2560x2x128 .bf16} {x9 : Vec Ideal S2560x2x128 .bf16} {x10 : Vec Ideal S256x2560 .bf16} {xs0 : Vec Ideal S8x128 .f32} {xs1 : Vec Ideal S8x128 .f32} {xs2 : Vec Ideal S8x128 .f32} {xs3 : Vec Ideal S8x128 .f32}

/-- The scalar words. -/
theorem w_r : (kernelRun0_C.sl.r c arg1 harg1 x0) = x0 (ix1 1) := by
  unfold kernelRun0_C.sl.r
  rw [View.readAt_eq_ld, harg1.read_unread]
  exact word1 _ _ _
theorem w_r_12 : (kernelRun0_C.sl.r_12 c arg2 harg2 x1) = x1 (ix1 0) := by
  unfold kernelRun0_C.sl.r_12
  rw [View.readAt_eq_ld, harg2.read_unread]
  exact word0 _ _ _
theorem w_r_13 : (kernelRun0_C.sl.r_13 c arg2 harg2 x1) = x1 (ix1 1) := by
  unfold kernelRun0_C.sl.r_13
  rw [View.readAt_eq_ld, harg2.read_unread]
  exact word1 _ _ _
theorem w_r_14 : (kernelRun0_C.sl.r_14 c arg2 harg2 x1) = x1 (ix1 4) := by
  unfold kernelRun0_C.sl.r_14
  rw [View.readAt_eq_ld, harg2.read_unread]
  exact word4 _ _ _
theorem w_r_15 : (kernelRun0_C.sl.r_15 c arg2 harg2 x1) = x1 (ix1 2) := by
  unfold kernelRun0_C.sl.r_15
  rw [View.readAt_eq_ld, harg2.read_unread]
  exact word2 _ _ _
theorem w_r_22 : (kernelRun0_C.sl.r_22 c arg1 harg1 x0) = x0 (ix1 3) := by
  unfold kernelRun0_C.sl.r_22
  rw [View.readAt_eq_ld, harg1.read_unread]
  exact word3 _ _ _
theorem w_r_23 : (kernelRun0_C.sl.r_23 c arg1 harg1 x0) = x0 (ix1 5) := by
  unfold kernelRun0_C.sl.r_23
  rw [View.readAt_eq_ld, harg1.read_unread]
  exact word5 _ _ _
theorem w_r_7 : (kernelRun0_C.sl.r_7 c arg1 harg1 x0) = x0 (ix1 2) := by
  unfold kernelRun0_C.sl.r_7
  rw [View.readAt_eq_ld, harg1.read_unread]
  exact word2 _ _ _
theorem w_r_71 : (kernelRun0_C.sl.r_71 c arg2 harg2 x1) = x1 (ix1 3) := by
  unfold kernelRun0_C.sl.r_71
  rw [View.readAt_eq_ld, harg2.read_unread]
  exact word3 _ _ _
theorem w_r_72 : (kernelRun0_C.sl.r_72 c arg2 harg2 x1) = x1 (ix1 5) := by
  unfold kernelRun0_C.sl.r_72
  rw [View.readAt_eq_ld, harg2.read_unread]
  exact word5 _ _ _

/-- The gate weight codes: every stored rectangle holds its part. -/
theorem codes (y) : View.canon (kernelRun0_C.sl.H11_4 c arg1 harg1 arg9 harg9 arg10 harg10 x0 x8 x9) y = w13cA x0 (pair x8 x9) y := by
  refine View.canon_apply_of_pieces (w13cA x0 (pair x8 x9)) _ ?_ y (View.cover_of_tiledL (kernelRun0_C.sl.H11_4 c arg1 harg1 arg9 harg9 arg10 harg10 x0 x8 x9) S1x2560x128.size (by sl_kernel_rfl) y)
  unfold kernelRun0_C.sl.H11_4
  simp only [w_r, View.readAt_eq_ld, harg9.read_unread, harg10.read_unread, ld2, ld3]
  exact List.forall_mem_cons.2 ⟨piece21 x0 x8 x9 inb_S2x2560x256_S1x2560x128_1_0_128, List.forall_mem_cons.2 ⟨piece20 x0 x8 x9 inb_S2x2560x256_S1x2560x128_0_0_128,
    List.forall_mem_cons.2 ⟨piece16 x0 x8 x9 inb_S2x2560x256_S1x2560x128_1_0_0, List.forall_mem_cons.2 ⟨piece15 x0 x8 x9 inb_S2x2560x256_S1x2560x128_0_0_0, fun _ h => (List.not_mem_nil h).elim⟩⟩⟩⟩
theorem w_v152 : (kernelRun0_C.sl.v152 c arg1 harg1 arg9 harg9 arg10 harg10 arg12 x0 x8 x9) = plane x0 (pair x8 x9) 0 := by
  unfold kernelRun0_C.sl.v152
  rw [View.readCov_eq_canon']
  exact funext fun j => (codes _).trans (plane0_read x0 _ _ j)
theorem w_v158 : (kernelRun0_C.sl.v158 c arg1 harg1 arg9 harg9 arg10 harg10 arg12 x0 x8 x9) = plane x0 (pair x8 x9) 1 := by
  unfold kernelRun0_C.sl.v158
  rw [View.readCov_eq_canon']
  exact funext fun j => (codes _).trans (plane1_read x0 _ _ j)

/-- The down-projection codes. -/
theorem codes2 : View.canon (kernelRun0_C.sl.H12_1 c arg1 harg1 arg11 harg11 x0 x10) = w2cA x0 x10 := by
  unfold kernelRun0_C.sl.H12_1
  simp only [w_r_7, View.readAt_eq_ld, harg11.read_unread, ld2, ld3]
  rw [canon2]
  exact w2c_eq x0 x10
theorem w_v164 : (kernelRun0_C.sl.v164 c arg1 harg1 arg11 harg11 arg13 x0 x10) = w2cA x0 x10 := by
  unfold kernelRun0_C.sl.v164
  rw [View.readCov_eq_canon', codes2]
  exact funext fun j => congrArg (w2cA x0 x10) (whole2 _ j)

/-- The activation codes, chunk by chunk. -/
theorem hcodes (y) : View.canon (kernelRun0_C.sl.H13_6 c arg1 harg1 arg2 harg2 arg6 harg6 arg9 harg9 arg10 harg10 arg12 x0 x1 x5 x8 x9) y = hcA x0 x1 x5 (pair x8 x9) y := by
  refine View.canon_apply_of_pieces (hcA x0 x1 x5 (pair x8 x9)) _ ?_ y (View.cover_of_tiledL (kernelRun0_C.sl.H13_6 c arg1 harg1 arg2 harg2 arg6 harg6 arg9 harg9 arg10 harg10 arg12 x0 x1 x5 x8 x9) S320x256.size (by sl_kernel_rfl) y)
  unfold kernelRun0_C.sl.H13_6
  simp only [kernelRun0_C.sl.r_20, kernelRun0_C.sl.r_21, kernelRun0_C.sl.r_31, kernelRun0_C.sl.r_30, kernelRun0_C.sl.r_49, kernelRun0_C.sl.r_41, kernelRun0_C.sl.cst_193, kernelRun0_C.sl.cst_98, kernelRun0_C.sl.r_16, kernelRun0_C.sl.r_56, kernelRun0_C.sl.r_66, w_v152, w_v158, w_r_12, w_r_13, w_r_22, View.readAt_eq_ld, harg6.read_unread, harg9.read_unread, harg10.read_unread, ld2, ld3]
  refine List.forall_mem_cons.2 ⟨pieceH x0 x1 x5 (pair x8 x9) 1600 (by norm_num) inb_S1920x2560_S320x2560_1600_0 inb_S1920x256_S320x256_1600_0, ?_⟩
  refine List.forall_mem_cons.2 ⟨pieceH x0 x1 x5 (pair x8 x9) 1280 (by norm_num) inb_S1920x2560_S320x2560_1280_0 inb_S1920x256_S320x256_1280_0, ?_⟩
  refine List.forall_mem_cons.2 ⟨pieceH x0 x1 x5 (pair x8 x9) 960 (by norm_num) inb_S1920x2560_S320x2560_960_0 inb_S1920x256_S320x256_960_0, ?_⟩
  refine List.forall_mem_cons.2 ⟨pieceH x0 x1 x5 (pair x8 x9) 640 (by norm_num) inb_S1920x2560_S320x2560_640_0 inb_S1920x256_S320x256_640_0, ?_⟩
  refine List.forall_mem_cons.2 ⟨pieceH x0 x1 x5 (pair x8 x9) 320 (by norm_num) inb_S1920x2560_S320x2560_320_0 inb_S1920x256_S320x256_320_0, ?_⟩
  refine List.forall_mem_cons.2 ⟨pieceH x0 x1 x5 (pair x8 x9) 0 (by norm_num) inb_S1920x2560_S320x2560_0_0 inb_S1920x256_S320x256_0_0, ?_⟩
  exact fun _ h => (List.not_mem_nil h).elim
theorem w_v661 : (kernelRun0_C.sl.v661 c arg1 harg1 arg2 harg2 arg6 harg6 arg9 harg9 arg10 harg10 arg12 arg14 x0 x1 x5 x8 x9) = hcA x0 x1 x5 (pair x8 x9) := by
  unfold kernelRun0_C.sl.v661
  rw [View.readCov_eq_canon']
  exact funext fun j => (hcodes _).trans (congrArg (hcA x0 x1 x5 (pair x8 x9)) (whole2 _ j))

/-- The gradient codes, chunk by chunk. -/
theorem gcodes (y) : View.canon (kernelRun0_C.sl.H14_12 c arg1 harg1 arg2 harg2 arg6 harg6 arg8 harg8 arg9 harg9 arg10 harg10 arg11 harg11 arg12 arg13 x0 x1 x5 x7 x8 x9 x10) y = dgcA x0 x1 x5 x7 (pair x8 x9) x10 y := by
  refine View.canon_apply_of_pieces (dgcA x0 x1 x5 x7 (pair x8 x9) x10) _ ?_ y (View.cover_of_tiledL (kernelRun0_C.sl.H14_12 c arg1 harg1 arg2 harg2 arg6 harg6 arg8 harg8 arg9 harg9 arg10 harg10 arg11 harg11 arg12 arg13 x0 x1 x5 x7 x8 x9 x10) S1x1x320x256.size (by sl_kernel_rfl) y)
  unfold kernelRun0_C.sl.H14_12
  simp only [kernelRun0_C.sl.r_63, kernelRun0_C.sl.r_35, kernelRun0_C.sl.r_20, kernelRun0_C.sl.r_70, kernelRun0_C.sl.r_65, kernelRun0_C.sl.r_54, kernelRun0_C.sl.r_26, kernelRun0_C.sl.r_57, kernelRun0_C.sl.r_31, kernelRun0_C.sl.r_30, kernelRun0_C.sl.r_55, kernelRun0_C.sl.r_53, kernelRun0_C.sl.cst_98, kernelRun0_C.sl.r_48, kernelRun0_C.sl.r_17, kernelRun0_C.sl.r_34, kernelRun0_C.sl.r_16, kernelRun0_C.sl.r_64, kernelRun0_C.sl.r_67, kernelRun0_C.sl.cst_270, kernelRun0_C.sl.r_21, kernelRun0_C.sl.r_47, kernelRun0_C.sl.r_27, kernelRun0_C.sl.r_40, kernelRun0_C.sl.r_39, w_v152, w_v158, w_v164, w_r_12, w_r_13, w_r_14, w_r_15, w_r_23, View.readAt_eq_ld, harg6.read_unread, harg8.read_unread, harg9.read_unread, harg10.read_unread, harg11.read_unread, ld2, ld3]
  refine List.forall_mem_cons.2 ⟨pieceB x0 x1 x5 x7 (pair x8 x9) x10 1600 2 2 320 rfl (by norm_num) (by norm_num) inb_S1920x2560_S320x2560_1600_0 inb_S3x2x640x256_S1x1x320x256_2_1_320_0 inb_S1920x2560_S320x2560_1600_0, ?_⟩
  refine List.forall_mem_cons.2 ⟨pieceA x0 x1 x5 x7 (pair x8 x9) x10 1600 2 2 320 rfl (by norm_num) (by norm_num) inb_S1920x2560_S320x2560_1600_0 inb_S3x2x640x256_S1x1x320x256_2_0_320_0 inb_S1920x2560_S320x2560_1600_0, ?_⟩
  refine List.forall_mem_cons.2 ⟨pieceB x0 x1 x5 x7 (pair x8 x9) x10 1280 2 2 0 rfl (by norm_num) (by norm_num) inb_S1920x2560_S320x2560_1280_0 inb_S3x2x640x256_S1x1x320x256_2_1_0_0 inb_S1920x2560_S320x2560_1280_0, ?_⟩
  refine List.forall_mem_cons.2 ⟨pieceA x0 x1 x5 x7 (pair x8 x9) x10 1280 2 2 0 rfl (by norm_num) (by norm_num) inb_S1920x2560_S320x2560_1280_0 inb_S3x2x640x256_S1x1x320x256_2_0_0_0 inb_S1920x2560_S320x2560_1280_0, ?_⟩
  refine List.forall_mem_cons.2 ⟨pieceB x0 x1 x5 x7 (pair x8 x9) x10 960 1 1 320 rfl (by norm_num) (by norm_num) inb_S1920x2560_S320x2560_960_0 inb_S3x2x640x256_S1x1x320x256_1_1_320_0 inb_S1920x2560_S320x2560_960_0, ?_⟩
  refine List.forall_mem_cons.2 ⟨pieceA x0 x1 x5 x7 (pair x8 x9) x10 960 1 1 320 rfl (by norm_num) (by norm_num) inb_S1920x2560_S320x2560_960_0 inb_S3x2x640x256_S1x1x320x256_1_0_320_0 inb_S1920x2560_S320x2560_960_0, ?_⟩
  refine List.forall_mem_cons.2 ⟨pieceB x0 x1 x5 x7 (pair x8 x9) x10 640 1 1 0 rfl (by norm_num) (by norm_num) inb_S1920x2560_S320x2560_640_0 inb_S3x2x640x256_S1x1x320x256_1_1_0_0 inb_S1920x2560_S320x2560_640_0, ?_⟩
  refine List.forall_mem_cons.2 ⟨pieceA x0 x1 x5 x7 (pair x8 x9) x10 640 1 1 0 rfl (by norm_num) (by norm_num) inb_S1920x2560_S320x2560_640_0 inb_S3x2x640x256_S1x1x320x256_1_0_0_0 inb_S1920x2560_S320x2560_640_0, ?_⟩
  refine List.forall_mem_cons.2 ⟨pieceB x0 x1 x5 x7 (pair x8 x9) x10 320 0 0 320 rfl (by norm_num) (by norm_num) inb_S1920x2560_S320x2560_320_0 inb_S3x2x640x256_S1x1x320x256_0_1_320_0 inb_S1920x2560_S320x2560_320_0, ?_⟩
  refine List.forall_mem_cons.2 ⟨pieceA x0 x1 x5 x7 (pair x8 x9) x10 320 0 0 320 rfl (by norm_num) (by norm_num) inb_S1920x2560_S320x2560_320_0 inb_S3x2x640x256_S1x1x320x256_0_0_320_0 inb_S1920x2560_S320x2560_320_0, ?_⟩
  refine List.forall_mem_cons.2 ⟨pieceB x0 x1 x5 x7 (pair x8 x9) x10 0 0 0 0 rfl (by norm_num) (by norm_num) inb_S1920x2560_S320x2560_0_0 inb_S3x2x640x256_S1x1x320x256_0_1_0_0 inb_S1920x2560_S320x2560_0_0, ?_⟩
  refine List.forall_mem_cons.2 ⟨pieceA x0 x1 x5 x7 (pair x8 x9) x10 0 0 0 0 rfl (by norm_num) (by norm_num) inb_S1920x2560_S320x2560_0_0 inb_S3x2x640x256_S1x1x320x256_0_0_0_0 inb_S1920x2560_S320x2560_0_0, ?_⟩
  exact fun _ h => (List.not_mem_nil h).elim
theorem w_v668 : (kernelRun0_C.sl.v668 c arg1 harg1 arg2 harg2 arg6 harg6 arg8 harg8 arg9 harg9 arg10 harg10 arg11 harg11 arg12 arg13 arg15 x0 x1 x5 x7 x8 x9 x10) = part x0 x1 x5 x7 (pair x8 x9) x10 0 0 := by
  unfold kernelRun0_C.sl.v668
  rw [View.readCov_eq_canon']
  exact funext fun j => (gcodes _).trans (part_read x0 x1 x5 x7 (pair x8 x9) x10 0 0 0 0 rfl rfl _ j)
theorem w_v670 : (kernelRun0_C.sl.v670 c arg1 harg1 arg2 harg2 arg6 harg6 arg8 harg8 arg9 harg9 arg10 harg10 arg11 harg11 arg12 arg13 arg15 x0 x1 x5 x7 x8 x9 x10) = part x0 x1 x5 x7 (pair x8 x9) x10 1 0 := by
  unfold kernelRun0_C.sl.v670
  rw [View.readCov_eq_canon']
  exact funext fun j => (gcodes _).trans (part_read x0 x1 x5 x7 (pair x8 x9) x10 1 0 1 0 rfl rfl _ j)
theorem w_v672 : (kernelRun0_C.sl.v672 c arg1 harg1 arg2 harg2 arg6 harg6 arg8 harg8 arg9 harg9 arg10 harg10 arg11 harg11 arg12 arg13 arg15 x0 x1 x5 x7 x8 x9 x10) = part x0 x1 x5 x7 (pair x8 x9) x10 2 0 := by
  unfold kernelRun0_C.sl.v672
  rw [View.readCov_eq_canon']
  exact funext fun j => (gcodes _).trans (part_read x0 x1 x5 x7 (pair x8 x9) x10 2 0 2 0 rfl rfl _ j)
theorem w_v682 : (kernelRun0_C.sl.v682 c arg1 harg1 arg2 harg2 arg6 harg6 arg8 harg8 arg9 harg9 arg10 harg10 arg11 harg11 arg12 arg13 arg15 x0 x1 x5 x7 x8 x9 x10) = part x0 x1 x5 x7 (pair x8 x9) x10 0 1 := by
  unfold kernelRun0_C.sl.v682
  rw [View.readCov_eq_canon']
  exact funext fun j => (gcodes _).trans (part_read x0 x1 x5 x7 (pair x8 x9) x10 0 1 0 1 rfl rfl _ j)
theorem w_v684 : (kernelRun0_C.sl.v684 c arg1 harg1 arg2 harg2 arg6 harg6 arg8 harg8 arg9 harg9 arg10 harg10 arg11 harg11 arg12 arg13 arg15 x0 x1 x5 x7 x8 x9 x10) = part x0 x1 x5 x7 (pair x8 x9) x10 1 1 := by
  unfold kernelRun0_C.sl.v684
  rw [View.readCov_eq_canon']
  exact funext fun j => (gcodes _).trans (part_read x0 x1 x5 x7 (pair x8 x9) x10 1 1 1 1 rfl rfl _ j)
theorem w_v686 : (kernelRun0_C.sl.v686 c arg1 harg1 arg2 harg2 arg6 harg6 arg8 harg8 arg9 harg9 arg10 harg10 arg11 harg11 arg12 arg13 arg15 x0 x1 x5 x7 x8 x9 x10) = part x0 x1 x5 x7 (pair x8 x9) x10 2 1 := by
  unfold kernelRun0_C.sl.v686
  rw [View.readCov_eq_canon']
  exact funext fun j => (gcodes _).trans (part_read x0 x1 x5 x7 (pair x8 x9) x10 2 1 2 1 rfl rfl _ j)

/-- The stores of the two weight gradients. -/
theorem halves : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3).2.2.2.2.1 = [⟨Rect.unit (s := S2560x2x256) ![0, 1, 0] S2560x1x256.size inb_S2560x2x256_S2560x1x256_0_1_0, k0_pay1 (kernelRun0_C.sl.r_73 c arg2 harg2 x1) (kernelRun0_C.sl.r_75 c arg1 harg1 arg2 harg2 arg6 harg6 arg7 harg7 arg8 harg8 arg9 harg9 arg10 harg10 arg11 harg11 arg12 arg13 arg15 x0 x1 x5 x6 x7 x8 x9 x10)⟩,
    ⟨Rect.unit (s := S2560x2x256) ![0, 0, 0] S2560x1x256.size inb_S2560x2x256_S2560x1x256_0_0_0, k0_pay116 (kernelRun0_C.sl.r_73 c arg2 harg2 x1) (kernelRun0_C.sl.v668 c arg1 harg1 arg2 harg2 arg6 harg6 arg8 harg8 arg9 harg9 arg10 harg10 arg11 harg11 arg12 arg13 arg15 x0 x1 x5 x7 x8 x9 x10) (kernelRun0_C.sl.v670 c arg1 harg1 arg2 harg2 arg6 harg6 arg8 harg8 arg9 harg9 arg10 harg10 arg11 harg11 arg12 arg13 arg15 x0 x1 x5 x7 x8 x9 x10) (kernelRun0_C.sl.v672 c arg1 harg1 arg2 harg2 arg6 harg6 arg8 harg8 arg9 harg9 arg10 harg10 arg11 harg11 arg12 arg13 arg15 x0 x1 x5 x7 x8 x9 x10)
      (View.readAt (Elt Ideal) arg7.view (Rect.unit (s := S2560x1920) ![0, 0] S2560x1920.size inb_S2560x1920_S2560x1920_0_0).toLoadRect (harg7.unread x6))⟩] := rfl
theorem whole : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3).2.2.2.2.2.1 = [⟨Rect.unit (s := S256x2560) ![0, 0] S256x2560.size inb_S256x2560_S256x2560_0_0, (kernelRun0_C.sl.r_74 c arg1 harg1 arg2 harg2 arg6 harg6 arg8 harg8 arg9 harg9 arg10 harg10 arg12 arg14 x0 x1 x5 x7 x8 x9)⟩] := rfl

/-- What the output windows hold. -/
theorem out_11 : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 = w13cA x0 (pair x8 x9) := by
  unfold out0_C_11
  rw [View.read_writes_junk_eq_canon]
  exact funext codes
theorem out_12 : out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 = w2cA x0 x10 := by
  unfold out0_C_12
  rw [View.read_writes_junk_eq_canon]
  exact codes2
theorem out_13 : out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 = hcA x0 x1 x5 (pair x8 x9) := by
  unfold out0_C_13
  rw [View.read_writes_junk_eq_canon]
  exact funext hcodes
theorem out_14 : out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 = dgcA x0 x1 x5 x7 (pair x8 x9) x10 := by
  unfold out0_C_14
  rw [View.read_writes_junk_eq_canon]
  exact funext gcodes
theorem out_15 : out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 = dw13A x0 x1 x5 x6 x7 (pair x8 x9) x10 := by
  unfold out0_C_15
  rw [View.read_writes_junk_eq_canon]
  refine funext fun y => View.canon_apply_of_pieces (dw13A x0 x1 x5 x6 x7 (pair x8 x9) x10) _ ?_ y (cover0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 y)
  rw [halves]
  simp only [kernelRun0_C.sl.r_73, kernelRun0_C.sl.r_74, kernelRun0_C.sl.r_75, w_v668, w_v670, w_v672, w_v682, w_v684, w_v686, w_r, w_r_12, w_r_13, w_r_14, w_r_15, w_r_22, w_r_23, w_r_7, w_r_71, w_r_72, View.readAt_eq_ld, harg6.read_unread, harg7.read_unread, harg8.read_unread, harg9.read_unread, harg10.read_unread, harg11.read_unread, ld2, ld3]
  exact List.forall_mem_cons.2 ⟨pieceHi x0 x1 x5 x7 (pair x8 x9) x10 x6 inb_S2560x2x256_S2560x1x256_0_1_0, List.forall_mem_cons.2 ⟨pieceLo x0 x1 x5 x7 (pair x8 x9) x10 x6 inb_S2560x2x256_S2560x1x256_0_0_0,
    fun _ h => (List.not_mem_nil h).elim⟩⟩
theorem out_16 : out0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 = dw2A x0 x1 x5 x7 (pair x8 x9) := by
  unfold out0_C_16
  rw [View.read_writes_junk_eq_canon]
  rw [whole]
  simp only [kernelRun0_C.sl.r_73, kernelRun0_C.sl.r_74, kernelRun0_C.sl.r_75, w_v661, w_r, w_r_12, w_r_13, w_r_14, w_r_15, w_r_22, w_r_23, w_r_7, w_r_71, w_r_72, View.readAt_eq_ld, harg6.read_unread, harg7.read_unread, harg8.read_unread, harg9.read_unread, harg10.read_unread, harg11.read_unread, ld2, ld3]
  rw [canon2]
  exact dw2_eq x0 x1 x5 x7 (pair x8 x9)

end Cert.Proof.Main.CaseC

end
-- ==== Proof.MainFoldC.lean ====
/- The running maxima at the last grid point, and the history it writes. -/
module

public import proofs.«01_k».proof.Proof.MainMax
public import proofs.«01_k».proof.Proof.MainCaseC

@[expose] public section

set_option maxRecDepth 16384

noncomputable section

namespace Cert.Proof.Main.CaseC

open Cert.MainIdeal Cert.MainIdeal.Gen Cert.Proof.Main Cert.Proof.Main.Ker
open Idealize.ShloMosaic hiding ix1 ix2 ix3 ix4 eq_ix1 eq_ix2 eq_ix3 eq_ix4
open Idealize.ShloMosaic.TcCoe Idealize.ShloMosaic.ValueIdx Idealize.SL.Sem

variable {c : Dev nD} {i : grid0.Coords} {arg1 : Memref sig .tc .smem S6 .f32} {harg1 : arg1.IsWhole} {arg2 : Memref sig .tc .smem S6 .f32} {harg2 : arg2.IsWhole} {arg3 : Memref sig .tc .vmem S6x16 .f32} {harg3 : arg3.IsWhole} {arg4 : Memref sig .tc .vmem S8x128 .f32} {harg4 : arg4.IsWhole} {arg5 : Memref sig .tc .vmem S8x128 .f32} {harg5 : arg5.IsWhole} {arg6 : Memref sig .tc .vmem S1920x2560 .fp8e4m3} {harg6 : arg6.IsWhole} {arg7 : Memref sig .tc .vmem S2560x1920 .fp8e4m3} {harg7 : arg7.IsWhole} {arg8 : Memref sig .tc .vmem S1920x2560 .fp8e4m3} {harg8 : arg8.IsWhole} {arg9 : Memref sig .tc .vmem S2560x2x128 .bf16} {harg9 : arg9.IsWhole} {arg10 : Memref sig .tc .vmem S2560x2x128 .bf16} {harg10 : arg10.IsWhole} {arg11 : Memref sig .tc .vmem S256x2560 .bf16} {harg11 : arg11.IsWhole} {arg12 : Memref sig .tc .vmem S2x2560x256 .fp8e4m3} {harg12 : arg12.IsWhole} {arg13 : Memref sig .tc .vmem S256x2560 .fp8e4m3} {harg13 : arg13.IsWhole} {arg14 : Memref sig .tc .vmem S1920x256 .fp8e4m3} {harg14 : arg14.IsWhole} {arg15 : Memref sig .tc .vmem S3x2x640x256 .fp8e4m3} {harg15 : arg15.IsWhole} {arg16 : Memref sig .tc .vmem S2560x2x256 .f32} {harg16 : arg16.IsWhole} {arg17 : Memref sig .tc .vmem S256x2560 .f32} {harg17 : arg17.IsWhole} {arg18 : Memref sig .tc .vmem S6x16 .f32} {harg18 : arg18.IsWhole} {arg19 : Memref sig .tc .vmem S6x1 .f32} {harg19 : arg19.IsWhole} {arg20 : Memref sig .tc .vmem S8x128 .f32} {harg20 : arg20.IsWhole} {arg21 : Memref sig .tc .vmem S8x128 .f32} {harg21 : arg21.IsWhole} {arg22 : Memref sig .tc .vmem S8x128 .f32} {harg22 : arg22.IsWhole} {arg23 : Memref sig .tc .vmem S8x128 .f32} {harg23 : arg23.IsWhole} {hc0 : ¬cond0_0 i} {hc1 : cond0_1 i} {x0 : Vec Ideal S6 .f32} {x1 : Vec Ideal S6 .f32} {x2 : Vec Ideal S6x16 .f32} {x3 : Vec Ideal S8x128 .f32} {x4 : Vec Ideal S8x128 .f32} {x5 : Vec Ideal S1920x2560 .fp8e4m3} {x6 : Vec Ideal S2560x1920 .fp8e4m3} {x7 : Vec Ideal S1920x2560 .fp8e4m3} {x8 : Vec Ideal S2560x2x128 .bf16} {x9 : Vec Ideal S2560x2x128 .bf16} {x10 : Vec Ideal S256x2560 .bf16} {xs0 : Vec Ideal S8x128 .f32} {xs1 : Vec Ideal S8x128 .f32} {xs2 : Vec Ideal S8x128 .f32} {xs3 : Vec Ideal S8x128 .f32}

theorem w_v713 : (kernelRun0_C.sl.v713 c arg9 harg9 arg10 harg10 arg20 harg20 x8 x9 xs0) = k0_pay22 (kernelRun0_C.sl.r_4 c arg9 harg9 arg20 harg20 x8 xs0) (kernelRun0_C.sl.r_5 c arg10 harg10 x9) (kernelRun0_C.sl.r_6 c arg10 harg10 x9) := by
  unfold kernelRun0_C.sl.v713 kernelRun0_C.sl.HS0_1
  rw [View.readCov_eq_canon', canon2]
  exact funext fun j => congrArg _ (whole2 _ j)
theorem sc0 (B : EReal) : UB (kernelRun0_C.sl.v713 c arg9 harg9 arg10 harg10 arg20 harg20 x8 x9 xs0) B ↔ UB xs0 B ∧ ∀ k γ f, ab (pair x8 x9 (ix3 k γ f)) ≤ B := by
  rw [w_v713]
  simp only [kernelRun0_C.sl.r_4, kernelRun0_C.sl.r_1, kernelRun0_C.sl.r_2, kernelRun0_C.sl.r_3, kernelRun0_C.sl.r_5, kernelRun0_C.sl.r_6, View.readAt_eq_ld, harg9.read_unread, harg10.read_unread, harg20.read_unread, ld2, ld3]
  exact fold13 B xs0 x8 x9

theorem w_v722 : (kernelRun0_C.sl.v722 c arg11 harg11 arg21 harg21 x10 xs1) = k0_pay28 (kernelRun0_C.sl.r_8 c arg21 harg21 xs1) (kernelRun0_C.sl.r_9 c arg11 harg11 x10) (kernelRun0_C.sl.r_10 c arg11 harg11 x10) (kernelRun0_C.sl.r_11 c arg11 harg11 x10) := by
  unfold kernelRun0_C.sl.v722 kernelRun0_C.sl.HS1_1
  rw [View.readCov_eq_canon', canon2]
  exact funext fun j => congrArg _ (whole2 _ j)
theorem sc1 (B : EReal) : UB (kernelRun0_C.sl.v722 c arg11 harg11 arg21 harg21 x10 xs1) B ↔ UB xs1 B ∧ ∀ f d, ab (x10 (ix2 f d)) ≤ B := by
  rw [w_v722]
  simp only [kernelRun0_C.sl.r_8, kernelRun0_C.sl.r_9, kernelRun0_C.sl.r_10, kernelRun0_C.sl.r_11, View.readAt_eq_ld, harg11.read_unread, harg21.read_unread, ld2, ld3]
  exact fold2 B xs1 x10

theorem w_v731 : (kernelRun0_C.sl.v731 c arg1 harg1 arg2 harg2 arg6 harg6 arg9 harg9 arg10 harg10 arg12 arg22 harg22 x0 x1 x5 x8 x9 xs2) = k0_pay112 (kernelRun0_C.sl.r_61 c arg1 harg1 arg2 harg2 arg6 harg6 arg9 harg9 arg10 harg10 arg12 arg22 harg22 x0 x1 x5 x8 x9 xs2) (kernelRun0_C.sl.r_66 c arg1 harg1 arg2 harg2 arg6 harg6 arg9 harg9 arg10 harg10 arg12 x0 x1 x5 x8 x9) := by
  unfold kernelRun0_C.sl.v731 kernelRun0_C.sl.HS2_1
  rw [View.readCov_eq_canon', canon2]
  exact funext fun j => congrArg _ (whole2 _ j)
theorem sc2 (B : EReal) : UB (kernelRun0_C.sl.v731 c arg1 harg1 arg2 harg2 arg6 harg6 arg9 harg9 arg10 harg10 arg12 arg22 harg22 x0 x1 x5 x8 x9 xs2) B ↔ UB xs2 B ∧ ∀ r f, ab (hAt x0 x1 x5 (pair x8 x9) r f) ≤ B := by
  rw [w_v731]
  simp only [kernelRun0_C.sl.r_61, kernelRun0_C.sl.r_50, kernelRun0_C.sl.r_42, kernelRun0_C.sl.r_36, kernelRun0_C.sl.r_28, kernelRun0_C.sl.r_18, kernelRun0_C.sl.r_24, kernelRun0_C.sl.r_16, kernelRun0_C.sl.r_20, kernelRun0_C.sl.r_21, kernelRun0_C.sl.r_32, kernelRun0_C.sl.r_30, kernelRun0_C.sl.r_31, kernelRun0_C.sl.cst_98, kernelRun0_C.sl.r_38, kernelRun0_C.sl.r_46, kernelRun0_C.sl.r_59, kernelRun0_C.sl.r_56, kernelRun0_C.sl.r_60, kernelRun0_C.sl.r_66, w_r_12, w_r_13, w_v152, w_v158, View.readAt_eq_ld, harg6.read_unread, harg9.read_unread, harg10.read_unread, harg22.read_unread, ld2, ld3]
  exact foldH B x0 x1 x5 (pair x8 x9) xs2

theorem w_v749 : (kernelRun0_C.sl.v749 c arg1 harg1 arg2 harg2 arg6 harg6 arg8 harg8 arg9 harg9 arg10 harg10 arg11 harg11 arg12 arg13 arg23 harg23 x0 x1 x5 x7 x8 x9 x10 xs3) = k0_pay113 (kernelRun0_C.sl.r_62 c arg1 harg1 arg2 harg2 arg6 harg6 arg8 harg8 arg9 harg9 arg10 harg10 arg11 harg11 arg12 arg13 arg23 harg23 x0 x1 x5 x7 x8 x9 x10 xs3) (kernelRun0_C.sl.r_68 c arg1 harg1 arg2 harg2 arg6 harg6 arg8 harg8 arg9 harg9 arg10 harg10 arg11 harg11 arg12 arg13 x0 x1 x5 x7 x8 x9 x10) (kernelRun0_C.sl.r_69 c arg1 harg1 arg2 harg2 arg6 harg6 arg8 harg8 arg9 harg9 arg10 harg10 arg11 harg11 arg12 arg13 x0 x1 x5 x7 x8 x9 x10) := by
  unfold kernelRun0_C.sl.v749 kernelRun0_C.sl.HS3_1
  rw [View.readCov_eq_canon', canon2]
  exact funext fun j => congrArg _ (whole2 _ j)
theorem sc3 (B : EReal) : UB (kernelRun0_C.sl.v749 c arg1 harg1 arg2 harg2 arg6 harg6 arg8 harg8 arg9 harg9 arg10 harg10 arg11 harg11 arg12 arg13 arg23 harg23 x0 x1 x5 x7 x8 x9 x10 xs3) B ↔ UB xs3 B ∧ ∀ r γ f, ab (dgAt x0 x1 x5 x7 (pair x8 x9) x10 γ r f) ≤ B := by
  rw [w_v749]
  simp only [kernelRun0_C.sl.r_62, kernelRun0_C.sl.r_52, kernelRun0_C.sl.r_45, kernelRun0_C.sl.r_37, kernelRun0_C.sl.r_29, kernelRun0_C.sl.r_19, kernelRun0_C.sl.r_25, kernelRun0_C.sl.r_16, kernelRun0_C.sl.r_17, kernelRun0_C.sl.r_20, kernelRun0_C.sl.r_21, kernelRun0_C.sl.r_26, kernelRun0_C.sl.r_33, kernelRun0_C.sl.r_30, kernelRun0_C.sl.r_31, kernelRun0_C.sl.cst_98, kernelRun0_C.sl.r_34, kernelRun0_C.sl.r_43, kernelRun0_C.sl.r_39, kernelRun0_C.sl.r_44, kernelRun0_C.sl.r_40, kernelRun0_C.sl.r_48, kernelRun0_C.sl.r_51, kernelRun0_C.sl.r_47, kernelRun0_C.sl.r_57, kernelRun0_C.sl.r_58, kernelRun0_C.sl.r_53, kernelRun0_C.sl.r_54, kernelRun0_C.sl.r_55, kernelRun0_C.sl.r_68, kernelRun0_C.sl.r_63, kernelRun0_C.sl.r_65, kernelRun0_C.sl.r_67, kernelRun0_C.sl.cst_270, kernelRun0_C.sl.r_69, kernelRun0_C.sl.r_64, w_r_12, w_r_13, w_r_14, w_r_15, w_v152, w_v158, w_v164, View.readAt_eq_ld, harg6.read_unread, harg8.read_unread, harg9.read_unread, harg10.read_unread, harg11.read_unread, harg23.read_unread, ld2, ld3]
  exact foldG B x0 x1 x5 x7 (pair x8 x9) x10 xs3

theorem list17 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3).2.2.2.2.2.2.1 = [⟨Rect.unit (s := S6x16) ![0, 0] S6x16.size inb_S6x16_S6x16_0_0,
    k0_pay5 (iota .tc S6x16 32 [0] iota_S6x16_d0_w32) (iota .tc S6x16 32 [1] iota_S6x16_d1_w32) (kernelRun0_C.sl.r_76 c arg1 harg1 arg2 harg2 arg4 harg4 arg6 harg6 arg9 harg9 arg10 harg10 arg11 harg11 arg12 arg20 harg20 arg21 harg21 arg22 harg22 x0 x1 x3 x5 x8 x9 x10 xs0 xs1 xs2) k0_pay4
      (View.readAt (Elt Ideal) arg5.view (Rect.unit (s := S8x128) ![0, 0] S8x128.size inb_S8x128_S8x128_0_0).toLoadRect (harg5.unread x4))
      (kernelRun0_C.sl.v749 c arg1 harg1 arg2 harg2 arg6 harg6 arg8 harg8 arg9 harg9 arg10 harg10 arg11 harg11 arg12 arg13 arg23 harg23 x0 x1 x5 x7 x8 x9 x10 xs3) (View.readAt (Elt Ideal) arg3.view (Rect.unit (s := S6x16) ![0, 0] S6x16.size inb_S6x16_S6x16_0_0).toLoadRect (harg3.unread x2))⟩] := rfl
/-- The history the last point writes, from any six numbers with the maxima's upper bounds. -/
theorem out_17 (m : Fin 6 → EReal) (h0 : ∀ B, m 0 ≤ B ↔ UB x3 B) (h1 : ∀ B, m 1 ≤ B ↔ UB xs0 B ∧ ∀ k γ f, ab (pair x8 x9 (ix3 k γ f)) ≤ B)
    (h2 : ∀ B, m 2 ≤ B ↔ UB xs1 B ∧ ∀ f d, ab (x10 (ix2 f d)) ≤ B) (h3 : ∀ B, m 3 ≤ B ↔ UB xs2 B ∧ ∀ r f, ab (hAt x0 x1 x5 (pair x8 x9) r f) ≤ B)
    (h4 : ∀ B, m 4 ≤ B ↔ UB x4 B) (h5 : ∀ B, m 5 ≤ B ↔ UB xs3 B ∧ ∀ r γ f, ab (dgAt x0 x1 x5 x7 (pair x8 x9) x10 γ r f) ≤ B) :
    out0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 xs0 xs1 xs2 xs3 = nhA x2 m := by
  unfold out0_C_17
  rw [View.read_writes_junk_eq_canon, list17, canon2]
  unfold kernelRun0_C.sl.r_76
  simp only [View.readAt_eq_ld, harg3.read_unread, harg4.read_unread, harg5.read_unread, ld2]
  exact history _ _ _ _ _ _ x2 m h0 (fun B => (h1 B).trans (sc0 B).symm) (fun B => (h2 B).trans (sc1 B).symm) (fun B => (h3 B).trans (sc2 B).symm)
    h4 (fun B => (h5 B).trans (sc3 B).symm)

end Cert.Proof.Main.CaseC

end
-- ==== Proof.MainRun.lean ====
/- The gradient kernel's run: what each point leaves, and from that every final array. -/
module

public import proofs.«01_k».proof.Proof.MainCols
public import proofs.«01_k».proof.Proof.MainFoldA
public import proofs.«01_k».proof.Proof.MainFoldB
public import proofs.«01_k».proof.Proof.MainFoldC
public import Idealize.ShloMosaic.Lib.Pipeline.Value

@[expose] public section

set_option maxRecDepth 16384

noncomputable section

namespace Cert.Proof.Main.Ker

open Cert.MainIdeal Cert.MainIdeal.Gen Cert.Proof.Main
open Idealize.ShloMosaic hiding ix1 ix2 ix3 ix4 eq_ix1 eq_ix2 eq_ix3 eq_ix4
open Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! The input blocks. -/

theorem idx_zero0 : ∀ t : Fin cfg0.N, ∀ a, win0_0.index t a = 0 := (by decide +kernel : ∀ t : Fin grid0.N, _)
theorem iblk0_eq (c : Dev nD) (t : Fin cfg0.N) : iblk m c 0 t = V m c main_arg0 :=
  funext fun j => congrArg (V m c main_arg0) (funext fun a => Fin.ext (win0_0.rect_emb_val_of_index_zero t a (idx_zero0 t a) j))
theorem idx_zero1 : ∀ t : Fin cfg0.N, ∀ a, win0_1.index t a = 0 := (by decide +kernel : ∀ t : Fin grid0.N, _)
theorem iblk1_eq (c : Dev nD) (t : Fin cfg0.N) : iblk m c 1 t = V m c main_arg1 :=
  funext fun j => congrArg (V m c main_arg1) (funext fun a => Fin.ext (win0_1.rect_emb_val_of_index_zero t a (idx_zero1 t a) j))
theorem idx_zero2 : ∀ t : Fin cfg0.N, ∀ a, win0_2.index t a = 0 := (by decide +kernel : ∀ t : Fin grid0.N, _)
theorem iblk2_eq (c : Dev nD) (t : Fin cfg0.N) : iblk m c 2 t = V m c main_arg2 :=
  funext fun j => congrArg (V m c main_arg2) (funext fun a => Fin.ext (win0_2.rect_emb_val_of_index_zero t a (idx_zero2 t a) j))
theorem idx_zero3 : ∀ t : Fin cfg0.N, ∀ a, win0_3.index t a = 0 := (by decide +kernel : ∀ t : Fin grid0.N, _)
theorem iblk3_eq (c : Dev nD) (t : Fin cfg0.N) : iblk m c 3 t = V m c main_arg3 :=
  funext fun j => congrArg (V m c main_arg3) (funext fun a => Fin.ext (win0_3.rect_emb_val_of_index_zero t a (idx_zero3 t a) j))
theorem idx_zero4 : ∀ t : Fin cfg0.N, ∀ a, win0_4.index t a = 0 := (by decide +kernel : ∀ t : Fin grid0.N, _)
theorem iblk4_eq (c : Dev nD) (t : Fin cfg0.N) : iblk m c 4 t = V m c main_arg4 :=
  funext fun j => congrArg (V m c main_arg4) (funext fun a => Fin.ext (win0_4.rect_emb_val_of_index_zero t a (idx_zero4 t a) j))
theorem idx_zero5 : ∀ t : Fin cfg0.N, ∀ a, win0_5.index t a = 0 := (by decide +kernel : ∀ t : Fin grid0.N, _)
theorem iblk5_eq (c : Dev nD) (t : Fin cfg0.N) : iblk m c 5 t = V m c main_arg5 :=
  funext fun j => congrArg (V m c main_arg5) (funext fun a => Fin.ext (win0_5.rect_emb_val_of_index_zero t a (idx_zero5 t a) j))
theorem idx_zero6 : ∀ t : Fin cfg0.N, ∀ a, win0_6.index t a = 0 := (by decide +kernel : ∀ t : Fin grid0.N, _)
theorem iblk6_eq (c : Dev nD) (t : Fin cfg0.N) : iblk m c 6 t = V m c main_arg6 :=
  funext fun j => congrArg (V m c main_arg6) (funext fun a => Fin.ext (win0_6.rect_emb_val_of_index_zero t a (idx_zero6 t a) j))
theorem idx_zero7 : ∀ t : Fin cfg0.N, ∀ a, win0_7.index t a = 0 := (by decide +kernel : ∀ t : Fin grid0.N, _)
theorem iblk7_eq (c : Dev nD) (t : Fin cfg0.N) : iblk m c 7 t = V m c main_arg7 :=
  funext fun j => congrArg (V m c main_arg7) (funext fun a => Fin.ext (win0_7.rect_emb_val_of_index_zero t a (idx_zero7 t a) j))
theorem idx8 : ∀ t : Fin cfg0.N, win0_8.index t (0 : Fin 3) = 0 ∧ win0_8.index t (1 : Fin 3) = 0 ∧ win0_8.index t (2 : Fin 3) = 2 * t.val := (by decide +kernel : ∀ t : Fin grid0.N, _)
theorem idx9 : ∀ t : Fin cfg0.N, win0_9.index t (0 : Fin 3) = 0 ∧ win0_9.index t (1 : Fin 3) = 0 ∧ win0_9.index t (2 : Fin 3) = 2 * t.val + 1 := (by decide +kernel : ∀ t : Fin grid0.N, _)
theorem idx10 : ∀ t : Fin cfg0.N, win0_10.index t (0 : Fin 2) = t.val ∧ win0_10.index t (1 : Fin 2) = 0 := (by decide +kernel : ∀ t : Fin grid0.N, _)

theorem iblk8_at (c : Dev nD) (t : Fin cfg0.N) (k : Fin 2560) (γ : Fin 2) (g : Fin 128) (f : Fin 256) (hf : f.val = g.val) :
    iblk m c 8 t (ix3 k γ g) = V m c main_arg8 (ix3 k γ (col t f)) := by
  refine congrArg (V m c main_arg8) (funext fun a => Fin.ext ?_)
  obtain ⟨e0, e1, e2⟩ := idx8 t
  match a with
  | ⟨0, _⟩ => show win0_8.index t (0 : Fin 3) * 2560 + 1 * k.val = k.val; omega
  | ⟨1, _⟩ => show win0_8.index t (1 : Fin 3) * 2 + 1 * γ.val = γ.val; omega
  | ⟨2, _⟩ => show win0_8.index t (2 : Fin 3) * 128 + 1 * g.val = 256 * t.val + f.val; omega
theorem iblk9_at (c : Dev nD) (t : Fin cfg0.N) (k : Fin 2560) (γ : Fin 2) (g : Fin 128) (f : Fin 256) (hf : f.val = 128 + g.val) :
    iblk m c 9 t (ix3 k γ g) = V m c main_arg8 (ix3 k γ (col t f)) := by
  refine congrArg (V m c main_arg8) (funext fun a => Fin.ext ?_)
  obtain ⟨e0, e1, e2⟩ := idx9 t
  match a with
  | ⟨0, _⟩ => show win0_9.index t (0 : Fin 3) * 2560 + 1 * k.val = k.val; omega
  | ⟨1, _⟩ => show win0_9.index t (1 : Fin 3) * 2 + 1 * γ.val = γ.val; omega
  | ⟨2, _⟩ => show win0_9.index t (2 : Fin 3) * 128 + 1 * g.val = 256 * t.val + f.val; omega
theorem pair_eq (c : Dev nD) (t : Fin cfg0.N) : pair (iblk m c 8 t) (iblk m c 9 t) = sub13 t (V m c main_arg8) := by
  funext j
  obtain ⟨k, γ, f, rfl⟩ : ∃ (k : Fin 2560) (γ : Fin 2) (f : Fin 256), j = ix3 k γ f := ⟨j 0, j 1, j 2, eq_ix3 j⟩
  rcases Nat.lt_or_ge f.val 128 with h | h
  · exact (pair_lo _ _ k γ f ⟨f.val, h⟩ rfl).trans (iblk8_at m c t k γ ⟨f.val, h⟩ f rfl)
  · have e : f.val = 128 + (f.val - 128) := by omega
    exact (pair_hi _ _ k γ f ⟨f.val - 128, by omega⟩ e).trans (iblk9_at m c t k γ ⟨f.val - 128, by omega⟩ f e)
theorem iblk10_eq (c : Dev nD) (t : Fin cfg0.N) : iblk m c 10 t = sub2 t (V m c main_arg9) := by
  funext j
  obtain ⟨f, d, rfl⟩ : ∃ (f : Fin 256) (d : Fin 2560), j = ix2 f d := ⟨j 0, j 1, eq_ix2 j⟩
  refine congrArg (V m c main_arg9) (funext fun a => Fin.ext ?_)
  obtain ⟨e0, e1⟩ := idx10 t
  match a with
  | ⟨0, _⟩ => show win0_10.index t (0 : Fin 2) * 256 + 1 * f.val = 256 * t.val + f.val; omega
  | ⟨1, _⟩ => show win0_10.index t (1 : Fin 2) * 2560 + 1 * d.val = d.val; omega

/-! What a point leaves in each of its blocks. -/

theorem point11 (c : Dev nD) (t : Fin cfg0.N) : (outsAt0 m c t.val t.isLt).1 = w13cA (V m c main_arg0) (sub13 t (V m c main_arg8)) := by
  have e : (outsAt0 m c t.val t.isLt).1 = w13cA (iblk m c 0 t) (pair (iblk m c 8 t) (iblk m c 9 t)) := by
    by_cases h0 : t.val % 27 = 0
    · rw [outsAt0_A m c t h0 (by omega)]; dsimp only; exact CaseA.out_11
    · by_cases h1 : t.val % 27 = 26
      · rw [outsAt0_C m c t h0 h1]; dsimp only; exact CaseC.out_11
      · rw [outsAt0_B m c t h0 h1]; dsimp only; exact CaseB.out_11
  exact e.trans (by rw [iblk0_eq, pair_eq])
theorem point12 (c : Dev nD) (t : Fin cfg0.N) : (outsAt0 m c t.val t.isLt).2.1 = w2cA (V m c main_arg0) (sub2 t (V m c main_arg9)) := by
  have e : (outsAt0 m c t.val t.isLt).2.1 = w2cA (iblk m c 0 t) (iblk m c 10 t) := by
    by_cases h0 : t.val % 27 = 0
    · rw [outsAt0_A m c t h0 (by omega)]; dsimp only; exact CaseA.out_12
    · by_cases h1 : t.val % 27 = 26
      · rw [outsAt0_C m c t h0 h1]; dsimp only; exact CaseC.out_12
      · rw [outsAt0_B m c t h0 h1]; dsimp only; exact CaseB.out_12
  exact e.trans (by rw [iblk0_eq, iblk10_eq])
theorem point13 (c : Dev nD) (t : Fin cfg0.N) : (outsAt0 m c t.val t.isLt).2.2.1 = hcA (V m c main_arg0) (V m c main_arg1) (V m c main_arg5) (sub13 t (V m c main_arg8)) := by
  have e : (outsAt0 m c t.val t.isLt).2.2.1 = hcA (iblk m c 0 t) (iblk m c 1 t) (iblk m c 5 t) (pair (iblk m c 8 t) (iblk m c 9 t)) := by
    by_cases h0 : t.val % 27 = 0
    · rw [outsAt0_A m c t h0 (by omega)]; dsimp only; exact CaseA.out_13
    · by_cases h1 : t.val % 27 = 26
      · rw [outsAt0_C m c t h0 h1]; dsimp only; exact CaseC.out_13
      · rw [outsAt0_B m c t h0 h1]; dsimp only; exact CaseB.out_13
  exact e.trans (by rw [iblk0_eq, iblk1_eq, iblk5_eq, pair_eq])
theorem point14 (c : Dev nD) (t : Fin cfg0.N) : (outsAt0 m c t.val t.isLt).2.2.2.1 = dgcA (V m c main_arg0) (V m c main_arg1) (V m c main_arg5) (V m c main_arg7) (sub13 t (V m c main_arg8)) (sub2 t (V m c main_arg9)) := by
  have e : (outsAt0 m c t.val t.isLt).2.2.2.1 = dgcA (iblk m c 0 t) (iblk m c 1 t) (iblk m c 5 t) (iblk m c 7 t) (pair (iblk m c 8 t) (iblk m c 9 t)) (iblk m c 10 t) := by
    by_cases h0 : t.val % 27 = 0
    · rw [outsAt0_A m c t h0 (by omega)]; dsimp only; exact CaseA.out_14
    · by_cases h1 : t.val % 27 = 26
      · rw [outsAt0_C m c t h0 h1]; dsimp only; exact CaseC.out_14
      · rw [outsAt0_B m c t h0 h1]; dsimp only; exact CaseB.out_14
  exact e.trans (by rw [iblk0_eq, iblk1_eq, iblk5_eq, iblk7_eq, pair_eq, iblk10_eq])
theorem point15 (c : Dev nD) (t : Fin cfg0.N) : (outsAt0 m c t.val t.isLt).2.2.2.2.1 = dw13A (V m c main_arg0) (V m c main_arg1) (V m c main_arg5) (V m c main_arg6) (V m c main_arg7) (sub13 t (V m c main_arg8)) (sub2 t (V m c main_arg9)) := by
  have e : (outsAt0 m c t.val t.isLt).2.2.2.2.1 = dw13A (iblk m c 0 t) (iblk m c 1 t) (iblk m c 5 t) (iblk m c 6 t) (iblk m c 7 t) (pair (iblk m c 8 t) (iblk m c 9 t)) (iblk m c 10 t) := by
    by_cases h0 : t.val % 27 = 0
    · rw [outsAt0_A m c t h0 (by omega)]; dsimp only; exact CaseA.out_15
    · by_cases h1 : t.val % 27 = 26
      · rw [outsAt0_C m c t h0 h1]; dsimp only; exact CaseC.out_15
      · rw [outsAt0_B m c t h0 h1]; dsimp only; exact CaseB.out_15
  exact e.trans (by rw [iblk0_eq, iblk1_eq, iblk5_eq, iblk6_eq, iblk7_eq, pair_eq, iblk10_eq])
theorem point16 (c : Dev nD) (t : Fin cfg0.N) : (outsAt0 m c t.val t.isLt).2.2.2.2.2.1 = dw2A (V m c main_arg0) (V m c main_arg1) (V m c main_arg5) (V m c main_arg7) (sub13 t (V m c main_arg8)) := by
  have e : (outsAt0 m c t.val t.isLt).2.2.2.2.2.1 = dw2A (iblk m c 0 t) (iblk m c 1 t) (iblk m c 5 t) (iblk m c 7 t) (pair (iblk m c 8 t) (iblk m c 9 t)) := by
    by_cases h0 : t.val % 27 = 0
    · rw [outsAt0_A m c t h0 (by omega)]; dsimp only; exact CaseA.out_16
    · by_cases h1 : t.val % 27 = 26
      · rw [outsAt0_C m c t h0 h1]; dsimp only; exact CaseC.out_16
      · rw [outsAt0_B m c t h0 h1]; dsimp only; exact CaseB.out_16
  exact e.trans (by rw [iblk0_eq, iblk1_eq, iblk5_eq, iblk7_eq, pair_eq])

/-! The final arrays. -/

theorem idx11 : ∀ t : Fin cfg0.N, win0_11.index t (0 : Fin 3) = 0 ∧ win0_11.index t (1 : Fin 3) = 0 ∧ win0_11.index t (2 : Fin 3) = t.val := (by decide +kernel : ∀ t : Fin grid0.N, _)
theorem emb11 (t : Fin cfg0.N) (j : S2x2560x256.Idx) : ((cfg0.win 11).blk t).view.emb j = ix3 (j 0) (j 1) (col t (j 2)) := by
  refine funext fun a => Fin.ext ?_
  obtain ⟨e0, e1, e2⟩ := idx11 t
  match a with
  | ⟨0, _⟩ => show win0_11.index t (0 : Fin 3) * 2 + 1 * (j 0).val = (j 0).val; omega
  | ⟨1, _⟩ => show win0_11.index t (1 : Fin 3) * 2560 + 1 * (j 1).val = (j 1).val; omega
  | ⟨2, _⟩ => show win0_11.index t (2 : Fin 3) * 256 + 1 * (j 2).val = 256 * t.val + (j 2).val; omega
theorem covered11 (i : S2x2560x6912.Idx) : ∃ t : Fin cfg0.N, (cfg0.win 11).flush t = true ∧ i ∈ ((cfg0.win 11).blk t).view.set := by
  have hi : (i 2).val < 6912 := (i 2).isLt
  let t : Fin cfg0.N := ⟨(i 2).val / 256, by show (i 2).val / 256 < 27; omega⟩
  let f : Fin 256 := ⟨(i 2).val % 256, Nat.mod_lt _ (by omega)⟩
  have e : ((cfg0.win 11).blk t).view.emb (ix3 (i 0) (i 1) f) = i :=
    (emb11 t (ix3 (i 0) (i 1) f)).trans ((congrArg (fun z => ix3 (i 0) (i 1) z) (Fin.ext (Nat.div_add_mod (i 2).val 256) : col t f = i 2)).trans (eq_ix3 i).symm)
  exact ⟨t, flush0_11 _, e ▸ ((cfg0.win 11).blk t).view.emb_mem_set (ix3 (i 0) (i 1) f)⟩
theorem final11 (c : Dev nD) : (dats m 0 c).arrAt 11 cfg0.N = w13cA (V m c main_arg0) (V m c main_arg8) := by
  refine (dats m 0 c).arrAt_eq_of_cover 11 (w13cA (V m c main_arg0) (V m c main_arg8)) (fun t _ => ?_) covered11
  show (cfg0.win 11).cut (grid0.coords t) ((dats m 0 c).after 11 t) = _
  rw [after0_11, point11]
  funext j
  exact (congrArg (w13cA (V m c main_arg0) (V m c main_arg8)) (emb11 t j)).symm
theorem idx12 : ∀ t : Fin cfg0.N, win0_12.index t (0 : Fin 2) = t.val ∧ win0_12.index t (1 : Fin 2) = 0 := (by decide +kernel : ∀ t : Fin grid0.N, _)
theorem emb12 (t : Fin cfg0.N) (j : S256x2560.Idx) : ((cfg0.win 12).blk t).view.emb j = ix2 (col t (j 0)) (j 1) := by
  refine funext fun a => Fin.ext ?_
  obtain ⟨e0, e1⟩ := idx12 t
  match a with
  | ⟨0, _⟩ => show win0_12.index t (0 : Fin 2) * 256 + 1 * (j 0).val = 256 * t.val + (j 0).val; omega
  | ⟨1, _⟩ => show win0_12.index t (1 : Fin 2) * 2560 + 1 * (j 1).val = (j 1).val; omega
theorem covered12 (i : S6912x2560.Idx) : ∃ t : Fin cfg0.N, (cfg0.win 12).flush t = true ∧ i ∈ ((cfg0.win 12).blk t).view.set := by
  have hi : (i 0).val < 6912 := (i 0).isLt
  let t : Fin cfg0.N := ⟨(i 0).val / 256, by show (i 0).val / 256 < 27; omega⟩
  let f : Fin 256 := ⟨(i 0).val % 256, Nat.mod_lt _ (by omega)⟩
  have e : ((cfg0.win 12).blk t).view.emb (ix2 f (i 1)) = i :=
    (emb12 t (ix2 f (i 1))).trans ((congrArg (fun z => ix2 z (i 1)) (Fin.ext (Nat.div_add_mod (i 0).val 256) : col t f = i 0)).trans (eq_ix2 i).symm)
  exact ⟨t, flush0_12 _, e ▸ ((cfg0.win 12).blk t).view.emb_mem_set (ix2 f (i 1))⟩
theorem final12 (c : Dev nD) : (dats m 0 c).arrAt 12 cfg0.N = w2cA (V m c main_arg0) (V m c main_arg9) := by
  refine (dats m 0 c).arrAt_eq_of_cover 12 (w2cA (V m c main_arg0) (V m c main_arg9)) (fun t _ => ?_) covered12
  show (cfg0.win 12).cut (grid0.coords t) ((dats m 0 c).after 12 t) = _
  rw [after0_12, point12]
  funext j
  exact (congrArg (w2cA (V m c main_arg0) (V m c main_arg9)) (emb12 t j)).symm
theorem idx13 : ∀ t : Fin cfg0.N, win0_13.index t (0 : Fin 2) = 0 ∧ win0_13.index t (1 : Fin 2) = t.val := (by decide +kernel : ∀ t : Fin grid0.N, _)
theorem emb13 (t : Fin cfg0.N) (j : S1920x256.Idx) : ((cfg0.win 13).blk t).view.emb j = ix2 (j 0) (col t (j 1)) := by
  refine funext fun a => Fin.ext ?_
  obtain ⟨e0, e1⟩ := idx13 t
  match a with
  | ⟨0, _⟩ => show win0_13.index t (0 : Fin 2) * 1920 + 1 * (j 0).val = (j 0).val; omega
  | ⟨1, _⟩ => show win0_13.index t (1 : Fin 2) * 256 + 1 * (j 1).val = 256 * t.val + (j 1).val; omega
theorem covered13 (i : S1920x6912.Idx) : ∃ t : Fin cfg0.N, (cfg0.win 13).flush t = true ∧ i ∈ ((cfg0.win 13).blk t).view.set := by
  have hi : (i 1).val < 6912 := (i 1).isLt
  let t : Fin cfg0.N := ⟨(i 1).val / 256, by show (i 1).val / 256 < 27; omega⟩
  let f : Fin 256 := ⟨(i 1).val % 256, Nat.mod_lt _ (by omega)⟩
  have e : ((cfg0.win 13).blk t).view.emb (ix2 (i 0) f) = i :=
    (emb13 t (ix2 (i 0) f)).trans ((congrArg (fun z => ix2 (i 0) z) (Fin.ext (Nat.div_add_mod (i 1).val 256) : col t f = i 1)).trans (eq_ix2 i).symm)
  exact ⟨t, flush0_13 _, e ▸ ((cfg0.win 13).blk t).view.emb_mem_set (ix2 (i 0) f)⟩
theorem final13 (c : Dev nD) : (dats m 0 c).arrAt 13 cfg0.N = hcA (V m c main_arg0) (V m c main_arg1) (V m c main_arg5) (V m c main_arg8) := by
  refine (dats m 0 c).arrAt_eq_of_cover 13 (hcA (V m c main_arg0) (V m c main_arg1) (V m c main_arg5) (V m c main_arg8)) (fun t _ => ?_) covered13
  show (cfg0.win 13).cut (grid0.coords t) ((dats m 0 c).after 13 t) = _
  rw [after0_13, point13]
  funext j
  exact (congrArg (hcA (V m c main_arg0) (V m c main_arg1) (V m c main_arg5) (V m c main_arg8)) (emb13 t j)).symm
theorem idx14 : ∀ t : Fin cfg0.N, win0_14.index t (0 : Fin 4) = 0 ∧ win0_14.index t (1 : Fin 4) = 0 ∧ win0_14.index t (2 : Fin 4) = 0 ∧ win0_14.index t (3 : Fin 4) = t.val := (by decide +kernel : ∀ t : Fin grid0.N, _)
theorem emb14 (t : Fin cfg0.N) (j : S3x2x640x256.Idx) : ((cfg0.win 14).blk t).view.emb j = ix4 (j 0) (j 1) (j 2) (col t (j 3)) := by
  refine funext fun a => Fin.ext ?_
  obtain ⟨e0, e1, e2, e3⟩ := idx14 t
  match a with
  | ⟨0, _⟩ => show win0_14.index t (0 : Fin 4) * 3 + 1 * (j 0).val = (j 0).val; omega
  | ⟨1, _⟩ => show win0_14.index t (1 : Fin 4) * 2 + 1 * (j 1).val = (j 1).val; omega
  | ⟨2, _⟩ => show win0_14.index t (2 : Fin 4) * 640 + 1 * (j 2).val = (j 2).val; omega
  | ⟨3, _⟩ => show win0_14.index t (3 : Fin 4) * 256 + 1 * (j 3).val = 256 * t.val + (j 3).val; omega
theorem covered14 (i : S3x2x640x6912.Idx) : ∃ t : Fin cfg0.N, (cfg0.win 14).flush t = true ∧ i ∈ ((cfg0.win 14).blk t).view.set := by
  have hi : (i 3).val < 6912 := (i 3).isLt
  let t : Fin cfg0.N := ⟨(i 3).val / 256, by show (i 3).val / 256 < 27; omega⟩
  let f : Fin 256 := ⟨(i 3).val % 256, Nat.mod_lt _ (by omega)⟩
  have e : ((cfg0.win 14).blk t).view.emb (ix4 (i 0) (i 1) (i 2) f) = i :=
    (emb14 t (ix4 (i 0) (i 1) (i 2) f)).trans ((congrArg (fun z => ix4 (i 0) (i 1) (i 2) z) (Fin.ext (Nat.div_add_mod (i 3).val 256) : col t f = i 3)).trans (eq_ix4 i).symm)
  exact ⟨t, flush0_14 _, e ▸ ((cfg0.win 14).blk t).view.emb_mem_set (ix4 (i 0) (i 1) (i 2) f)⟩
theorem final14 (c : Dev nD) : (dats m 0 c).arrAt 14 cfg0.N = dgcA (V m c main_arg0) (V m c main_arg1) (V m c main_arg5) (V m c main_arg7) (V m c main_arg8) (V m c main_arg9) := by
  refine (dats m 0 c).arrAt_eq_of_cover 14 (dgcA (V m c main_arg0) (V m c main_arg1) (V m c main_arg5) (V m c main_arg7) (V m c main_arg8) (V m c main_arg9)) (fun t _ => ?_) covered14
  show (cfg0.win 14).cut (grid0.coords t) ((dats m 0 c).after 14 t) = _
  rw [after0_14, point14]
  funext j
  exact (congrArg (dgcA (V m c main_arg0) (V m c main_arg1) (V m c main_arg5) (V m c main_arg7) (V m c main_arg8) (V m c main_arg9)) (emb14 t j)).symm
theorem idx15 : ∀ t : Fin cfg0.N, win0_15.index t (0 : Fin 3) = 0 ∧ win0_15.index t (1 : Fin 3) = 0 ∧ win0_15.index t (2 : Fin 3) = t.val := (by decide +kernel : ∀ t : Fin grid0.N, _)
theorem emb15 (t : Fin cfg0.N) (j : S2560x2x256.Idx) : ((cfg0.win 15).blk t).view.emb j = ix3 (j 0) (j 1) (col t (j 2)) := by
  refine funext fun a => Fin.ext ?_
  obtain ⟨e0, e1, e2⟩ := idx15 t
  match a with
  | ⟨0, _⟩ => show win0_15.index t (0 : Fin 3) * 2560 + 1 * (j 0).val = (j 0).val; omega
  | ⟨1, _⟩ => show win0_15.index t (1 : Fin 3) * 2 + 1 * (j 1).val = (j 1).val; omega
  | ⟨2, _⟩ => show win0_15.index t (2 : Fin 3) * 256 + 1 * (j 2).val = 256 * t.val + (j 2).val; omega
theorem covered15 (i : S2560x2x6912.Idx) : ∃ t : Fin cfg0.N, (cfg0.win 15).flush t = true ∧ i ∈ ((cfg0.win 15).blk t).view.set := by
  have hi : (i 2).val < 6912 := (i 2).isLt
  let t : Fin cfg0.N := ⟨(i 2).val / 256, by show (i 2).val / 256 < 27; omega⟩
  let f : Fin 256 := ⟨(i 2).val % 256, Nat.mod_lt _ (by omega)⟩
  have e : ((cfg0.win 15).blk t).view.emb (ix3 (i 0) (i 1) f) = i :=
    (emb15 t (ix3 (i 0) (i 1) f)).trans ((congrArg (fun z => ix3 (i 0) (i 1) z) (Fin.ext (Nat.div_add_mod (i 2).val 256) : col t f = i 2)).trans (eq_ix3 i).symm)
  exact ⟨t, flush0_15 _, e ▸ ((cfg0.win 15).blk t).view.emb_mem_set (ix3 (i 0) (i 1) f)⟩
theorem final15 (c : Dev nD) : (dats m 0 c).arrAt 15 cfg0.N = dw13A (V m c main_arg0) (V m c main_arg1) (V m c main_arg5) (V m c main_arg6) (V m c main_arg7) (V m c main_arg8) (V m c main_arg9) := by
  refine (dats m 0 c).arrAt_eq_of_cover 15 (dw13A (V m c main_arg0) (V m c main_arg1) (V m c main_arg5) (V m c main_arg6) (V m c main_arg7) (V m c main_arg8) (V m c main_arg9)) (fun t _ => ?_) covered15
  show (cfg0.win 15).cut (grid0.coords t) ((dats m 0 c).after 15 t) = _
  rw [after0_15, point15]
  funext j
  exact (congrArg (dw13A (V m c main_arg0) (V m c main_arg1) (V m c main_arg5) (V m c main_arg6) (V m c main_arg7) (V m c main_arg8) (V m c main_arg9)) (emb15 t j)).symm
theorem idx16 : ∀ t : Fin cfg0.N, win0_16.index t (0 : Fin 2) = t.val ∧ win0_16.index t (1 : Fin 2) = 0 := (by decide +kernel : ∀ t : Fin grid0.N, _)
theorem emb16 (t : Fin cfg0.N) (j : S256x2560.Idx) : ((cfg0.win 16).blk t).view.emb j = ix2 (col t (j 0)) (j 1) := by
  refine funext fun a => Fin.ext ?_
  obtain ⟨e0, e1⟩ := idx16 t
  match a with
  | ⟨0, _⟩ => show win0_16.index t (0 : Fin 2) * 256 + 1 * (j 0).val = 256 * t.val + (j 0).val; omega
  | ⟨1, _⟩ => show win0_16.index t (1 : Fin 2) * 2560 + 1 * (j 1).val = (j 1).val; omega
theorem covered16 (i : S6912x2560.Idx) : ∃ t : Fin cfg0.N, (cfg0.win 16).flush t = true ∧ i ∈ ((cfg0.win 16).blk t).view.set := by
  have hi : (i 0).val < 6912 := (i 0).isLt
  let t : Fin cfg0.N := ⟨(i 0).val / 256, by show (i 0).val / 256 < 27; omega⟩
  let f : Fin 256 := ⟨(i 0).val % 256, Nat.mod_lt _ (by omega)⟩
  have e : ((cfg0.win 16).blk t).view.emb (ix2 f (i 1)) = i :=
    (emb16 t (ix2 f (i 1))).trans ((congrArg (fun z => ix2 z (i 1)) (Fin.ext (Nat.div_add_mod (i 0).val 256) : col t f = i 0)).trans (eq_ix2 i).symm)
  exact ⟨t, flush0_16 _, e ▸ ((cfg0.win 16).blk t).view.emb_mem_set (ix2 f (i 1))⟩
theorem final16 (c : Dev nD) : (dats m 0 c).arrAt 16 cfg0.N = dw2A (V m c main_arg0) (V m c main_arg1) (V m c main_arg5) (V m c main_arg7) (V m c main_arg8) := by
  refine (dats m 0 c).arrAt_eq_of_cover 16 (dw2A (V m c main_arg0) (V m c main_arg1) (V m c main_arg5) (V m c main_arg7) (V m c main_arg8)) (fun t _ => ?_) covered16
  show (cfg0.win 16).cut (grid0.coords t) ((dats m 0 c).after 16 t) = _
  rw [after0_16, point16]
  funext j
  exact (congrArg (dw2A (V m c main_arg0) (V m c main_arg1) (V m c main_arg5) (V m c main_arg7) (V m c main_arg8)) (emb16 t j)).symm

/-! The running maxima. -/

theorem count : cfg0.N = 27 := by decide

/-- What point `t` adds to running maximum 0. -/
def adds0 (c : Dev nD) (B : EReal) (t : Fin 27) : Prop := ∀ k γ f, ab (sub13 t (V m c main_arg8) (ix3 k γ f)) ≤ B
theorem adds0_eq (c : Dev nD) (B : EReal) (t : Fin cfg0.N) : (∀ k γ f, ab ((pair (iblk m c 8 t) (iblk m c 9 t)) (ix3 k γ f)) ≤ B) ↔ adds0 m c B t := by
  unfold adds0
  rw [pair_eq]
theorem first0 (c : Dev nD) (B : EReal) (t : Fin cfg0.N) (h0 : t.val % 27 = 0) :
    UB (outsAt0 m c t.val t.isLt).2.2.2.2.2.2.2.2.1 B ↔ 0 ≤ B ∧ adds0 m c B t := by
  rw [outsAt0_A m c t h0 (by omega)]
  dsimp only
  exact (CaseA.sc0 B).trans (and_congr_right fun _ => adds0_eq m c B t)
theorem next0 (c : Dev nD) (B : EReal) (t : Fin cfg0.N) (h0 : ¬t.val % 27 = 0) (h1 : ¬t.val % 27 = 26)
    (n : ℕ) (hn : n < cfg0.N) (e : t.val - 1 = n) :
    UB (outsAt0 m c t.val t.isLt).2.2.2.2.2.2.2.2.1 B ↔ UB (outsAt0 m c n hn).2.2.2.2.2.2.2.2.1 B ∧ adds0 m c B t := by
  subst e
  rw [outsAt0_B m c t h0 h1]
  dsimp only
  exact (CaseB.sc0 B).trans (and_congr_right fun _ => adds0_eq m c B t)
/-- `B` bounds running maximum 0 after point `n`. -/
def held0 (c : Dev nD) (B : EReal) (n : ℕ) (h : n < 27) : Prop := UB (outsAt0 m c n (lt_of_lt_of_eq h count.symm)).2.2.2.2.2.2.2.2.1 B
theorem held0_first (c : Dev nD) (B : EReal) : held0 m c B 0 (by omega) ↔ 0 ≤ B ∧ adds0 m c B 0 := first0 m c B ⟨0, by decide⟩ rfl
theorem held0_next (c : Dev nD) (B : EReal) (n : ℕ) (h : n + 1 < 26) :
    held0 m c B (n + 1) (by omega) ↔ held0 m c B n (by omega) ∧ adds0 m c B ⟨n + 1, by omega⟩ :=
  next0 m c B ⟨n + 1, lt_of_lt_of_eq (by omega) count.symm⟩ (by show ¬(n + 1) % 27 = 0; omega) (by show ¬(n + 1) % 27 = 26; omega) n _ (Nat.add_sub_cancel n 1)
theorem all0 (c : Dev nD) (B : EReal) : m13 (V m c main_arg8) ≤ B ↔ 0 ≤ B ∧ ∀ t, adds0 m c B t := m13_cols (V m c main_arg8) B
theorem held0_back (c : Dev nD) (B : EReal) (n : ℕ) (h : n < 27) (hn : n < cfg0.N) : held0 m c B n h ↔ UB (outsAt0 m c n hn).2.2.2.2.2.2.2.2.1 B := Iff.rfl
theorem total0 (c : Dev nD) (B : EReal) : m13 (V m c main_arg8) ≤ B ↔ held0 m c B 25 (by omega) ∧ adds0 m c B 26 :=
  (all0 m c B).trans (running_all (held0 m c B) (0 ≤ B) (adds0 m c B) (held0_first m c B) (held0_next m c B)).symm
/-- What point `t` adds to running maximum 1. -/
def adds1 (c : Dev nD) (B : EReal) (t : Fin 27) : Prop := ∀ f d, ab (sub2 t (V m c main_arg9) (ix2 f d)) ≤ B
theorem adds1_eq (c : Dev nD) (B : EReal) (t : Fin cfg0.N) : (∀ f d, ab ((show Mat 256 2560 from (iblk m c 10 t)) (ix2 f d)) ≤ B) ↔ adds1 m c B t := by
  unfold adds1
  rw [iblk10_eq]
theorem first1 (c : Dev nD) (B : EReal) (t : Fin cfg0.N) (h0 : t.val % 27 = 0) :
    UB (outsAt0 m c t.val t.isLt).2.2.2.2.2.2.2.2.2.1 B ↔ 0 ≤ B ∧ adds1 m c B t := by
  rw [outsAt0_A m c t h0 (by omega)]
  dsimp only
  exact (CaseA.sc1 B).trans (and_congr_right fun _ => adds1_eq m c B t)
theorem next1 (c : Dev nD) (B : EReal) (t : Fin cfg0.N) (h0 : ¬t.val % 27 = 0) (h1 : ¬t.val % 27 = 26)
    (n : ℕ) (hn : n < cfg0.N) (e : t.val - 1 = n) :
    UB (outsAt0 m c t.val t.isLt).2.2.2.2.2.2.2.2.2.1 B ↔ UB (outsAt0 m c n hn).2.2.2.2.2.2.2.2.2.1 B ∧ adds1 m c B t := by
  subst e
  rw [outsAt0_B m c t h0 h1]
  dsimp only
  exact (CaseB.sc1 B).trans (and_congr_right fun _ => adds1_eq m c B t)
/-- `B` bounds running maximum 1 after point `n`. -/
def held1 (c : Dev nD) (B : EReal) (n : ℕ) (h : n < 27) : Prop := UB (outsAt0 m c n (lt_of_lt_of_eq h count.symm)).2.2.2.2.2.2.2.2.2.1 B
theorem held1_first (c : Dev nD) (B : EReal) : held1 m c B 0 (by omega) ↔ 0 ≤ B ∧ adds1 m c B 0 := first1 m c B ⟨0, by decide⟩ rfl
theorem held1_next (c : Dev nD) (B : EReal) (n : ℕ) (h : n + 1 < 26) :
    held1 m c B (n + 1) (by omega) ↔ held1 m c B n (by omega) ∧ adds1 m c B ⟨n + 1, by omega⟩ :=
  next1 m c B ⟨n + 1, lt_of_lt_of_eq (by omega) count.symm⟩ (by show ¬(n + 1) % 27 = 0; omega) (by show ¬(n + 1) % 27 = 26; omega) n _ (Nat.add_sub_cancel n 1)
theorem all1 (c : Dev nD) (B : EReal) : m2 (V m c main_arg9) ≤ B ↔ 0 ≤ B ∧ ∀ t, adds1 m c B t := m2_cols (V m c main_arg9) B
theorem held1_back (c : Dev nD) (B : EReal) (n : ℕ) (h : n < 27) (hn : n < cfg0.N) : held1 m c B n h ↔ UB (outsAt0 m c n hn).2.2.2.2.2.2.2.2.2.1 B := Iff.rfl
theorem total1 (c : Dev nD) (B : EReal) : m2 (V m c main_arg9) ≤ B ↔ held1 m c B 25 (by omega) ∧ adds1 m c B 26 :=
  (all1 m c B).trans (running_all (held1 m c B) (0 ≤ B) (adds1 m c B) (held1_first m c B) (held1_next m c B)).symm
/-- What point `t` adds to running maximum 2. -/
def adds2 (c : Dev nD) (B : EReal) (t : Fin 27) : Prop := ∀ r f, ab (hAt (V m c main_arg0) (V m c main_arg1) (V m c main_arg5) (sub13 t (V m c main_arg8)) r f) ≤ B
theorem adds2_eq (c : Dev nD) (B : EReal) (t : Fin cfg0.N) : (∀ r f, ab (hAt (iblk m c 0 t) (iblk m c 1 t) (iblk m c 5 t) (pair (iblk m c 8 t) (iblk m c 9 t)) r f) ≤ B) ↔ adds2 m c B t := by
  unfold adds2
  rw [iblk0_eq, iblk1_eq, iblk5_eq, pair_eq]
theorem first2 (c : Dev nD) (B : EReal) (t : Fin cfg0.N) (h0 : t.val % 27 = 0) :
    UB (outsAt0 m c t.val t.isLt).2.2.2.2.2.2.2.2.2.2.1 B ↔ 0 ≤ B ∧ adds2 m c B t := by
  rw [outsAt0_A m c t h0 (by omega)]
  dsimp only
  exact (CaseA.sc2 B).trans (and_congr_right fun _ => adds2_eq m c B t)
theorem next2 (c : Dev nD) (B : EReal) (t : Fin cfg0.N) (h0 : ¬t.val % 27 = 0) (h1 : ¬t.val % 27 = 26)
    (n : ℕ) (hn : n < cfg0.N) (e : t.val - 1 = n) :
    UB (outsAt0 m c t.val t.isLt).2.2.2.2.2.2.2.2.2.2.1 B ↔ UB (outsAt0 m c n hn).2.2.2.2.2.2.2.2.2.2.1 B ∧ adds2 m c B t := by
  subst e
  rw [outsAt0_B m c t h0 h1]
  dsimp only
  exact (CaseB.sc2 B).trans (and_congr_right fun _ => adds2_eq m c B t)
/-- `B` bounds running maximum 2 after point `n`. -/
def held2 (c : Dev nD) (B : EReal) (n : ℕ) (h : n < 27) : Prop := UB (outsAt0 m c n (lt_of_lt_of_eq h count.symm)).2.2.2.2.2.2.2.2.2.2.1 B
theorem held2_first (c : Dev nD) (B : EReal) : held2 m c B 0 (by omega) ↔ 0 ≤ B ∧ adds2 m c B 0 := first2 m c B ⟨0, by decide⟩ rfl
theorem held2_next (c : Dev nD) (B : EReal) (n : ℕ) (h : n + 1 < 26) :
    held2 m c B (n + 1) (by omega) ↔ held2 m c B n (by omega) ∧ adds2 m c B ⟨n + 1, by omega⟩ :=
  next2 m c B ⟨n + 1, lt_of_lt_of_eq (by omega) count.symm⟩ (by show ¬(n + 1) % 27 = 0; omega) (by show ¬(n + 1) % 27 = 26; omega) n _ (Nat.add_sub_cancel n 1)
theorem all2 (c : Dev nD) (B : EReal) : mh (V m c main_arg0) (V m c main_arg1) (V m c main_arg5) (V m c main_arg8) ≤ B ↔ 0 ≤ B ∧ ∀ t, adds2 m c B t := mh_cols (V m c main_arg0) (V m c main_arg1) (V m c main_arg5) (V m c main_arg8) B
theorem held2_back (c : Dev nD) (B : EReal) (n : ℕ) (h : n < 27) (hn : n < cfg0.N) : held2 m c B n h ↔ UB (outsAt0 m c n hn).2.2.2.2.2.2.2.2.2.2.1 B := Iff.rfl
theorem total2 (c : Dev nD) (B : EReal) : mh (V m c main_arg0) (V m c main_arg1) (V m c main_arg5) (V m c main_arg8) ≤ B ↔ held2 m c B 25 (by omega) ∧ adds2 m c B 26 :=
  (all2 m c B).trans (running_all (held2 m c B) (0 ≤ B) (adds2 m c B) (held2_first m c B) (held2_next m c B)).symm
/-- What point `t` adds to running maximum 3. -/
def adds3 (c : Dev nD) (B : EReal) (t : Fin 27) : Prop := ∀ r γ f, ab (dgAt (V m c main_arg0) (V m c main_arg1) (V m c main_arg5) (V m c main_arg7) (sub13 t (V m c main_arg8)) (sub2 t (V m c main_arg9)) γ r f) ≤ B
theorem adds3_eq (c : Dev nD) (B : EReal) (t : Fin cfg0.N) : (∀ r γ f, ab (dgAt (iblk m c 0 t) (iblk m c 1 t) (iblk m c 5 t) (iblk m c 7 t) (pair (iblk m c 8 t) (iblk m c 9 t)) (iblk m c 10 t) γ r f) ≤ B) ↔ adds3 m c B t := by
  unfold adds3
  rw [iblk0_eq, iblk1_eq, iblk5_eq, iblk7_eq, pair_eq, iblk10_eq]
theorem first3 (c : Dev nD) (B : EReal) (t : Fin cfg0.N) (h0 : t.val % 27 = 0) :
    UB (outsAt0 m c t.val t.isLt).2.2.2.2.2.2.2.2.2.2.2 B ↔ 0 ≤ B ∧ adds3 m c B t := by
  rw [outsAt0_A m c t h0 (by omega)]
  dsimp only
  exact (CaseA.sc3 B).trans (and_congr_right fun _ => adds3_eq m c B t)
theorem next3 (c : Dev nD) (B : EReal) (t : Fin cfg0.N) (h0 : ¬t.val % 27 = 0) (h1 : ¬t.val % 27 = 26)
    (n : ℕ) (hn : n < cfg0.N) (e : t.val - 1 = n) :
    UB (outsAt0 m c t.val t.isLt).2.2.2.2.2.2.2.2.2.2.2 B ↔ UB (outsAt0 m c n hn).2.2.2.2.2.2.2.2.2.2.2 B ∧ adds3 m c B t := by
  subst e
  rw [outsAt0_B m c t h0 h1]
  dsimp only
  exact (CaseB.sc3 B).trans (and_congr_right fun _ => adds3_eq m c B t)
/-- `B` bounds running maximum 3 after point `n`. -/
def held3 (c : Dev nD) (B : EReal) (n : ℕ) (h : n < 27) : Prop := UB (outsAt0 m c n (lt_of_lt_of_eq h count.symm)).2.2.2.2.2.2.2.2.2.2.2 B
theorem held3_first (c : Dev nD) (B : EReal) : held3 m c B 0 (by omega) ↔ 0 ≤ B ∧ adds3 m c B 0 := first3 m c B ⟨0, by decide⟩ rfl
theorem held3_next (c : Dev nD) (B : EReal) (n : ℕ) (h : n + 1 < 26) :
    held3 m c B (n + 1) (by omega) ↔ held3 m c B n (by omega) ∧ adds3 m c B ⟨n + 1, by omega⟩ :=
  next3 m c B ⟨n + 1, lt_of_lt_of_eq (by omega) count.symm⟩ (by show ¬(n + 1) % 27 = 0; omega) (by show ¬(n + 1) % 27 = 26; omega) n _ (Nat.add_sub_cancel n 1)
theorem all3 (c : Dev nD) (B : EReal) : mg (V m c main_arg0) (V m c main_arg1) (V m c main_arg5) (V m c main_arg7) (V m c main_arg8) (V m c main_arg9) ≤ B ↔ 0 ≤ B ∧ ∀ t, adds3 m c B t := mg_cols (V m c main_arg0) (V m c main_arg1) (V m c main_arg5) (V m c main_arg7) (V m c main_arg8) (V m c main_arg9) B
theorem held3_back (c : Dev nD) (B : EReal) (n : ℕ) (h : n < 27) (hn : n < cfg0.N) : held3 m c B n h ↔ UB (outsAt0 m c n hn).2.2.2.2.2.2.2.2.2.2.2 B := Iff.rfl
theorem total3 (c : Dev nD) (B : EReal) : mg (V m c main_arg0) (V m c main_arg1) (V m c main_arg5) (V m c main_arg7) (V m c main_arg8) (V m c main_arg9) ≤ B ↔ held3 m c B 25 (by omega) ∧ adds3 m c B 26 :=
  (all3 m c B).trans (running_all (held3 m c B) (0 ≤ B) (adds3 m c B) (held3_first m c B) (held3_next m c B)).symm

/-! The history. -/

theorem point17 (c : Dev nD) (t : Fin cfg0.N) (h1 : t.val % 27 = 26) : (outsAt0 m c t.val t.isLt).2.2.2.2.2.2.1 = nhA (V m c main_arg2) (maxima (V m c main_arg0) (V m c main_arg1) (V m c main_arg5) (V m c main_arg7) (V m c main_arg3) (V m c main_arg4) (V m c main_arg8) (V m c main_arg9)) := by
  have ht : t = ⟨26, by decide⟩ := Fin.ext (by have h : t.val < 27 := t.isLt; show t.val = 26; omega)
  subst ht
  rw [outsAt0_C m c ⟨26, by decide⟩ (by decide) h1]
  dsimp only
  refine (CaseC.out_17 (maxima (V m c main_arg0) (V m c main_arg1) (V m c main_arg5) (V m c main_arg7) (V m c main_arg3) (V m c main_arg4) (V m c main_arg8) (V m c main_arg9)) (fun B => ?_) (fun B => ?_) (fun B => ?_) (fun B => ?_) (fun B => ?_) (fun B => ?_)).trans
    (congrArg (nhA · (maxima (V m c main_arg0) (V m c main_arg1) (V m c main_arg5) (V m c main_arg7) (V m c main_arg3) (V m c main_arg4) (V m c main_arg8) (V m c main_arg9))) (iblk2_eq m c _))
  · rw [maxima_0, iblk3_eq]; exact top_le B _
  · rw [maxima_1]; exact (total0 m c B).trans (and_congr (held0_back m c B _ (by decide) _) (adds0_eq m c B ⟨26, by decide⟩).symm)
  · rw [maxima_2]; exact (total1 m c B).trans (and_congr (held1_back m c B _ (by decide) _) (adds1_eq m c B ⟨26, by decide⟩).symm)
  · rw [maxima_3]; exact (total2 m c B).trans (and_congr (held2_back m c B _ (by decide) _) (adds2_eq m c B ⟨26, by decide⟩).symm)
  · rw [maxima_4, iblk4_eq]; exact top_le B _
  · rw [maxima_5]; exact (total3 m c B).trans (and_congr (held3_back m c B _ (by decide) _) (adds3_eq m c B ⟨26, by decide⟩).symm)

theorem idx_zero17 : ∀ t : Fin cfg0.N, ∀ a, win0_17.index t a = 0 := (by decide +kernel : ∀ t : Fin grid0.N, _)
theorem emb17 (t : Fin cfg0.N) (j : S6x16.Idx) : ((cfg0.win 17).blk t).view.emb j = j :=
  funext fun a => Fin.ext (win0_17.rect_emb_val_of_index_zero t a (idx_zero17 t a) j)
theorem final17 (c : Dev nD) : (dats m 0 c).arrAt 17 cfg0.N = nhA (V m c main_arg2) (maxima (V m c main_arg0) (V m c main_arg1) (V m c main_arg5) (V m c main_arg7) (V m c main_arg3) (V m c main_arg4) (V m c main_arg8) (V m c main_arg9)) := by
  refine (dats m 0 c).arrAt_eq_of_cover 17 (nhA (V m c main_arg2) (maxima (V m c main_arg0) (V m c main_arg1) (V m c main_arg5) (V m c main_arg7) (V m c main_arg3) (V m c main_arg4) (V m c main_arg8) (V m c main_arg9))) (fun t hf => ?_) fun i => ?_
  · show (cfg0.win 17).cut (grid0.coords t) ((dats m 0 c).after 17 t) = _
    rw [after0_17, point17 m c t ((flush0_17 t).1 hf)]
    funext j
    exact (congrArg (nhA (V m c main_arg2) (maxima (V m c main_arg0) (V m c main_arg1) (V m c main_arg5) (V m c main_arg7) (V m c main_arg3) (V m c main_arg4) (V m c main_arg8) (V m c main_arg9))) (emb17 t j)).symm
  · refine ⟨(⟨26, by decide⟩ : Fin cfg0.N), (flush0_17 _).2 rfl, ?_⟩
    have h := ((cfg0.win 17).blk (⟨26, by decide⟩ : Fin cfg0.N)).view.emb_mem_set i
    rwa [emb17] at h

/-! The run. -/

theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))
theorem kept4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))
theorem kept5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))
theorem kept6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))
theorem kept7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))
theorem kept8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).1 9).trans (((dats m 0 c).arrAt_in 9 rfl _).trans ((A_eq m c 9).trans (V_main_arg8 m c)))
theorem kept9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).1 10).trans (((dats m 0 c).arrAt_in 10 rfl _).trans ((A_eq m c 10).trans (V_main_arg9 m c)))
/-- The kernel's run, its results named. -/
theorem run : θ_run defs (onTc (τ := τ) (main (F := Ideal))) ⟨m, fun _ => 0, ρ⟩ fun r => ∀ c : Dev nD,
      r.2.mem ((c : Thread nD τ).loc main_v0_0) = w13cA (m ((c : Thread nD τ).loc main_arg0)) (m ((c : Thread nD τ).loc main_arg8))
      ∧ r.2.mem ((c : Thread nD τ).loc main_v0_1) = w2cA (m ((c : Thread nD τ).loc main_arg0)) (m ((c : Thread nD τ).loc main_arg9))
      ∧ r.2.mem ((c : Thread nD τ).loc main_v0_2) = hcA (m ((c : Thread nD τ).loc main_arg0)) (m ((c : Thread nD τ).loc main_arg1)) (m ((c : Thread nD τ).loc main_arg5)) (m ((c : Thread nD τ).loc main_arg8))
      ∧ r.2.mem ((c : Thread nD τ).loc main_v0_3) = dgcA (m ((c : Thread nD τ).loc main_arg0)) (m ((c : Thread nD τ).loc main_arg1)) (m ((c : Thread nD τ).loc main_arg5)) (m ((c : Thread nD τ).loc main_arg7)) (m ((c : Thread nD τ).loc main_arg8)) (m ((c : Thread nD τ).loc main_arg9))
      ∧ r.2.mem ((c : Thread nD τ).loc main_v0_4) = dw13A (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_5) = dw2A (m ((c : Thread nD τ).loc main_arg0)) (m ((c : Thread nD τ).loc main_arg1)) (m ((c : Thread nD τ).loc main_arg5)) (m ((c : Thread nD τ).loc main_arg7)) (m ((c : Thread nD τ).loc main_arg8))
      ∧ r.2.mem ((c : Thread nD τ).loc main_v0_6) = nhA (m ((c : Thread nD τ).loc main_arg2)) (maxima (m ((c : Thread nD τ).loc main_arg0)) (m ((c : Thread nD τ).loc main_arg1)) (m ((c : Thread nD τ).loc main_arg5)) (m ((c : Thread nD τ).loc main_arg7)) (m ((c : Thread nD τ).loc main_arg3)) (m ((c : Thread nD τ).loc main_arg4)) (m ((c : Thread nD τ).loc main_arg8)) (m ((c : Thread nD τ).loc main_arg9)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 11).trans (final11 m c), ((h c).1 12).trans (final12 m c), ((h c).1 13).trans (final13 m c), ((h c).1 14).trans (final14 m c), ((h c).1 15).trans (final15 m c), ((h c).1 16).trans (final16 m c), ((h c).1 17).trans (final17 m c),
    kept0 m r h c, kept1 m r h c, kept2 m r h c, kept3 m r h c, kept4 m r h c, kept5 m r h c, kept6 m r h c, kept7 m r h c, kept8 m r h c, kept9 m r h c⟩) (run_main m ρ)

end Cert.Proof.Main.Ker

end
-- ==== Proof.MainRef.lean ====
/- The gradient reference's run: each result is the plain array of the mathematics. -/
module

public import proofs.«01_k».proof.Defs
public import proofs.«01_k».proof.Proof.MainSpec
public import proofs.«01_k».proof.Proof.Gen.MainRefIdeal.Skeleton

@[expose] public section

noncomputable section

namespace Cert.Proof.Main.Ref

open Cert.MainRefIdeal Cert.MainRefIdeal.Gen
open Idealize.ShloMosaic hiding ix1 ix2 ix3 ix4 eq_ix1 eq_ix2 eq_ix3 eq_ix4
open Idealize.ShloMosaic.TcCoe Idealize.ShloMosaic.ValueIdx Idealize.SL.Sem

section
variable (i s : Six) (x dy : Mat 1920 2560) (xt : Mat 2560 1920) (w13 : Arr3 2560 2 6912) (w2 : Mat 6912 2560)
variable (v0 v3 : Arr3 2560 1 6912)

/-- The codes of one gate. -/
theorem gate_at (i1 : EReal) (k : Fin 2560) (f : Fin 6912) : k0_pay5 (F := Ideal) v0 i1 (ix2 k f) = q (v0 (ix3 k 0 f)) i1 :=
  congrArg (q · i1) (dropMid v0 _ k f)
theorem gate_at' (i1 : EReal) (k : Fin 2560) (f : Fin 6912) : k0_pay6 (F := Ideal) v3 i1 (ix2 k f) = q (v3 (ix3 k 0 f)) i1 :=
  congrArg (q · i1) (dropMid v3 _ k f)

variable (h0 : ∀ k f, v0 (ix3 k 0 f) = w13 (ix3 k 0 f)) (h3 : ∀ k f, v3 (ix3 k 0 f) = w13 (ix3 k 1 f))

include h0 in
theorem a_at (r : Fin 1920) (f : Fin 6912) :
    k0_pay10 (F := Ideal) (k0_pay8 v0 (i (ix1 1)) x) (k0_pay9 (s (ix1 0)) (s (ix1 1))) (ix2 r f) = aAt i s x w13 r f :=
  congrArg (· * (s (ix1 0) * s (ix1 1))) ((plain0 (φ₁ := .fp8e4m3) (φ₂ := .fp8e4m3) none _ _ r f).trans (Finset.sum_congr rfl fun k _ =>
    congrArg (x (ix2 r k) * ·) ((gate_at v0 (i (ix1 1)) k f).trans (congrArg (q · (i (ix1 1))) (h0 k f)))))

include h3 in
theorem b_at (r : Fin 1920) (f : Fin 6912) :
    k0_pay11 (F := Ideal) (k0_pay6 v3 (i (ix1 1))) x (s (ix1 0)) (s (ix1 1)) (ix2 r f) = bAt i s x w13 r f :=
  congrArg (· * (s (ix1 0) * s (ix1 1))) ((plain0 (φ₁ := .fp8e4m3) (φ₂ := .fp8e4m3) none _ _ r f).trans (Finset.sum_congr rfl fun k _ =>
    congrArg (x (ix2 r k) * ·) ((gate_at' v3 (i (ix1 1)) k f).trans (congrArg (q · (i (ix1 1))) (h3 k f)))))

theorem dh_at (r : Fin 1920) (f : Fin 6912) :
    k0_pay12 (F := Ideal) (k0_pay7 w2 (i (ix1 2))) dy (s (ix1 4)) (s (ix1 2)) (ix2 r f) = dhAt i s dy w2 r f :=
  congrArg (· * (s (ix1 4) * s (ix1 2))) (trans0 (φ₁ := .fp8e4m3) (φ₂ := .fp8e4m3) none _ _ r f)

/-- The printed intermediate arrays: activation and both gradients. -/
abbrev H := k0_pay14 (F := Ideal) (k0_pay6 v3 (i (ix1 1))) (k0_pay8 v0 (i (ix1 1)) x) (k0_pay9 (s (ix1 0)) (s (ix1 1))) x (s (ix1 0)) (s (ix1 1))
abbrev DA := k0_pay15 (F := Ideal) (k0_pay6 v3 (i (ix1 1))) (k0_pay7 w2 (i (ix1 2))) (k0_pay8 v0 (i (ix1 1)) x) (k0_pay9 (s (ix1 0)) (s (ix1 1))) x
  (s (ix1 0)) (s (ix1 1)) dy (s (ix1 4)) (s (ix1 2))
abbrev DB := k0_pay16 (F := Ideal) (k0_pay7 w2 (i (ix1 2))) (k0_pay8 v0 (i (ix1 1)) x) (k0_pay9 (s (ix1 0)) (s (ix1 1))) dy (s (ix1 4)) (s (ix1 2))
/-- And their codes. -/
abbrev HQ := k0_pay17 (F := Ideal) (k0_pay6 v3 (i (ix1 1))) (k0_pay8 v0 (i (ix1 1)) x) (k0_pay9 (s (ix1 0)) (s (ix1 1))) x (s (ix1 0)) (s (ix1 1)) (i (ix1 3))
abbrev DAM := k0_pay18 (F := Ideal) (k0_pay6 v3 (i (ix1 1))) (k0_pay7 w2 (i (ix1 2))) (k0_pay8 v0 (i (ix1 1)) x) (k0_pay9 (s (ix1 0)) (s (ix1 1))) x
  (s (ix1 0)) (s (ix1 1)) dy (s (ix1 4)) (s (ix1 2)) (i (ix1 5))

include h0 h3 in
theorem h_at (r : Fin 1920) (f : Fin 6912) : H i s x v0 v3 (ix2 r f) = hAt i s x w13 r f :=
  congrArg₂ hF (a_at i s x w13 v0 h0 r f) (b_at i s x w13 v3 h3 r f)
include h0 h3 in
theorem da_at (r : Fin 1920) (f : Fin 6912) : DA i s x dy w2 v0 v3 (ix2 r f) = daAt i s x dy w13 w2 r f :=
  (congrFun (congrArg₂ daF (a_at i s x w13 v0 h0 r f) (b_at i s x w13 v3 h3 r f)) _).trans (congrArg (daF _ _) (dh_at i s dy w2 r f))
include h0 in
theorem db_at (r : Fin 1920) (f : Fin 6912) : DB i s x dy w2 v0 (ix2 r f) = dbAt i s x dy w13 w2 r f :=
  congrArg₂ dbF (a_at i s x w13 v0 h0 r f) (dh_at i s dy w2 r f)

include h0 h3 in
theorem hq_at (r : Fin 1920) (f : Fin 6912) : HQ i s x v0 v3 (ix2 r f) = q (hAt i s x w13 r f) (i (ix1 3)) :=
  congrArg (q · (i (ix1 3))) (h_at i s x w13 v0 v3 h0 h3 r f)
include h0 h3 in
theorem daq_at (r : Fin 1920) (f : Fin 6912) :
    k0_pay20 (F := Ideal) (DAM i s x dy w2 v0 v3) k0_pay19 (ix2 r f) = q (dgAt i s x dy w13 w2 0 r f) (i (ix1 5)) :=
  congrArg (q · (i (ix1 5))) (da_at i s x dy w13 w2 v0 v3 h0 h3 r f)
include h0 in
theorem dbq_at (r : Fin 1920) (f : Fin 6912) :
    k0_pay21 (F := Ideal) (DB i s x dy w2 v0) (i (ix1 5)) (ix2 r f) = q (dgAt i s x dy w13 w2 1 r f) (i (ix1 5)) :=
  congrArg (q · (i (ix1 5))) (db_at i s x dy w13 w2 v0 h0 r f)

include h0 h3 in
theorem w13c_eq : k0_pay22 (F := Ideal) (k0_pay5 v0 (i (ix1 1))) (k0_pay6 v3 (i (ix1 1))) = w13cA i w13 := by
  funext j
  obtain ⟨γ, k, f, rfl⟩ : ∃ (γ : Fin 2) (k : Fin 2560) (f : Fin 6912), j = ix3 γ k f := ⟨j 0, j 1, j 2, eq_ix3 j⟩
  match γ with
  | 0 =>
    refine (stack0_left _ _ concatenates_S1x2560x6912_S1x2560x6912_S2x2560x6912_d0 k f).trans ?_
    refine (add3 _ _ 0 k f).trans ?_
    exact (gate_at v0 (i (ix1 1)) k f).trans (congrArg (q · (i (ix1 1))) (h0 k f))
  | 1 =>
    refine (stack0_right _ _ concatenates_S1x2560x6912_S1x2560x6912_S2x2560x6912_d0 k f).trans ?_
    refine (add3 _ _ 0 k f).trans ?_
    exact (gate_at' v3 (i (ix1 1)) k f).trans (congrArg (q · (i (ix1 1))) (h3 k f))

theorem w2c_eq : k0_pay7 (F := Ideal) w2 (i (ix1 2)) = w2cA i w2 := by
  funext j
  obtain ⟨f, k, rfl⟩ : ∃ (f : Fin 6912) (k : Fin 2560), j = ix2 f k := ⟨j 0, j 1, eq_ix2 j⟩
  rfl

include h0 h3 in
theorem hc_eq : HQ i s x v0 v3 = hcA i s x w13 := by
  funext j
  obtain ⟨r, f, rfl⟩ : ∃ (r : Fin 1920) (f : Fin 6912), j = ix2 r f := ⟨j 0, j 1, eq_ix2 j⟩
  exact hq_at i s x w13 v0 v3 h0 h3 r f

include h0 h3 in
theorem dgc_eq : k0_pay23 (F := Ideal) (DB i s x dy w2 v0) (DAM i s x dy w2 v0 v3) k0_pay19 (i (ix1 5)) = dgcA i s x dy w13 w2 := by
  funext j
  obtain ⟨p, γ, t, f, rfl⟩ : ∃ (p : Fin 3) (γ : Fin 2) (t : Fin 640) (f : Fin 6912), j = ix4 p γ t f := ⟨j 0, j 1, j 2, j 3, eq_ix4 j⟩
  have e : p.val * 640 + t.val = (flat p t).val := congrArg (· + t.val) (Nat.mul_comm p.val 640)
  match γ with
  | 0 =>
    refine (stack4_left _ _ concatenates_S3x1x640x6912_S3x1x640x6912_S3x2x640x6912_d1 p t f).trans ?_
    refine (splitRows _ _ _ p 0 t f (flat p t) e).trans ?_
    exact daq_at i s x dy w13 w2 v0 v3 h0 h3 (flat p t) f
  | 1 =>
    refine (stack4_right _ _ concatenates_S3x1x640x6912_S3x1x640x6912_S3x2x640x6912_d1 p t f).trans ?_
    refine (splitRows _ _ _ p 0 t f (flat p t) e).trans ?_
    exact dbq_at i s x dy w13 w2 v0 h0 (flat p t) f

include h0 h3 in
theorem dw13_eq : k0_pay24 (F := Ideal) (DB i s x dy w2 v0) (DAM i s x dy w2 v0 v3) k0_pay19 (i (ix1 5)) xt xt (s (ix1 0)) (s (ix1 5))
    = dw13A i s x xt dy w13 w2 := by
  funext j
  obtain ⟨d, γ, f, rfl⟩ : ∃ (d : Fin 2560) (γ : Fin 2) (f : Fin 6912), j = ix3 d γ f := ⟨j 0, j 1, j 2, eq_ix3 j⟩
  match γ with
  | 0 =>
    refine congrArg (· * (s (ix1 0) * s (ix1 5))) ?_
    refine (stack1_left _ _ concatenates_S2560x1x6912_S2560x1x6912_S2560x2x6912_d1 d f).trans ?_
    refine (addMid _ _ d 0 f).trans ((plain0 (φ₁ := .fp8e4m3) (φ₂ := .fp8e4m3) none _ _ d f).trans (Finset.sum_congr rfl fun t _ => ?_))
    exact congrArg (xt (ix2 d t) * ·) (daq_at i s x dy w13 w2 v0 v3 h0 h3 t f)
  | 1 =>
    refine congrArg (· * (s (ix1 0) * s (ix1 5))) ?_
    refine (stack1_right _ _ concatenates_S2560x1x6912_S2560x1x6912_S2560x2x6912_d1 d f).trans ?_
    refine (addMid _ _ d 0 f).trans ((plain0 (φ₁ := .fp8e4m3) (φ₂ := .fp8e4m3) none _ _ d f).trans (Finset.sum_congr rfl fun t _ => ?_))
    exact congrArg (xt (ix2 d t) * ·) (dbq_at i s x dy w13 w2 v0 h0 t f)

include h0 h3 in
theorem dw2_eq : k0_pay25 (F := Ideal) (HQ i s x v0 v3) dy (s (ix1 3)) (s (ix1 4)) = dw2A i s x dy w13 := by
  funext j
  obtain ⟨f, d, rfl⟩ : ∃ (f : Fin 6912) (d : Fin 2560), j = ix2 f d := ⟨j 0, j 1, eq_ix2 j⟩
  refine congrArg (· * (s (ix1 3) * s (ix1 4))) ((tn0 (φ₁ := .fp8e4m3) (φ₂ := .fp8e4m3) none _ _ f d).trans (Finset.sum_congr rfl fun t _ => ?_))
  exact congrArg (· * dy (ix2 t d)) (hq_at i s x w13 v0 v3 h0 h3 t f)

end

end Cert.Proof.Main.Ref

end
-- ==== Proof.MainRefMax.lean ====
/- The gradient reference's new history. -/
module

public import proofs.«01_k».proof.Proof.MainRef
public import proofs.«01_k».proof.Proof.MainCols
public import proofs.«01_k».proof.Proof.Gen.MainRefIdeal.Value

@[expose] public section

set_option maxRecDepth 16384

noncomputable section

namespace Cert.Proof.Main.Ref

open Cert.MainRefIdeal Cert.MainRefIdeal.Gen Cert.MainRefIdeal.Value
open Idealize.ShloMosaic hiding ix1 ix2 ix3 ix4 eq_ix1 eq_ix2 eq_ix3 eq_ix4
open Idealize.ShloMosaic.TcCoe Idealize.ShloMosaic.ValueIdx Idealize.SL.Sem

/-! The six maxima, by their upper bounds. -/

section
variable (B : EReal)

/-- The greatest entry of an array, as a word. -/
def big {a b : ℕ} (v : Mat a b) (h1 : Shape.ShapeCasts ⟨2, ![a, b]⟩ ⟨3, ![1, a, b]⟩) (h2 : Shape.Reduces ⟨3, ![1, a, b]⟩ [1, 2] S1) : EReal :=
  extractAt ![0, 0, 0] (shapeCast S1x1x1 (multiReduction (F := Ideal) (φ := .f32) .maximumf [1, 2] S1 (shapeCast (⟨3, ![1, a, b]⟩ : Shape) v h1)
    0xFF800000#32 h2 (.inl rfl) rfl) shapeCasts_S1_S1x1x1) inpos_S1x1x1_p0_0_0
theorem big_le {a b : ℕ} (v : Mat a b) (h1 h2) : big v h1 h2 ≤ B ↔ UB v B :=
  (ub_word B _ _).trans ((ub_cast B _ _).trans ((ub_red B _ _ _ _).trans (ub_cast B _ _)))

theorem amax_le {a b : ℕ} (v : Mat a b) (h1 h2) : big (absf (F := Ideal) (φ := .f32) v) h1 h2 ≤ B ↔ ∀ i j, ab (v (ix2 i j)) ≤ B :=
  (big_le B _ h1 h2).trans (ub2 B _)

theorem word_at (w : EReal) : broadcast (α := EReal) S1x1 w (ix2 0 0) = w := rfl
theorem max_at (a b : EReal) : maximumf (F := Ideal) (φ := .f32) (broadcast S1x1 a) (broadcast S1x1 b) (ix2 0 0) = max a b := rfl

theorem top_is (v : Mat 8 128) : k0_pay26 (F := Ideal) v = broadcast S1x1 (big v shapeCasts_S8x128_S1x8x128 reduces_S1x8x128_S1) := by
  delta k0_pay26 big; exact rfl
theorem gates_is (u v : Mat 2560 6912) : k0_pay27 (F := Ideal) u v
    = maximumf (F := Ideal) (φ := .f32) (broadcast S1x1 (big (absf (F := Ideal) (φ := .f32) u) shapeCasts_S2560x6912_S1x2560x6912 reduces_S1x2560x6912_S1))
      (broadcast S1x1 (big (absf (F := Ideal) (φ := .f32) v) shapeCasts_S2560x6912_S1x2560x6912 reduces_S1x2560x6912_S1)) := by
  delta k0_pay27 big; exact rfl
theorem second_is (v : Mat 6912 2560) : k0_pay28 (F := Ideal) v
    = broadcast S1x1 (big (absf (F := Ideal) (φ := .f32) v) shapeCasts_S6912x2560_S1x6912x2560 reduces_S1x6912x2560_S1) := by
  delta k0_pay28 big; exact rfl
theorem act_is (v : Mat 1920 6912) : k0_pay29 (F := Ideal) v
    = broadcast S1x1 (big (absf (F := Ideal) (φ := .f32) v) shapeCasts_S1920x6912_S1x1920x6912 reduces_S1x1920x6912_S1) := by
  delta k0_pay29 big; exact rfl

theorem top_at (v : Mat 8 128) : k0_pay26 (F := Ideal) v (ix2 0 0) = big v shapeCasts_S8x128_S1x8x128 reduces_S1x8x128_S1 :=
  (congrFun (top_is v) _).trans (word_at _)
theorem gates_at (u v : Mat 2560 6912) : k0_pay27 (F := Ideal) u v (ix2 0 0)
    = max (big (absf (F := Ideal) (φ := .f32) u) shapeCasts_S2560x6912_S1x2560x6912 reduces_S1x2560x6912_S1)
      (big (absf (F := Ideal) (φ := .f32) v) shapeCasts_S2560x6912_S1x2560x6912 reduces_S1x2560x6912_S1) :=
  (congrFun (gates_is u v) _).trans (max_at _ _)
theorem second_at (v : Mat 6912 2560) : k0_pay28 (F := Ideal) v (ix2 0 0)
    = big (absf (F := Ideal) (φ := .f32) v) shapeCasts_S6912x2560_S1x6912x2560 reduces_S1x6912x2560_S1 :=
  (congrFun (second_is v) _).trans (word_at _)
theorem act_at (v : Mat 1920 6912) : k0_pay29 (F := Ideal) v (ix2 0 0)
    = big (absf (F := Ideal) (φ := .f32) v) shapeCasts_S1920x6912_S1x1920x6912 reduces_S1x1920x6912_S1 :=
  (congrFun (act_is v) _).trans (word_at _)

end

theorem column0 (v0 v1 v2 v3 v4 v5 : S1x1.Idx → EReal) (h) :
    concatenate S6x1 0 [⟨S1x1, v0⟩, ⟨S1x1, v1⟩, ⟨S1x1, v2⟩, ⟨S1x1, v3⟩, ⟨S1x1, v4⟩, ⟨S1x1, v5⟩] h (ix2 0 0) = v0 (ix2 0 0) := by
  refine concatenate_apply_piece (t := S6x1) (0 : Fin 2) [⟨S1x1, v0⟩, ⟨S1x1, v1⟩, ⟨S1x1, v2⟩, ⟨S1x1, v3⟩, ⟨S1x1, v4⟩, ⟨S1x1, v5⟩] h (ix2 0 0) 0 (by show 0 < 6; omega) S1x1 v0 rfl rfl 0 rfl (ix2 0 0) (fun b hb => ?_) rfl
  match b with
  | ⟨0, _⟩ => exact (hb rfl).elim
  | ⟨1, _⟩ => rfl
theorem column1 (v0 v1 v2 v3 v4 v5 : S1x1.Idx → EReal) (h) :
    concatenate S6x1 0 [⟨S1x1, v0⟩, ⟨S1x1, v1⟩, ⟨S1x1, v2⟩, ⟨S1x1, v3⟩, ⟨S1x1, v4⟩, ⟨S1x1, v5⟩] h (ix2 1 0) = v1 (ix2 0 0) := by
  refine concatenate_apply_piece (t := S6x1) (0 : Fin 2) [⟨S1x1, v0⟩, ⟨S1x1, v1⟩, ⟨S1x1, v2⟩, ⟨S1x1, v3⟩, ⟨S1x1, v4⟩, ⟨S1x1, v5⟩] h (ix2 1 0) 1 (by show 1 < 6; omega) S1x1 v1 rfl rfl 1 rfl (ix2 0 0) (fun b hb => ?_) rfl
  match b with
  | ⟨0, _⟩ => exact (hb rfl).elim
  | ⟨1, _⟩ => rfl
theorem column2 (v0 v1 v2 v3 v4 v5 : S1x1.Idx → EReal) (h) :
    concatenate S6x1 0 [⟨S1x1, v0⟩, ⟨S1x1, v1⟩, ⟨S1x1, v2⟩, ⟨S1x1, v3⟩, ⟨S1x1, v4⟩, ⟨S1x1, v5⟩] h (ix2 2 0) = v2 (ix2 0 0) := by
  refine concatenate_apply_piece (t := S6x1) (0 : Fin 2) [⟨S1x1, v0⟩, ⟨S1x1, v1⟩, ⟨S1x1, v2⟩, ⟨S1x1, v3⟩, ⟨S1x1, v4⟩, ⟨S1x1, v5⟩] h (ix2 2 0) 2 (by show 2 < 6; omega) S1x1 v2 rfl rfl 2 rfl (ix2 0 0) (fun b hb => ?_) rfl
  match b with
  | ⟨0, _⟩ => exact (hb rfl).elim
  | ⟨1, _⟩ => rfl
theorem column3 (v0 v1 v2 v3 v4 v5 : S1x1.Idx → EReal) (h) :
    concatenate S6x1 0 [⟨S1x1, v0⟩, ⟨S1x1, v1⟩, ⟨S1x1, v2⟩, ⟨S1x1, v3⟩, ⟨S1x1, v4⟩, ⟨S1x1, v5⟩] h (ix2 3 0) = v3 (ix2 0 0) := by
  refine concatenate_apply_piece (t := S6x1) (0 : Fin 2) [⟨S1x1, v0⟩, ⟨S1x1, v1⟩, ⟨S1x1, v2⟩, ⟨S1x1, v3⟩, ⟨S1x1, v4⟩, ⟨S1x1, v5⟩] h (ix2 3 0) 3 (by show 3 < 6; omega) S1x1 v3 rfl rfl 3 rfl (ix2 0 0) (fun b hb => ?_) rfl
  match b with
  | ⟨0, _⟩ => exact (hb rfl).elim
  | ⟨1, _⟩ => rfl
theorem column4 (v0 v1 v2 v3 v4 v5 : S1x1.Idx → EReal) (h) :
    concatenate S6x1 0 [⟨S1x1, v0⟩, ⟨S1x1, v1⟩, ⟨S1x1, v2⟩, ⟨S1x1, v3⟩, ⟨S1x1, v4⟩, ⟨S1x1, v5⟩] h (ix2 4 0) = v4 (ix2 0 0) := by
  refine concatenate_apply_piece (t := S6x1) (0 : Fin 2) [⟨S1x1, v0⟩, ⟨S1x1, v1⟩, ⟨S1x1, v2⟩, ⟨S1x1, v3⟩, ⟨S1x1, v4⟩, ⟨S1x1, v5⟩] h (ix2 4 0) 4 (by show 4 < 6; omega) S1x1 v4 rfl rfl 4 rfl (ix2 0 0) (fun b hb => ?_) rfl
  match b with
  | ⟨0, _⟩ => exact (hb rfl).elim
  | ⟨1, _⟩ => rfl
theorem column5 (v0 v1 v2 v3 v4 v5 : S1x1.Idx → EReal) (h) :
    concatenate S6x1 0 [⟨S1x1, v0⟩, ⟨S1x1, v1⟩, ⟨S1x1, v2⟩, ⟨S1x1, v3⟩, ⟨S1x1, v4⟩, ⟨S1x1, v5⟩] h (ix2 5 0) = v5 (ix2 0 0) := by
  refine concatenate_apply_piece (t := S6x1) (0 : Fin 2) [⟨S1x1, v0⟩, ⟨S1x1, v1⟩, ⟨S1x1, v2⟩, ⟨S1x1, v3⟩, ⟨S1x1, v4⟩, ⟨S1x1, v5⟩] h (ix2 5 0) 5 (by show 5 < 6; omega) S1x1 v5 rfl rfl 5 rfl (ix2 0 0) (fun b hb => ?_) rfl
  match b with
  | ⟨0, _⟩ => exact (hb rfl).elim
  | ⟨1, _⟩ => rfl

/-- The new history: a first column, then the old history's first fifteen. -/
theorem joined (v : S6x1.Idx → EReal) (w : S6x15.Idx → EReal) (hist : Mat 6 16) (c : Fin 6 → EReal) (h)
    (hv : ∀ r : Fin 6, v (ix2 r 0) = c r) (hw : ∀ (r : Fin 6) (k : Fin 15), w (ix2 r k) = hist (ix2 r ⟨k.val, by omega⟩)) :
    concatenate S6x16 1 [⟨S6x1, v⟩, ⟨S6x15, w⟩] h = nhA hist c := by
  funext j
  obtain ⟨r, k, rfl⟩ : ∃ (r : Fin 6) (k : Fin 16), j = ix2 r k := ⟨j 0, j 1, eq_ix2 j⟩
  by_cases hk : k.val = 0
  · have e : nhA hist c (ix2 r k) = c r := dif_pos hk
    rw [e, ← hv r]
    refine concatenate_pair_apply_left (t := S6x16) (1 : Fin 2) v w h (ix2 r k) rfl (ix2 r 0) fun b => ?_
    match b with
    | ⟨0, _⟩ => rfl
    | ⟨1, _⟩ => exact hk.symm
  · have e : nhA hist c (ix2 r k) = hist (ix2 r ⟨k.val - 1, by omega⟩) := dif_neg hk
    rw [e, ← hw r ⟨k.val - 1, by omega⟩]
    refine concatenate_pair_apply_right (t := S6x16) (1 : Fin 2) v w h (ix2 r k) rfl rfl (ix2 r ⟨k.val - 1, by omega⟩) (fun b hb => ?_) ?_
    · match b with
      | ⟨0, _⟩ => rfl
      | ⟨1, _⟩ => exact (hb rfl).elim
    · show k.val - 1 + 1 = k.val; omega

/-- Six words under each other. -/
theorem stack (v0 v1 v2 v3 v4 v5 : S1x1.Idx → EReal) (c : Fin 6 → EReal) (h) (e0 : v0 (ix2 0 0) = c 0) (e1 : v1 (ix2 0 0) = c 1) (e2 : v2 (ix2 0 0) = c 2)
    (e3 : v3 (ix2 0 0) = c 3) (e4 : v4 (ix2 0 0) = c 4) (e5 : v5 (ix2 0 0) = c 5) (r : Fin 6) :
    concatenate S6x1 0 [⟨S1x1, v0⟩, ⟨S1x1, v1⟩, ⟨S1x1, v2⟩, ⟨S1x1, v3⟩, ⟨S1x1, v4⟩, ⟨S1x1, v5⟩] h (ix2 r 0) = c r := by
  match r with
  | 0 => exact (column0 _ _ _ _ _ _ _).trans e0
  | 1 => exact (column1 _ _ _ _ _ _ _).trans e1
  | 2 => exact (column2 _ _ _ _ _ _ _).trans e2
  | 3 => exact (column3 _ _ _ _ _ _ _).trans e3
  | 4 => exact (column4 _ _ _ _ _ _ _).trans e4
  | 5 => exact (column5 _ _ _ _ _ _ _).trans e5

/-- The new history from the six words of its first column. -/
theorem history (da db : Mat 1920 6912) (a b d e : S1x1.Idx → EReal) (amdy : Mat 8 128) (old : S6x15.Idx → EReal) (hist : Mat 6 16) (c : Fin 6 → EReal)
    (e0 : a (ix2 0 0) = c 0) (e1 : b (ix2 0 0) = c 1) (e2 : d (ix2 0 0) = c 2) (e3 : e (ix2 0 0) = c 3)
    (e4 : big amdy shapeCasts_S8x128_S1x8x128 reduces_S1x8x128_S1 = c 4)
    (e5 : max (big (absf (F := Ideal) (φ := .f32) da) shapeCasts_S1920x6912_S1x1920x6912 reduces_S1x1920x6912_S1)
      (big (absf (F := Ideal) (φ := .f32) db) shapeCasts_S1920x6912_S1x1920x6912 reduces_S1x1920x6912_S1) = c 5)
    (ho : ∀ (r : Fin 6) (k : Fin 15), old (ix2 r k) = hist (ix2 r ⟨k.val, by omega⟩)) :
    k0_pay1 (F := Ideal) da db a b d e amdy old = nhA hist c := by
  unfold k0_pay1
  unfold big at e4 e5
  dsimp only
  exact joined _ _ hist c _ (stack _ _ _ _ _ _ c _ e0 e1 e2 e3 ((word_at _).trans e4) ((max_at _ _).trans e5)) ho

section
variable (i s : Six) (hist : Mat 6 16) (amx amdy : Mat 8 128) (x dy : Mat 1920 2560) (xt : Mat 2560 1920) (w13 : Arr3 2560 2 6912) (w2 : Mat 6912 2560)
variable (v0 v3 : Arr3 2560 1 6912)
variable (h0 : ∀ k f, v0 (ix3 k 0 f) = w13 (ix3 k 0 f)) (h3 : ∀ k f, v3 (ix3 k 0 f) = w13 (ix3 k 1 f))

include h0 h3 in
theorem gates_eq : k0_pay27 (F := Ideal) (k0_pay2 v0) (k0_pay3 v3) (ix2 0 0) = m13 w13 := by
  refine (gates_at _ _).trans (eq_of_forall_ge_iff fun B => max_le_iff.trans ((and_congr (amax_le B _ _ _) (amax_le B _ _ _)).trans (Iff.trans ?_ (m13_le w13 B).symm)))
  have e0 : ∀ k f, k0_pay2 (F := Ideal) v0 (ix2 k f) = w13 (ix3 k 0 f) := fun k f => (dropMid v0 _ k f).trans (h0 k f)
  have e3 : ∀ k f, k0_pay3 (F := Ideal) v3 (ix2 k f) = w13 (ix3 k 1 f) := fun k f => (dropMid v3 _ k f).trans (h3 k f)
  refine ⟨fun H k γ f => ?_, fun H => ⟨fun k f => ?_, fun k f => ?_⟩⟩
  · match γ with
    | 0 => exact e0 k f ▸ H.1 k f
    | 1 => exact e3 k f ▸ H.2 k f
  · rw [e0]; exact H k 0 f
  · rw [e3]; exact H k 1 f

theorem second_eq : k0_pay28 (F := Ideal) (k0_pay4 w2) (ix2 0 0) = m2 w2 :=
  (second_at _).trans (eq_of_forall_ge_iff fun B => (amax_le B _ _ _).trans (m2_le w2 B).symm)

include h0 h3 in
theorem act_eq : k0_pay29 (F := Ideal) (H i s x v0 v3) (ix2 0 0) = mh i s x w13 := by
  refine (act_at _).trans (eq_of_forall_ge_iff fun B => (amax_le B _ _ _).trans (Iff.trans ?_ (mh_le i s x w13 B).symm))
  exact forall₂_congr fun r f => by rw [h_at i s x w13 v0 v3 h0 h3 r f]

theorem top_eq (v : Mat 8 128) (h1 h2) : big v h1 h2 = top v := eq_of_forall_ge_iff fun B => (big_le B v h1 h2).trans (top_le B v).symm

include h0 h3 in
theorem grads_eq : max (big (absf (F := Ideal) (φ := .f32) (DA i s x dy w2 v0 v3)) shapeCasts_S1920x6912_S1x1920x6912 reduces_S1x1920x6912_S1)
      (big (absf (F := Ideal) (φ := .f32) (DB i s x dy w2 v0)) shapeCasts_S1920x6912_S1x1920x6912 reduces_S1x1920x6912_S1) = mg i s x dy w13 w2 := by
  refine eq_of_forall_ge_iff fun B => max_le_iff.trans ((and_congr (amax_le B _ _ _) (amax_le B _ _ _)).trans (Iff.trans ?_ (mg_le i s x dy w13 w2 B).symm))
  refine ⟨fun G γ r f => ?_, fun G => ⟨fun r f => ?_, fun r f => ?_⟩⟩
  · match γ with
    | 0 => have e := G.1 r f; rw [da_at i s x dy w13 w2 v0 v3 h0 h3 r f] at e; exact e
    | 1 => have e := G.2 r f; rw [db_at i s x dy w13 w2 v0 h0 r f] at e; exact e
  · rw [da_at i s x dy w13 w2 v0 v3 h0 h3 r f]; exact G 0 r f
  · rw [db_at i s x dy w13 w2 v0 h0 r f]; exact G 1 r f

include h0 h3 in
theorem nh_eq (old : S6x15.Idx → EReal) (ho : ∀ (r : Fin 6) (k : Fin 15), old (ix2 r k) = hist (ix2 r ⟨k.val, by omega⟩)) :
    k0_pay1 (F := Ideal) (DA i s x dy w2 v0 v3) (DB i s x dy w2 v0) (k0_pay26 amx) (k0_pay27 (k0_pay2 v0) (k0_pay3 v3)) (k0_pay28 (k0_pay4 w2))
      (k0_pay29 (H i s x v0 v3)) amdy old = nhA hist (maxima i s x dy amx amdy w13 w2) :=
  history _ _ _ _ _ _ _ _ _ _ (((top_at amx).trans (top_eq amx _ _)).trans (maxima_0 i s x dy amx amdy w13 w2).symm)
    ((gates_eq w13 v0 v3 h0 h3).trans (maxima_1 i s x dy amx amdy w13 w2).symm)
    ((second_eq w2).trans (maxima_2 i s x dy amx amdy w13 w2).symm)
    ((act_eq i s x w13 v0 v3 h0 h3).trans (maxima_3 i s x dy amx amdy w13 w2).symm)
    ((top_eq amdy _ _).trans (maxima_4 i s x dy amx amdy w13 w2).symm)
    ((grads_eq i s x dy w13 w2 v0 v3 h0 h3).trans (maxima_5 i s x dy amx amdy w13 w2).symm) ho

end

end Cert.Proof.Main.Ref

end
-- ==== Proof.MainRefOut.lean ====
/- The gradient reference's outputs, except the history. -/
module

public import proofs.«01_k».proof.Proof.MainRef
public import proofs.«01_k».proof.Proof.MainCols
public import proofs.«01_k».proof.Proof.Gen.MainRefIdeal.Value

@[expose] public section

set_option maxRecDepth 16384

noncomputable section

namespace Cert.Proof.Main.Ref

open Cert.MainRefIdeal Cert.MainRefIdeal.Gen Cert.MainRefIdeal.Value
open Idealize.ShloMosaic hiding ix1 ix2 ix3 ix4 eq_ix1 eq_ix2 eq_ix3 eq_ix4
open Idealize.ShloMosaic.TcCoe Idealize.ShloMosaic.ValueIdx Idealize.SL.Sem

/-! What the body leaves in each output. -/

section
variable {c : Dev nD} {arg0 : Memref sig .tc .smem S6 .f32} {harg0 : arg0.IsWhole} {arg1 : Memref sig .tc .smem S6 .f32} {harg1 : arg1.IsWhole} {arg2 : Memref sig .tc .vmem S6x16 .f32} {harg2 : arg2.IsWhole} {arg3 : Memref sig .tc .vmem S8x128 .f32} {harg3 : arg3.IsWhole} {arg4 : Memref sig .tc .vmem S8x128 .f32} {harg4 : arg4.IsWhole} {arg5 : Memref sig .tc .vmem S1920x2560 .fp8e4m3} {harg5 : arg5.IsWhole} {arg6 : Memref sig .tc .vmem S2560x1920 .fp8e4m3} {harg6 : arg6.IsWhole} {arg7 : Memref sig .tc .vmem S1920x2560 .fp8e4m3} {harg7 : arg7.IsWhole} {arg8 : Memref sig .tc .vmem S2560x2x6912 .bf16} {harg8 : arg8.IsWhole} {arg9 : Memref sig .tc .vmem S6912x2560 .bf16} {harg9 : arg9.IsWhole} {arg10 : Memref sig .tc .vmem S2x2560x6912 .fp8e4m3} {harg10 : arg10.IsWhole} {arg11 : Memref sig .tc .vmem S6912x2560 .fp8e4m3} {harg11 : arg11.IsWhole} {arg12 : Memref sig .tc .vmem S1920x6912 .fp8e4m3} {harg12 : arg12.IsWhole} {arg13 : Memref sig .tc .vmem S3x2x640x6912 .fp8e4m3} {harg13 : arg13.IsWhole} {arg14 : Memref sig .tc .vmem S2560x2x6912 .f32} {harg14 : arg14.IsWhole} {arg15 : Memref sig .tc .vmem S6912x2560 .f32} {harg15 : arg15.IsWhole} {arg16 : Memref sig .tc .vmem S6x16 .f32} {harg16 : arg16.IsWhole}
    {x0 : Vec Ideal S6 .f32} {x1 : Vec Ideal S6 .f32} {x2 : Vec Ideal S6x16 .f32} {x3 : Vec Ideal S8x128 .f32} {x4 : Vec Ideal S8x128 .f32} {x5 : Vec Ideal S1920x2560 .fp8e4m3} {x6 : Vec Ideal S2560x1920 .fp8e4m3} {x7 : Vec Ideal S1920x2560 .fp8e4m3} {x8 : Vec Ideal S2560x2x6912 .bf16} {x9 : Vec Ideal S6912x2560 .bf16}

/-- The loaded gates. -/
abbrev G0 (w : Arr3 2560 2 6912) : Arr3 2560 1 6912 := View.ld (Val := Elt Ideal) (e' := .bf16) w (Rect.unit (s := S2560x2x6912) ![0, 0, 0] ![2560, 1, 6912] inb_S2560x2x6912_S2560x1x6912_0_0_0)
abbrev G1 (w : Arr3 2560 2 6912) : Arr3 2560 1 6912 := View.ld (Val := Elt Ideal) (e' := .bf16) w (Rect.unit (s := S2560x2x6912) ![0, 1, 0] ![2560, 1, 6912] inb_S2560x2x6912_S2560x1x6912_0_1_0)
theorem G0_at (w : Arr3 2560 2 6912) (k : Fin 2560) (f : Fin 6912) : G0 w (ix3 k 0 f) = w (ix3 k 0 f) := by
  refine congrArg w (funext fun a => Fin.ext ?_)
  match a with
  | ⟨0, _⟩ => show 0 + 1 * k.val = k.val; omega
  | ⟨1, _⟩ => rfl
  | ⟨2, _⟩ => show 0 + 1 * f.val = f.val; omega
theorem G1_at (w : Arr3 2560 2 6912) (k : Fin 2560) (f : Fin 6912) : G1 w (ix3 k 0 f) = w (ix3 k 1 f) := by
  refine congrArg w (funext fun a => Fin.ext ?_)
  match a with
  | ⟨0, _⟩ => show 0 + 1 * k.val = k.val; omega
  | ⟨1, _⟩ => rfl
  | ⟨2, _⟩ => show 0 + 1 * f.val = f.val; omega
theorem old_at (hist : Mat 6 16) (r : Fin 6) (k : Fin 15) :
    View.ld (Val := Elt Ideal) (e' := .f32) hist (Rect.unit (s := S6x16) ![0, 0] ![6, 15] inb_S6x16_S6x15_0_0) (ix2 r k) = hist (ix2 r ⟨k.val, by omega⟩) := by
  refine congrArg hist (funext fun a => Fin.ext ?_)
  match a with
  | ⟨0, _⟩ => show 0 + 1 * r.val = r.val; omega
  | ⟨1, _⟩ => show 0 + 1 * k.val = k.val; omega

theorem out_10 : out0_A_10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = w13cA x0 x8 := by
  unfold out0_A_10
  rw [View.read_writes_junk_eq_canon]
  unfold kernelRun0_A
  dsimp only
  sl_unfold_words
  simp only [View.readAt_eq_ld, harg0.read_unread, harg1.read_unread, harg2.read_unread, harg3.read_unread, harg4.read_unread, harg5.read_unread, harg6.read_unread, harg7.read_unread, harg8.read_unread, harg9.read_unread, ld2, ld3, canon2, canon3, canon4]
  repeat rw [word1]
  exact w13c_eq x0 x8 _ _ (G0_at x8) (G1_at x8)
theorem out_11 : out0_A_11 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = w2cA x0 x9 := by
  unfold out0_A_11
  rw [View.read_writes_junk_eq_canon]
  unfold kernelRun0_A
  dsimp only
  sl_unfold_words
  simp only [View.readAt_eq_ld, harg0.read_unread, harg1.read_unread, harg2.read_unread, harg3.read_unread, harg4.read_unread, harg5.read_unread, harg6.read_unread, harg7.read_unread, harg8.read_unread, harg9.read_unread, ld2, ld3, canon2, canon3, canon4]
  repeat rw [word2]
  exact w2c_eq x0 x9
theorem out_12 : out0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = hcA x0 x1 x5 x8 := by
  unfold out0_A_12
  rw [View.read_writes_junk_eq_canon]
  unfold kernelRun0_A
  dsimp only
  sl_unfold_words
  simp only [View.readAt_eq_ld, harg0.read_unread, harg1.read_unread, harg2.read_unread, harg3.read_unread, harg4.read_unread, harg5.read_unread, harg6.read_unread, harg7.read_unread, harg8.read_unread, harg9.read_unread, ld2, ld3, canon2, canon3, canon4]
  repeat rw [word0]
  repeat rw [word1]
  repeat rw [word3]
  exact hc_eq x0 x1 x5 x8 _ _ (G0_at x8) (G1_at x8)
theorem out_13 : out0_A_13 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = dgcA x0 x1 x5 x7 x8 x9 := by
  unfold out0_A_13
  rw [View.read_writes_junk_eq_canon]
  unfold kernelRun0_A
  dsimp only
  sl_unfold_words
  simp only [View.readAt_eq_ld, harg0.read_unread, harg1.read_unread, harg2.read_unread, harg3.read_unread, harg4.read_unread, harg5.read_unread, harg6.read_unread, harg7.read_unread, harg8.read_unread, harg9.read_unread, ld2, ld3, canon2, canon3, canon4]
  repeat rw [word0]
  repeat rw [word1]
  repeat rw [word2]
  repeat rw [word4]
  repeat rw [word5]
  exact dgc_eq x0 x1 x5 x7 x8 x9 _ _ (G0_at x8) (G1_at x8)
theorem out_14 : out0_A_14 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = dw13A x0 x1 x5 x6 x7 x8 x9 := by
  unfold out0_A_14
  rw [View.read_writes_junk_eq_canon]
  unfold kernelRun0_A
  dsimp only
  sl_unfold_words
  simp only [View.readAt_eq_ld, harg0.read_unread, harg1.read_unread, harg2.read_unread, harg3.read_unread, harg4.read_unread, harg5.read_unread, harg6.read_unread, harg7.read_unread, harg8.read_unread, harg9.read_unread, ld2, ld3, canon2, canon3, canon4]
  repeat rw [word0]
  repeat rw [word1]
  repeat rw [word2]
  repeat rw [word4]
  repeat rw [word5]
  exact dw13_eq x0 x1 x5 x7 x6 x8 x9 _ _ (G0_at x8) (G1_at x8)
theorem out_15 : out0_A_15 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = dw2A x0 x1 x5 x7 x8 := by
  unfold out0_A_15
  rw [View.read_writes_junk_eq_canon]
  unfold kernelRun0_A
  dsimp only
  sl_unfold_words
  simp only [View.readAt_eq_ld, harg0.read_unread, harg1.read_unread, harg2.read_unread, harg3.read_unread, harg4.read_unread, harg5.read_unread, harg6.read_unread, harg7.read_unread, harg8.read_unread, harg9.read_unread, ld2, ld3, canon2, canon3, canon4]
  repeat rw [word0]
  repeat rw [word1]
  repeat rw [word3]
  repeat rw [word4]
  exact dw2_eq x0 x1 x5 x7 x8 _ _ (G0_at x8) (G1_at x8)

end

end Cert.Proof.Main.Ref

end
-- ==== Proof.MainRefRun.lean ====
/- The gradient reference's run with every result named. -/
module

public import proofs.«01_k».proof.Proof.MainRefMax
public import proofs.«01_k».proof.Proof.MainRefOut
public import proofs.«01_k».proof.Proof.MainCols
public import proofs.«01_k».proof.Proof.Gen.MainRefIdeal.Value

@[expose] public section

set_option maxRecDepth 16384

noncomputable section

namespace Cert.Proof.Main.Ref

open Cert.MainRefIdeal Cert.MainRefIdeal.Gen Cert.MainRefIdeal.Value
open Idealize.ShloMosaic hiding ix1 ix2 ix3 ix4 eq_ix1 eq_ix2 eq_ix3 eq_ix4
open Idealize.ShloMosaic.TcCoe Idealize.ShloMosaic.ValueIdx Idealize.SL.Sem

section
variable {c : Dev nD} {arg0 : Memref sig .tc .smem S6 .f32} {harg0 : arg0.IsWhole} {arg1 : Memref sig .tc .smem S6 .f32} {harg1 : arg1.IsWhole} {arg2 : Memref sig .tc .vmem S6x16 .f32} {harg2 : arg2.IsWhole} {arg3 : Memref sig .tc .vmem S8x128 .f32} {harg3 : arg3.IsWhole} {arg4 : Memref sig .tc .vmem S8x128 .f32} {harg4 : arg4.IsWhole} {arg5 : Memref sig .tc .vmem S1920x2560 .fp8e4m3} {harg5 : arg5.IsWhole} {arg6 : Memref sig .tc .vmem S2560x1920 .fp8e4m3} {harg6 : arg6.IsWhole} {arg7 : Memref sig .tc .vmem S1920x2560 .fp8e4m3} {harg7 : arg7.IsWhole} {arg8 : Memref sig .tc .vmem S2560x2x6912 .bf16} {harg8 : arg8.IsWhole} {arg9 : Memref sig .tc .vmem S6912x2560 .bf16} {harg9 : arg9.IsWhole} {arg10 : Memref sig .tc .vmem S2x2560x6912 .fp8e4m3} {harg10 : arg10.IsWhole} {arg11 : Memref sig .tc .vmem S6912x2560 .fp8e4m3} {harg11 : arg11.IsWhole} {arg12 : Memref sig .tc .vmem S1920x6912 .fp8e4m3} {harg12 : arg12.IsWhole} {arg13 : Memref sig .tc .vmem S3x2x640x6912 .fp8e4m3} {harg13 : arg13.IsWhole} {arg14 : Memref sig .tc .vmem S2560x2x6912 .f32} {harg14 : arg14.IsWhole} {arg15 : Memref sig .tc .vmem S6912x2560 .f32} {harg15 : arg15.IsWhole} {arg16 : Memref sig .tc .vmem S6x16 .f32} {harg16 : arg16.IsWhole}
    {x0 : Vec Ideal S6 .f32} {x1 : Vec Ideal S6 .f32} {x2 : Vec Ideal S6x16 .f32} {x3 : Vec Ideal S8x128 .f32} {x4 : Vec Ideal S8x128 .f32} {x5 : Vec Ideal S1920x2560 .fp8e4m3} {x6 : Vec Ideal S2560x1920 .fp8e4m3} {x7 : Vec Ideal S1920x2560 .fp8e4m3} {x8 : Vec Ideal S2560x2x6912 .bf16} {x9 : Vec Ideal S6912x2560 .bf16}

theorem out_16 : out0_A_16 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = nhA x2 (maxima x0 x1 x5 x7 x3 x4 x8 x9)  := by
  unfold out0_A_16
  rw [View.read_writes_junk_eq_canon]
  unfold kernelRun0_A
  dsimp only
  sl_unfold_words
  simp only [View.readAt_eq_ld, harg0.read_unread, harg1.read_unread, harg2.read_unread, harg3.read_unread, harg4.read_unread, harg5.read_unread, harg6.read_unread, harg7.read_unread, harg8.read_unread, harg9.read_unread, ld2, ld3, canon2, canon3, canon4]
  repeat rw [word0]
  repeat rw [word1]
  repeat rw [word2]
  repeat rw [word3]
  repeat rw [word4]
  exact nh_eq x0 x1 x2 x3 x4 x5 x7 x8 x9 _ _ (G0_at x8) (G1_at x8) _ (old_at x2)

end

variable (m : (ℓ : Loc nD τ sig) → Buf (Elt Ideal) ℓ) (ρ : Dev nD → PrngReg)

theorem idx_zero0 : ∀ t : Fin cfg0.N, ∀ a, win0_0.index t a = 0 := (by decide +kernel : ∀ t : Fin grid0.N, _)
theorem iblk0_eq (c : Dev nD) (t : Fin cfg0.N) : iblk m c 0 t = V m c main_arg0 :=
  funext fun j => congrArg (V m c main_arg0) (funext fun a => Fin.ext (win0_0.rect_emb_val_of_index_zero t a (idx_zero0 t a) j))
theorem idx_zero1 : ∀ t : Fin cfg0.N, ∀ a, win0_1.index t a = 0 := (by decide +kernel : ∀ t : Fin grid0.N, _)
theorem iblk1_eq (c : Dev nD) (t : Fin cfg0.N) : iblk m c 1 t = V m c main_arg1 :=
  funext fun j => congrArg (V m c main_arg1) (funext fun a => Fin.ext (win0_1.rect_emb_val_of_index_zero t a (idx_zero1 t a) j))
theorem idx_zero2 : ∀ t : Fin cfg0.N, ∀ a, win0_2.index t a = 0 := (by decide +kernel : ∀ t : Fin grid0.N, _)
theorem iblk2_eq (c : Dev nD) (t : Fin cfg0.N) : iblk m c 2 t = V m c main_arg2 :=
  funext fun j => congrArg (V m c main_arg2) (funext fun a => Fin.ext (win0_2.rect_emb_val_of_index_zero t a (idx_zero2 t a) j))
theorem idx_zero3 : ∀ t : Fin cfg0.N, ∀ a, win0_3.index t a = 0 := (by decide +kernel : ∀ t : Fin grid0.N, _)
theorem iblk3_eq (c : Dev nD) (t : Fin cfg0.N) : iblk m c 3 t = V m c main_arg3 :=
  funext fun j => congrArg (V m c main_arg3) (funext fun a => Fin.ext (win0_3.rect_emb_val_of_index_zero t a (idx_zero3 t a) j))
theorem idx_zero4 : ∀ t : Fin cfg0.N, ∀ a, win0_4.index t a = 0 := (by decide +kernel : ∀ t : Fin grid0.N, _)
theorem iblk4_eq (c : Dev nD) (t : Fin cfg0.N) : iblk m c 4 t = V m c main_arg4 :=
  funext fun j => congrArg (V m c main_arg4) (funext fun a => Fin.ext (win0_4.rect_emb_val_of_index_zero t a (idx_zero4 t a) j))
theorem idx_zero5 : ∀ t : Fin cfg0.N, ∀ a, win0_5.index t a = 0 := (by decide +kernel : ∀ t : Fin grid0.N, _)
theorem iblk5_eq (c : Dev nD) (t : Fin cfg0.N) : iblk m c 5 t = V m c main_arg5 :=
  funext fun j => congrArg (V m c main_arg5) (funext fun a => Fin.ext (win0_5.rect_emb_val_of_index_zero t a (idx_zero5 t a) j))
theorem idx_zero6 : ∀ t : Fin cfg0.N, ∀ a, win0_6.index t a = 0 := (by decide +kernel : ∀ t : Fin grid0.N, _)
theorem iblk6_eq (c : Dev nD) (t : Fin cfg0.N) : iblk m c 6 t = V m c main_arg6 :=
  funext fun j => congrArg (V m c main_arg6) (funext fun a => Fin.ext (win0_6.rect_emb_val_of_index_zero t a (idx_zero6 t a) j))
theorem idx_zero7 : ∀ t : Fin cfg0.N, ∀ a, win0_7.index t a = 0 := (by decide +kernel : ∀ t : Fin grid0.N, _)
theorem iblk7_eq (c : Dev nD) (t : Fin cfg0.N) : iblk m c 7 t = V m c main_arg7 :=
  funext fun j => congrArg (V m c main_arg7) (funext fun a => Fin.ext (win0_7.rect_emb_val_of_index_zero t a (idx_zero7 t a) j))
theorem idx_zero8 : ∀ t : Fin cfg0.N, ∀ a, win0_8.index t a = 0 := (by decide +kernel : ∀ t : Fin grid0.N, _)
theorem iblk8_eq (c : Dev nD) (t : Fin cfg0.N) : iblk m c 8 t = V m c main_arg8 :=
  funext fun j => congrArg (V m c main_arg8) (funext fun a => Fin.ext (win0_8.rect_emb_val_of_index_zero t a (idx_zero8 t a) j))
theorem idx_zero9 : ∀ t : Fin cfg0.N, ∀ a, win0_9.index t a = 0 := (by decide +kernel : ∀ t : Fin grid0.N, _)
theorem iblk9_eq (c : Dev nD) (t : Fin cfg0.N) : iblk m c 9 t = V m c main_arg9 :=
  funext fun j => congrArg (V m c main_arg9) (funext fun a => Fin.ext (win0_9.rect_emb_val_of_index_zero t a (idx_zero9 t a) j))
theorem idx_zero10 : ∀ t : Fin cfg0.N, ∀ a, win0_10.index t a = 0 := (by decide +kernel : ∀ t : Fin grid0.N, _)
theorem emb10 (t : Fin cfg0.N) (j : S2x2560x6912.Idx) : ((cfg0.win 10).blk t).view.emb j = j :=
  funext fun a => Fin.ext (win0_10.rect_emb_val_of_index_zero t a (idx_zero10 t a) j)
theorem final10 (c : Dev nD) : (dats m 0 c).arrAt 10 cfg0.N = (w13cA (V m c main_arg0) (V m c main_arg8)) := by
  refine (dats m 0 c).arrAt_eq_of_cover 10 (w13cA (V m c main_arg0) (V m c main_arg8)) (fun t _ => ?_) fun i => ?_
  · rw [flushed10_A, out_10, iblk0_eq, iblk8_eq]
    exact funext fun j => congrArg (w13cA (V m c main_arg0) (V m c main_arg8)) (emb10 t j).symm
  · refine ⟨(⟨0, by decide⟩ : Fin cfg0.N), flush0_10 _, ?_⟩
    have h := ((cfg0.win 10).blk (⟨0, by decide⟩ : Fin cfg0.N)).view.emb_mem_set i
    rwa [emb10] at h
theorem idx_zero11 : ∀ t : Fin cfg0.N, ∀ a, win0_11.index t a = 0 := (by decide +kernel : ∀ t : Fin grid0.N, _)
theorem emb11 (t : Fin cfg0.N) (j : S6912x2560.Idx) : ((cfg0.win 11).blk t).view.emb j = j :=
  funext fun a => Fin.ext (win0_11.rect_emb_val_of_index_zero t a (idx_zero11 t a) j)
theorem final11 (c : Dev nD) : (dats m 0 c).arrAt 11 cfg0.N = (w2cA (V m c main_arg0) (V m c main_arg9)) := by
  refine (dats m 0 c).arrAt_eq_of_cover 11 (w2cA (V m c main_arg0) (V m c main_arg9)) (fun t _ => ?_) fun i => ?_
  · rw [flushed11_A, out_11, iblk0_eq, iblk9_eq]
    exact funext fun j => congrArg (w2cA (V m c main_arg0) (V m c main_arg9)) (emb11 t j).symm
  · refine ⟨(⟨0, by decide⟩ : Fin cfg0.N), flush0_11 _, ?_⟩
    have h := ((cfg0.win 11).blk (⟨0, by decide⟩ : Fin cfg0.N)).view.emb_mem_set i
    rwa [emb11] at h
theorem idx_zero12 : ∀ t : Fin cfg0.N, ∀ a, win0_12.index t a = 0 := (by decide +kernel : ∀ t : Fin grid0.N, _)
theorem emb12 (t : Fin cfg0.N) (j : S1920x6912.Idx) : ((cfg0.win 12).blk t).view.emb j = j :=
  funext fun a => Fin.ext (win0_12.rect_emb_val_of_index_zero t a (idx_zero12 t a) j)
theorem final12 (c : Dev nD) : (dats m 0 c).arrAt 12 cfg0.N = (hcA (V m c main_arg0) (V m c main_arg1) (V m c main_arg5) (V m c main_arg8)) := by
  refine (dats m 0 c).arrAt_eq_of_cover 12 (hcA (V m c main_arg0) (V m c main_arg1) (V m c main_arg5) (V m c main_arg8)) (fun t _ => ?_) fun i => ?_
  · rw [flushed12_A, out_12, iblk0_eq, iblk1_eq, iblk5_eq, iblk8_eq]
    exact funext fun j => congrArg (hcA (V m c main_arg0) (V m c main_arg1) (V m c main_arg5) (V m c main_arg8)) (emb12 t j).symm
  · refine ⟨(⟨0, by decide⟩ : Fin cfg0.N), flush0_12 _, ?_⟩
    have h := ((cfg0.win 12).blk (⟨0, by decide⟩ : Fin cfg0.N)).view.emb_mem_set i
    rwa [emb12] at h
theorem idx_zero13 : ∀ t : Fin cfg0.N, ∀ a, win0_13.index t a = 0 := (by decide +kernel : ∀ t : Fin grid0.N, _)
theorem emb13 (t : Fin cfg0.N) (j : S3x2x640x6912.Idx) : ((cfg0.win 13).blk t).view.emb j = j :=
  funext fun a => Fin.ext (win0_13.rect_emb_val_of_index_zero t a (idx_zero13 t a) j)
theorem final13 (c : Dev nD) : (dats m 0 c).arrAt 13 cfg0.N = (dgcA (V m c main_arg0) (V m c main_arg1) (V m c main_arg5) (V m c main_arg7) (V m c main_arg8) (V m c main_arg9)) := by
  refine (dats m 0 c).arrAt_eq_of_cover 13 (dgcA (V m c main_arg0) (V m c main_arg1) (V m c main_arg5) (V m c main_arg7) (V m c main_arg8) (V m c main_arg9)) (fun t _ => ?_) fun i => ?_
  · rw [flushed13_A, out_13, iblk0_eq, iblk1_eq, iblk5_eq, iblk7_eq, iblk8_eq, iblk9_eq]
    exact funext fun j => congrArg (dgcA (V m c main_arg0) (V m c main_arg1) (V m c main_arg5) (V m c main_arg7) (V m c main_arg8) (V m c main_arg9)) (emb13 t j).symm
  · refine ⟨(⟨0, by decide⟩ : Fin cfg0.N), flush0_13 _, ?_⟩
    have h := ((cfg0.win 13).blk (⟨0, by decide⟩ : Fin cfg0.N)).view.emb_mem_set i
    rwa [emb13] at h
theorem idx_zero14 : ∀ t : Fin cfg0.N, ∀ a, win0_14.index t a = 0 := (by decide +kernel : ∀ t : Fin grid0.N, _)
theorem emb14 (t : Fin cfg0.N) (j : S2560x2x6912.Idx) : ((cfg0.win 14).blk t).view.emb j = j :=
  funext fun a => Fin.ext (win0_14.rect_emb_val_of_index_zero t a (idx_zero14 t a) j)
theorem final14 (c : Dev nD) : (dats m 0 c).arrAt 14 cfg0.N = (dw13A (V m c main_arg0) (V m c main_arg1) (V m c main_arg5) (V m c main_arg6) (V m c main_arg7) (V m c main_arg8) (V m c main_arg9)) := by
  refine (dats m 0 c).arrAt_eq_of_cover 14 (dw13A (V m c main_arg0) (V m c main_arg1) (V m c main_arg5) (V m c main_arg6) (V m c main_arg7) (V m c main_arg8) (V m c main_arg9)) (fun t _ => ?_) fun i => ?_
  · rw [flushed14_A, out_14, iblk0_eq, iblk1_eq, iblk5_eq, iblk6_eq, iblk7_eq, iblk8_eq, iblk9_eq]
    exact funext fun j => congrArg (dw13A (V m c main_arg0) (V m c main_arg1) (V m c main_arg5) (V m c main_arg6) (V m c main_arg7) (V m c main_arg8) (V m c main_arg9)) (emb14 t j).symm
  · refine ⟨(⟨0, by decide⟩ : Fin cfg0.N), flush0_14 _, ?_⟩
    have h := ((cfg0.win 14).blk (⟨0, by decide⟩ : Fin cfg0.N)).view.emb_mem_set i
    rwa [emb14] at h
theorem idx_zero15 : ∀ t : Fin cfg0.N, ∀ a, win0_15.index t a = 0 := (by decide +kernel : ∀ t : Fin grid0.N, _)
theorem emb15 (t : Fin cfg0.N) (j : S6912x2560.Idx) : ((cfg0.win 15).blk t).view.emb j = j :=
  funext fun a => Fin.ext (win0_15.rect_emb_val_of_index_zero t a (idx_zero15 t a) j)
theorem final15 (c : Dev nD) : (dats m 0 c).arrAt 15 cfg0.N = (dw2A (V m c main_arg0) (V m c main_arg1) (V m c main_arg5) (V m c main_arg7) (V m c main_arg8)) := by
  refine (dats m 0 c).arrAt_eq_of_cover 15 (dw2A (V m c main_arg0) (V m c main_arg1) (V m c main_arg5) (V m c main_arg7) (V m c main_arg8)) (fun t _ => ?_) fun i => ?_
  · rw [flushed15_A, out_15, iblk0_eq, iblk1_eq, iblk5_eq, iblk7_eq, iblk8_eq]
    exact funext fun j => congrArg (dw2A (V m c main_arg0) (V m c main_arg1) (V m c main_arg5) (V m c main_arg7) (V m c main_arg8)) (emb15 t j).symm
  · refine ⟨(⟨0, by decide⟩ : Fin cfg0.N), flush0_15 _, ?_⟩
    have h := ((cfg0.win 15).blk (⟨0, by decide⟩ : Fin cfg0.N)).view.emb_mem_set i
    rwa [emb15] at h
theorem idx_zero16 : ∀ t : Fin cfg0.N, ∀ a, win0_16.index t a = 0 := (by decide +kernel : ∀ t : Fin grid0.N, _)
theorem emb16 (t : Fin cfg0.N) (j : S6x16.Idx) : ((cfg0.win 16).blk t).view.emb j = j :=
  funext fun a => Fin.ext (win0_16.rect_emb_val_of_index_zero t a (idx_zero16 t a) j)
theorem final16 (c : Dev nD) : (dats m 0 c).arrAt 16 cfg0.N = (nhA (V m c main_arg2) (maxima (V m c main_arg0) (V m c main_arg1) (V m c main_arg5) (V m c main_arg7) (V m c main_arg3) (V m c main_arg4) (V m c main_arg8) (V m c main_arg9))) := by
  refine (dats m 0 c).arrAt_eq_of_cover 16 (nhA (V m c main_arg2) (maxima (V m c main_arg0) (V m c main_arg1) (V m c main_arg5) (V m c main_arg7) (V m c main_arg3) (V m c main_arg4) (V m c main_arg8) (V m c main_arg9))) (fun t _ => ?_) fun i => ?_
  · rw [flushed16_A, out_16, iblk0_eq, iblk1_eq, iblk2_eq, iblk3_eq, iblk4_eq, iblk5_eq, iblk7_eq, iblk8_eq, iblk9_eq]
    exact funext fun j => congrArg (nhA (V m c main_arg2) (maxima (V m c main_arg0) (V m c main_arg1) (V m c main_arg5) (V m c main_arg7) (V m c main_arg3) (V m c main_arg4) (V m c main_arg8) (V m c main_arg9))) (emb16 t j).symm
  · refine ⟨(⟨0, by decide⟩ : Fin cfg0.N), flush0_16 _, ?_⟩
    have h := ((cfg0.win 16).blk (⟨0, by decide⟩ : Fin cfg0.N)).view.emb_mem_set i
    rwa [emb16] at h
/-- The reference's run, its results named. -/
theorem run : θ_run defs (onTc (τ := τ) (main (F := Ideal))) ⟨m, fun _ => 0, ρ⟩ fun r => ∀ c : Dev nD,
      r.2.mem ((c : Thread nD τ).loc main_v0_0) = w13cA (m ((c : Thread nD τ).loc main_arg0)) (m ((c : Thread nD τ).loc main_arg8))
      ∧ r.2.mem ((c : Thread nD τ).loc main_v0_1) = w2cA (m ((c : Thread nD τ).loc main_arg0)) (m ((c : Thread nD τ).loc main_arg9))
      ∧ r.2.mem ((c : Thread nD τ).loc main_v0_2) = hcA (m ((c : Thread nD τ).loc main_arg0)) (m ((c : Thread nD τ).loc main_arg1)) (m ((c : Thread nD τ).loc main_arg5)) (m ((c : Thread nD τ).loc main_arg8))
      ∧ r.2.mem ((c : Thread nD τ).loc main_v0_3) = dgcA (m ((c : Thread nD τ).loc main_arg0)) (m ((c : Thread nD τ).loc main_arg1)) (m ((c : Thread nD τ).loc main_arg5)) (m ((c : Thread nD τ).loc main_arg7)) (m ((c : Thread nD τ).loc main_arg8)) (m ((c : Thread nD τ).loc main_arg9))
      ∧ r.2.mem ((c : Thread nD τ).loc main_v0_4) = dw13A (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_5) = dw2A (m ((c : Thread nD τ).loc main_arg0)) (m ((c : Thread nD τ).loc main_arg1)) (m ((c : Thread nD τ).loc main_arg5)) (m ((c : Thread nD τ).loc main_arg7)) (m ((c : Thread nD τ).loc main_arg8))
      ∧ r.2.mem ((c : Thread nD τ).loc main_v0_6) = nhA (m ((c : Thread nD τ).loc main_arg2)) (maxima (m ((c : Thread nD τ).loc main_arg0)) (m ((c : Thread nD τ).loc main_arg1)) (m ((c : Thread nD τ).loc main_arg5)) (m ((c : Thread nD τ).loc main_arg7)) (m ((c : Thread nD τ).loc main_arg3)) (m ((c : Thread nD τ).loc main_arg4)) (m ((c : Thread nD τ).loc main_arg8)) (m ((c : Thread nD τ).loc main_arg9)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => by
    obtain ⟨e0, e1, e2, e3, e4, e5, e6, e⟩ := h c
    exact ⟨e0.trans (final10 m c), e1.trans (final11 m c), e2.trans (final12 m c), e3.trans (final13 m c), e4.trans (final14 m c), e5.trans (final15 m c), e6.trans (final16 m c), e⟩) (run_blocks m ρ)

end Cert.Proof.Main.Ref

end
-- ==== Proof.MainValue.lean ====
/- The gradient kernel and its reference compute the same results. -/
module

public import proofs.«01_k».proof.Defs
public import proofs.«01_k».proof.Proof.MainRun
public import proofs.«01_k».proof.Proof.MainRefRun

@[expose] public section

noncomputable section

namespace Cert.Proof.Main

open Idealize.ShloMosaic Idealize.ShloMosaic.TcCoe Idealize.SL.Sem

theorem claim : Cert.algebraic_MainIdeal_MainRefIdeal (hMainIdeal := Cert.MainIdeal.Gen.facts) (hMainRefIdeal := Cert.MainRefIdeal.Gen.facts) := by
  intro m g m' g' _ hargs
  refine ⟨_, _, _, _, _, _, _, Ker.run m g, (θ_run _ _ _).mono (fun r h c => ?_) (Ref.run m' g')⟩
  obtain ⟨e0, e1, e2, e3, e4, e5, e6, e7, e8, e9⟩ := hargs c
  obtain ⟨r0, r1, r2, r3, r4, r5, r6, kept⟩ := h c
  exact ⟨r0.trans (congr (congrArg w13cA e0) e8),
    r1.trans (congr (congrArg w2cA e0) e9),
    r2.trans (congr (congr (congr (congrArg hcA e0) e1) e5) e8),
    r3.trans (congr (congr (congr (congr (congr (congrArg dgcA e0) e1) e5) e7) e8) e9),
    r4.trans (congr (congr (congr (congr (congr (congr (congrArg dw13A e0) e1) e5) e6) e7) e8) e9),
    r5.trans (congr (congr (congr (congr (congrArg dw2A e0) e1) e5) e7) e8),
    r6.trans (congr (congrArg nhA e2) (congr (congr (congr (congr (congr (congr (congr (congrArg maxima e0) e1) e5) e7) e3) e4) e8) e9)), kept⟩

end Cert.Proof.Main

end
-- ==== Proof.YValue.lean ====
/- The y call's value claim: the blocked product and the plain product leave the same array. -/
module

public import proofs.«01_k».proof.Defs
public import proofs.«01_k».proof.Proof.Common
public import proofs.«01_k».proof.Proof.Gen.YIdeal.Value
public import proofs.«01_k».proof.Proof.Gen.YRefIdeal.Value

@[expose] public section

noncomputable section

namespace Cert.Proof.Y

open Idealize.ShloMosaic hiding ix1 ix2 ix3 ix4 eq_ix1 eq_ix2 eq_ix3 eq_ix4
open Idealize.ShloMosaic.ValueIdx Idealize.SL.Sem
open scoped BigOperators

/-- y at (r, c): the product of the codes times the product of the two scales. -/
def y (s : Six) (h : Mat 1920 6912) (w : Mat 6912 2560) (r : Fin 1920) (c : Fin 2560) : EReal :=
  (∑ k : Fin 6912, h (ix2 r k) * w (ix2 k c)) * (s (ix1 3) * s (ix1 2))

/-- The array of `y`. -/
def arr (s : Six) (h : Mat 1920 6912) (w : Mat 6912 2560) : Mat 1920 2560 := fun i => y s h w (i 0) (i 1)

end Cert.Proof.Y

namespace Cert.Proof.Y.Ref

open Cert.YRefIdeal Cert.YRefIdeal.Gen Cert.YRefIdeal.Value
open Idealize.ShloMosaic hiding ix1 ix2 ix3 ix4 eq_ix1 eq_ix2 eq_ix3 eq_ix4
open Idealize.ShloMosaic.TcCoe Idealize.ShloMosaic.ValueIdx Idealize.SL.Sem

/-- The reference's payload is the array of `y`. -/
theorem pay_eq (s : Six) (h : Mat 1920 6912) (w : Mat 6912 2560) :
    k0_pay1 (F := Ideal) h w (s (ix1 3)) (s (ix1 2)) = arr s h w := by
  funext i
  rw [eq_ix2 i]
  exact congrArg (· * (s (ix1 3) * s (ix1 2))) (plain0 (φ₁ := .fp8e4m3) (φ₂ := .fp8e4m3) none h w (i 0) (i 1))

theorem out_eq (c : Dev nD) (arg0 : Memref sig .tc .smem S6 .f32) (h0 : arg0.IsWhole)
    (arg1 : Memref sig .tc .vmem S1920x6912 .fp8e4m3) (h1 : arg1.IsWhole) (arg2 : Memref sig .tc .vmem S6912x2560 .fp8e4m3)
    (h2 : arg2.IsWhole) (arg3 : Memref sig .tc .vmem S1920x2560 .bf16) (h3 : arg3.IsWhole)
    (x0 : Vec Ideal S6 .f32) (x1 : Vec Ideal S1920x6912 .fp8e4m3) (x2 : Vec Ideal S6912x2560 .fp8e4m3) :
    out0_A_3 c arg0 h0 arg1 h1 arg2 h2 arg3 h3 x0 x1 x2 = arr x0 x1 x2 := by
  unfold out0_A_3
  rw [View.read_writes_junk_eq_canon]
  unfold kernelRun0_A
  dsimp only
  sl_unfold_words
  simp only [View.readAt_eq_ld, h0.read_unread, h1.read_unread, h2.read_unread, ld2, word3, word2, canon2]
  rw [word3, word2]
  exact pay_eq x0 x1 x2

variable (m : (ℓ : Loc nD τ sig) → Buf (Elt Ideal) ℓ) (ρ : Dev nD → PrngReg)

theorem idx_zero0 : ∀ t : Fin cfg0.N, ∀ a, win0_0.index t a = 0 := (by decide +kernel : ∀ t : Fin grid0.N, _)
theorem idx_zero1 : ∀ t : Fin cfg0.N, ∀ a, win0_1.index t a = 0 := (by decide +kernel : ∀ t : Fin grid0.N, _)
theorem idx_zero2 : ∀ t : Fin cfg0.N, ∀ a, win0_2.index t a = 0 := (by decide +kernel : ∀ t : Fin grid0.N, _)
theorem idx_zero3 : ∀ t : Fin cfg0.N, ∀ a, win0_3.index t a = 0 := (by decide +kernel : ∀ t : Fin grid0.N, _)

theorem iblk0_eq (c : Dev nD) (t : Fin cfg0.N) : iblk m c 0 t = V m c main_arg0 :=
  funext fun j => congrArg (V m c main_arg0) (funext fun a => Fin.ext (win0_0.rect_emb_val_of_index_zero t a (idx_zero0 t a) j))
theorem iblk1_eq (c : Dev nD) (t : Fin cfg0.N) : iblk m c 1 t = V m c main_arg1 :=
  funext fun j => congrArg (V m c main_arg1) (funext fun a => Fin.ext (win0_1.rect_emb_val_of_index_zero t a (idx_zero1 t a) j))
theorem iblk2_eq (c : Dev nD) (t : Fin cfg0.N) : iblk m c 2 t = V m c main_arg2 :=
  funext fun j => congrArg (V m c main_arg2) (funext fun a => Fin.ext (win0_2.rect_emb_val_of_index_zero t a (idx_zero2 t a) j))

theorem emb3 (t : Fin cfg0.N) (j : S1920x2560.Idx) : ((cfg0.win 3).blk t).view.emb j = j :=
  funext fun a => Fin.ext (win0_3.rect_emb_val_of_index_zero t a (idx_zero3 t a) j)

theorem final3 (c : Dev nD) : (dats m 0 c).arrAt 3 cfg0.N
    = arr (m ((c : Thread nD τ).loc main_arg0)) (m ((c : Thread nD τ).loc main_arg1)) (m ((c : Thread nD τ).loc main_arg2)) := by
  refine ((dats m 0 c).arrAt_eq_of_cover 3 (arr (V m c main_arg0) (V m c main_arg1) (V m c main_arg2)) (fun t _ => ?_) fun i => ?_).trans
    (by rw [V_main_arg0, V_main_arg1, V_main_arg2])
  · rw [flushed3_A, out_eq, iblk0_eq, iblk1_eq, iblk2_eq]
    exact funext fun j => congrArg (arr (V m c main_arg0) (V m c main_arg1) (V m c main_arg2)) (emb3 t j).symm
  · refine ⟨(⟨0, by decide⟩ : Fin cfg0.N), flush0_3 _, ?_⟩
    have h := ((cfg0.win 3).blk (⟨0, by decide⟩ : Fin cfg0.N)).view.emb_mem_set i
    rwa [emb3] at h

/-- The reference's run, its result named. -/
theorem run : θ_run defs (onTc (τ := τ) (main (F := Ideal))) ⟨m, fun _ => 0, ρ⟩ fun r => ∀ c : Dev nD,
      r.2.mem ((c : Thread nD τ).loc main_v0)
        = arr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (run_blocks m ρ)

end Cert.Proof.Y.Ref

namespace Cert.Proof.Y.Ker

open Cert.YIdeal Cert.YIdeal.Gen Cert.YIdeal.Value
open Idealize.ShloMosaic hiding ix1 ix2 ix3 ix4 eq_ix1 eq_ix2 eq_ix3 eq_ix4
open Idealize.ShloMosaic.TcCoe Idealize.ShloMosaic.ValueIdx Idealize.SL.Sem

/-- The body's payload at a place of its block. -/
theorem pay_eq (s : Six) (h : Mat 1920 6912) (w : Mat 6912 512) (r : Fin 1920) (c : Fin 512) :
    k0_pay1 (F := Ideal) (s (ix1 3)) (s (ix1 2)) h w (ix2 r c) = (∑ k : Fin 6912, h (ix2 r k) * w (ix2 k c)) * (s (ix1 3) * s (ix1 2)) :=
  congrArg (· * (s (ix1 3) * s (ix1 2))) (plain0 (φ₁ := .fp8e4m3) (φ₂ := .fp8e4m3) none h w r c)

theorem out_eq (c : Dev nD) (i : grid0.Coords) (arg0 : Memref sig .tc .smem S6 .f32) (h0 : arg0.IsWhole)
    (arg1 : Memref sig .tc .vmem S1920x6912 .fp8e4m3) (h1 : arg1.IsWhole) (arg2 : Memref sig .tc .vmem S6912x512 .fp8e4m3)
    (h2 : arg2.IsWhole) (arg3 : Memref sig .tc .vmem S1920x512 .bf16) (h3 : arg3.IsWhole)
    (x0 : Vec Ideal S6 .f32) (x1 : Vec Ideal S1920x6912 .fp8e4m3) (x2 : Vec Ideal S6912x512 .fp8e4m3) :
    out0_A_3 c i arg0 h0 arg1 h1 arg2 h2 arg3 h3 x0 x1 x2 = k0_pay1 (x0 (ix1 3)) (x0 (ix1 2)) x1 x2 := by
  unfold out0_A_3
  rw [View.read_writes_junk_eq_canon]
  unfold kernelRun0_A
  dsimp only
  sl_unfold_words
  simp only [View.readAt_eq_ld, h0.read_unread, h1.read_unread, h2.read_unread, ld2, canon2]
  rw [word3, word2]

variable (m : (ℓ : Loc nD τ sig) → Buf (Elt Ideal) ℓ) (ρ : Dev nD → PrngReg)

theorem idx_zero0 : ∀ t : Fin cfg0.N, ∀ a, win0_0.index t a = 0 := (by decide +kernel : ∀ t : Fin grid0.N, _)
theorem idx_zero1 : ∀ t : Fin cfg0.N, ∀ a, win0_1.index t a = 0 := (by decide +kernel : ∀ t : Fin grid0.N, _)
theorem idx2 : ∀ t : Fin cfg0.N, win0_2.index t (0 : Fin 2) = 0 ∧ win0_2.index t (1 : Fin 2) = t.val := (by decide +kernel : ∀ t : Fin grid0.N, _)
theorem idx3 : ∀ t : Fin cfg0.N, win0_3.index t (0 : Fin 2) = 0 ∧ win0_3.index t (1 : Fin 2) = t.val := (by decide +kernel : ∀ t : Fin grid0.N, _)

theorem iblk0_eq (c : Dev nD) (t : Fin cfg0.N) : iblk m c 0 t = V m c main_arg0 :=
  funext fun j => congrArg (V m c main_arg0) (funext fun a => Fin.ext (win0_0.rect_emb_val_of_index_zero t a (idx_zero0 t a) j))
theorem iblk1_eq (c : Dev nD) (t : Fin cfg0.N) : iblk m c 1 t = V m c main_arg1 :=
  funext fun j => congrArg (V m c main_arg1) (funext fun a => Fin.ext (win0_1.rect_emb_val_of_index_zero t a (idx_zero1 t a) j))

/-- Column `j` of the block of point `t`. -/
def col (t : Fin cfg0.N) (j : Fin 512) : Fin 2560 := ⟨512 * t.val + j.val, by have h : t.val < 5 := t.isLt; omega⟩

theorem iblk2_eq (c : Dev nD) (t : Fin cfg0.N) (k : Fin 6912) (j : Fin 512) :
    iblk m c 2 t (ix2 k j) = V m c main_arg2 (ix2 k (col t j)) := by
  refine congrArg (V m c main_arg2) (funext fun a => Fin.ext ?_)
  obtain ⟨e0, e1⟩ := idx2 t
  match a with
  | ⟨0, _⟩ => show win0_2.index t (0 : Fin 2) * 6912 + 1 * k.val = k.val; omega
  | ⟨1, _⟩ => show win0_2.index t (1 : Fin 2) * 512 + 1 * j.val = 512 * t.val + j.val; omega

theorem emb3 (t : Fin cfg0.N) (j : S1920x512.Idx) : ((cfg0.win 3).blk t).view.emb j = ix2 (j 0) (col t (j 1)) := by
  refine funext fun a => Fin.ext ?_
  obtain ⟨e0, e1⟩ := idx3 t
  match a with
  | ⟨0, _⟩ => show win0_3.index t (0 : Fin 2) * 1920 + 1 * (j 0).val = (j 0).val; omega
  | ⟨1, _⟩ => show win0_3.index t (1 : Fin 2) * 512 + 1 * (j 1).val = 512 * t.val + (j 1).val; omega

/-- What point `t` leaves in its block is `arr` there. -/
theorem block3 (s : Six) (h : Mat 1920 6912) (w : Mat 6912 2560) (w' : Mat 6912 512) (t : Fin cfg0.N)
    (hw : ∀ k j, w' (ix2 k j) = w (ix2 k (col t j))) (j : S1920x512.Idx) :
    k0_pay1 (F := Ideal) (s (ix1 3)) (s (ix1 2)) h w' j = arr s h w (ix2 (j 0) (col t (j 1))) := by
  rw [eq_ix2 j]
  refine (pay_eq s h w' (j 0) (j 1)).trans (congrArg (· * (s (ix1 3) * s (ix1 2))) (Finset.sum_congr rfl fun k _ => ?_))
  exact congrArg (h (ix2 (j 0) k) * ·) (hw k (j 1))

theorem covered3 (i : S1920x2560.Idx) :
    ∃ t : Fin cfg0.N, (cfg0.win 3).flush t = true ∧ i ∈ ((cfg0.win 3).blk t).view.set := by
  have hi : (i 1).val < 2560 := idx2_lt1 i
  let t : Fin cfg0.N := ⟨(i 1).val / 512, by show (i 1).val / 512 < 5; omega⟩
  let j : Fin 512 := ⟨(i 1).val % 512, Nat.mod_lt _ (by omega)⟩
  have e : ((cfg0.win 3).blk t).view.emb (ix2 (i 0) j) = i :=
    (emb3 t (ix2 (i 0) j)).trans ((congrArg (ix2 (i 0)) (Fin.ext (Nat.div_add_mod (i 1).val 512))).trans (eq_ix2 i).symm)
  exact ⟨t, flush0_3 _, e ▸ ((cfg0.win 3).blk t).view.emb_mem_set (ix2 (i 0) j)⟩

theorem final3 (c : Dev nD) : (dats m 0 c).arrAt 3 cfg0.N
    = arr (m ((c : Thread nD τ).loc main_arg0)) (m ((c : Thread nD τ).loc main_arg1)) (m ((c : Thread nD τ).loc main_arg2)) := by
  refine ((dats m 0 c).arrAt_eq_of_cover 3 (arr (V m c main_arg0) (V m c main_arg1) (V m c main_arg2)) (fun t _ => ?_) covered3).trans
    (by rw [V_main_arg0, V_main_arg1, V_main_arg2])
  rw [flushed3_A, out_eq, iblk0_eq, iblk1_eq]
  funext j
  exact (block3 (V m c main_arg0) (V m c main_arg1) (V m c main_arg2) (iblk m c 2 t) t (iblk2_eq m c t) j).trans
    (congrArg (arr (V m c main_arg0) (V m c main_arg1) (V m c main_arg2)) (emb3 t j).symm)

/-- The kernel's run, its result named. -/
theorem run : θ_run defs (onTc (τ := τ) (main (F := Ideal))) ⟨m, fun _ => 0, ρ⟩ fun r => ∀ c : Dev nD,
      r.2.mem ((c : Thread nD τ).loc main_v0)
        = arr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (run_blocks m ρ)

end Cert.Proof.Y.Ker

namespace Cert.Proof.Y

open Idealize.ShloMosaic Idealize.SL.Sem

theorem claim : Cert.algebraic_YIdeal_YRefIdeal (hYIdeal := Cert.YIdeal.Gen.facts) (hYRefIdeal := Cert.YRefIdeal.Gen.facts) := by
  intro m g m' g' _ hargs
  refine ⟨_, Ker.run m g, (θ_run _ _ _).mono (fun r h c => ⟨(h c).1.trans ?_, (h c).2⟩) (Ref.run m' g')⟩
  obtain ⟨e0, e1, e2⟩ := hargs c
  exact congr (congr (congrArg arr e0) e1) e2

end Cert.Proof.Y

end
-- ==== Proof.DxValue.lean ====
/- The dx call's value claim: the product over the gradient's two halves, block by block, and the plain product of the
   flattened rows leave the same array. -/
module

public import proofs.«01_k».proof.Defs
public import proofs.«01_k».proof.Proof.Common
public import proofs.«01_k».proof.Proof.Gen.DxIdeal.Value
public import proofs.«01_k».proof.Proof.Gen.DxRefIdeal.Value

@[expose] public section

noncomputable section

namespace Cert.Proof.Dx

open Idealize.ShloMosaic hiding ix1 ix2 ix3 ix4 eq_ix1 eq_ix2 eq_ix3 eq_ix4
open Idealize.ShloMosaic.ValueIdx Idealize.SL.Sem
open scoped BigOperators

/-- dx at row `q` of member `p` and column `c`: both halves' products, times the product of the two scales. -/
def dxAt {N : ℕ} (s : Six) (dg : Arr4 3 2 640 6912) (w : Arr3 2 N 6912) (p : Fin 3) (q : Fin 640) (c : Fin N) : EReal :=
  ((∑ k : Fin 6912, dg (ix4 p 0 q k) * w (ix3 0 c k)) + ∑ k : Fin 6912, dg (ix4 p 1 q k) * w (ix3 1 c k)) * (s (ix1 5) * s (ix1 1))

def mem (r : Fin 1920) : Fin 3 := ⟨r.val / 640, by omega⟩
def row (r : Fin 1920) : Fin 640 := ⟨r.val % 640, by omega⟩

/-- The array of `dxAt`. -/
def arr {N : ℕ} (s : Six) (dg : Arr4 3 2 640 6912) (w : Arr3 2 N 6912) : Mat 1920 N := fun i => dxAt s dg w (mem (i 0)) (row (i 0)) (i 1)

end Cert.Proof.Dx

namespace Cert.Proof.Dx.Ref

open Cert.DxRefIdeal Cert.DxRefIdeal.Gen Cert.DxRefIdeal.Value
open Idealize.ShloMosaic hiding ix1 ix2 ix3 ix4 eq_ix1 eq_ix2 eq_ix3 eq_ix4
open Idealize.ShloMosaic.TcCoe Idealize.ShloMosaic.ValueIdx Idealize.SL.Sem

theorem pay_at (s5 s1 : EReal) (v0 v3 : Arr4 3 1 640 6912) (v6 v9 : Arr3 1 2560 6912) (r : Fin 1920) (c : Fin 2560) :
    k0_pay1 (F := Ideal) v0 v3 v6 v9 s5 s1 (ix2 r c)
      = ((∑ k : Fin 6912, v0 (ix4 (mem r) 0 (row r) k) * v6 (ix3 0 c k)) + ∑ k : Fin 6912, v3 (ix4 (mem r) 0 (row r) k) * v9 (ix3 0 c k)) * (s5 * s1) := by
  have e : (mem r).val * 640 + (row r).val = r.val := by show r.val / 640 * 640 + r.val % 640 = r.val; omega
  refine congrArg (· * (s5 * s1)) (congrArg₂ (· + ·) ?_ ?_)
  · refine (trans0 (φ₁ := .fp8e4m3) (φ₂ := .fp8e4m3) none _ _ r c).trans (Finset.sum_congr rfl fun k _ => congrArg₂ (· * ·) ?_ ?_)
    · exact flatRows v0 _ _ r k (mem r) (row r) e
    · exact drop3 v6 _ c k
  · refine (trans0 (φ₁ := .fp8e4m3) (φ₂ := .fp8e4m3) none _ _ r c).trans (Finset.sum_congr rfl fun k _ => congrArg₂ (· * ·) ?_ ?_)
    · exact flatRows v3 _ _ r k (mem r) (row r) e
    · exact drop3 v9 _ c k

theorem out_eq (c : Dev nD) (arg0 : Memref sig .tc .smem S6 .f32) (h0 : arg0.IsWhole)
    (arg1 : Memref sig .tc .vmem S3x2x640x6912 .fp8e4m3) (h1 : arg1.IsWhole) (arg2 : Memref sig .tc .vmem S2x2560x6912 .fp8e4m3)
    (h2 : arg2.IsWhole) (arg3 : Memref sig .tc .vmem S1920x2560 .bf16) (h3 : arg3.IsWhole)
    (x0 : Vec Ideal S6 .f32) (x1 : Vec Ideal S3x2x640x6912 .fp8e4m3) (x2 : Vec Ideal S2x2560x6912 .fp8e4m3) :
    out0_A_3 c arg0 h0 arg1 h1 arg2 h2 arg3 h3 x0 x1 x2 = arr x0 x1 x2 := by
  unfold out0_A_3
  rw [View.read_writes_junk_eq_canon]
  unfold kernelRun0_A
  dsimp only
  sl_unfold_words
  simp only [View.readAt_eq_ld, h0.read_unread, h1.read_unread, h2.read_unread, canon2]
  rw [word5, word1]
  funext i
  obtain ⟨r, j, rfl⟩ : ∃ (r : Fin 1920) (j : Fin 2560), i = ix2 r j := ⟨i 0, i 1, eq_ix2 i⟩
  refine (pay_at _ _ _ _ _ _ r j).trans ?_
  refine congrArg (· * (x0 (ix1 5) * x0 (ix1 1) : EReal)) (congrArg₂ (· + ·)
    (Finset.sum_congr rfl fun k _ => congrArg₂ (· * ·) ?_ ?_) (Finset.sum_congr rfl fun k _ => congrArg₂ (· * ·) ?_ ?_))
  · exact at4 x1 0 0 0 0 _ _ _ _ _ _ _ _ _ (by simp) (by simp) (by simp) (by simp)
  · exact at3 x2 0 0 0 _ _ _ _ _ _ _ (by simp) (by simp) (by simp)
  · exact at4 x1 0 1 0 0 _ _ _ _ _ _ _ _ _ (by simp) (by simp) (by simp) (by simp)
  · exact at3 x2 1 0 0 _ _ _ _ _ _ _ (by simp) (by simp) (by simp)

variable (m : (ℓ : Loc nD τ sig) → Buf (Elt Ideal) ℓ) (ρ : Dev nD → PrngReg)

theorem idx_zero0 : ∀ t : Fin cfg0.N, ∀ a, win0_0.index t a = 0 := (by decide +kernel : ∀ t : Fin grid0.N, _)
theorem idx_zero1 : ∀ t : Fin cfg0.N, ∀ a, win0_1.index t a = 0 := (by decide +kernel : ∀ t : Fin grid0.N, _)
theorem idx_zero2 : ∀ t : Fin cfg0.N, ∀ a, win0_2.index t a = 0 := (by decide +kernel : ∀ t : Fin grid0.N, _)
theorem idx_zero3 : ∀ t : Fin cfg0.N, ∀ a, win0_3.index t a = 0 := (by decide +kernel : ∀ t : Fin grid0.N, _)

theorem iblk0_eq (c : Dev nD) (t : Fin cfg0.N) : iblk m c 0 t = V m c main_arg0 :=
  funext fun j => congrArg (V m c main_arg0) (funext fun a => Fin.ext (win0_0.rect_emb_val_of_index_zero t a (idx_zero0 t a) j))
theorem iblk1_eq (c : Dev nD) (t : Fin cfg0.N) : iblk m c 1 t = V m c main_arg1 :=
  funext fun j => congrArg (V m c main_arg1) (funext fun a => Fin.ext (win0_1.rect_emb_val_of_index_zero t a (idx_zero1 t a) j))
theorem iblk2_eq (c : Dev nD) (t : Fin cfg0.N) : iblk m c 2 t = V m c main_arg2 :=
  funext fun j => congrArg (V m c main_arg2) (funext fun a => Fin.ext (win0_2.rect_emb_val_of_index_zero t a (idx_zero2 t a) j))

theorem emb3 (t : Fin cfg0.N) (j : S1920x2560.Idx) : ((cfg0.win 3).blk t).view.emb j = j :=
  funext fun a => Fin.ext (win0_3.rect_emb_val_of_index_zero t a (idx_zero3 t a) j)

theorem final3 (c : Dev nD) : (dats m 0 c).arrAt 3 cfg0.N
    = arr (m ((c : Thread nD τ).loc main_arg0)) (m ((c : Thread nD τ).loc main_arg1)) (m ((c : Thread nD τ).loc main_arg2)) := by
  refine ((dats m 0 c).arrAt_eq_of_cover 3 (arr (V m c main_arg0) (V m c main_arg1) (V m c main_arg2)) (fun t _ => ?_) fun i => ?_).trans
    (by rw [V_main_arg0, V_main_arg1, V_main_arg2])
  · rw [flushed3_A, out_eq, iblk0_eq, iblk1_eq, iblk2_eq]
    exact funext fun j => congrArg (arr (V m c main_arg0) (V m c main_arg1) (V m c main_arg2)) (emb3 t j).symm
  · refine ⟨(⟨0, by decide⟩ : Fin cfg0.N), flush0_3 _, ?_⟩
    have h := ((cfg0.win 3).blk (⟨0, by decide⟩ : Fin cfg0.N)).view.emb_mem_set i
    rwa [emb3] at h

/-- The reference's run, its result named. -/
theorem run : θ_run defs (onTc (τ := τ) (main (F := Ideal))) ⟨m, fun _ => 0, ρ⟩ fun r => ∀ c : Dev nD,
      r.2.mem ((c : Thread nD τ).loc main_v0)
        = arr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (run_blocks m ρ)

end Cert.Proof.Dx.Ref

namespace Cert.Proof.Dx.Ker

open Cert.DxIdeal Cert.DxIdeal.Gen Cert.DxIdeal.Value
open Idealize.ShloMosaic hiding ix1 ix2 ix3 ix4 eq_ix1 eq_ix2 eq_ix3 eq_ix4
open Idealize.ShloMosaic.TcCoe Idealize.ShloMosaic.ValueIdx Idealize.SL.Sem

/-- One half's product at a place of the block. -/
theorem half_at (v : Arr4 1 1 640 6912) (w : Arr3 1 512 6912) (r : Fin 640) (c : Fin 512) :
    k0_pay5 (F := Ideal) v w (ix2 r c) = ∑ k : Fin 6912, v (ix4 0 0 r k) * w (ix3 0 c k) :=
  (trans0 (φ₁ := .fp8e4m3) (φ₂ := .fp8e4m3) none _ _ r c).trans
    (Finset.sum_congr rfl fun k _ => congrArg₂ (· * ·) (drop4 v _ r k) (drop3 w _ c k))

/-- The three stores have one payload. -/
theorem pay_at (s5 s1 : EReal) (v v' : Arr4 1 1 640 6912) (w w' : Arr3 1 512 6912) (r : Fin 640) (c : Fin 512) :
    k0_pay4 (F := Ideal) s5 s1 v w v' w' (ix2 r c)
      = ((∑ k : Fin 6912, v (ix4 0 0 r k) * w (ix3 0 c k)) + ∑ k : Fin 6912, v' (ix4 0 0 r k) * w' (ix3 0 c k)) * (s5 * s1) :=
  congrArg (· * (s5 * s1)) (congrArg₂ (· + ·) (half_at v w r c) (half_at v' w' r c))

theorem pay2_eq (s5 s1 : EReal) (v v' : Arr4 1 1 640 6912) (w w' : Arr3 1 512 6912) :
    k0_pay2 (F := Ideal) (k0_pay3 s5 s1) v w v' w' = k0_pay4 (F := Ideal) s5 s1 v w v' w' := rfl
theorem pay1_eq (s5 s1 : EReal) (v v' : Arr4 1 1 640 6912) (w w' : Arr3 1 512 6912) :
    k0_pay1 (F := Ideal) (k0_pay3 s5 s1) (k0_pay5 v w) (k0_pay6 v') w' = k0_pay4 (F := Ideal) s5 s1 v w v' w' := rfl

/-- The payload of the loads of member `p`. -/
theorem pay_ld (x0 : Six) (x1 : Arr4 3 2 640 6912) (x2 : Arr3 2 512 6912) (p : Fin 3) (a0 a1 b0 b1) (x : S640x512.Idx) :
    k0_pay4 (F := Ideal) (x0 (ix1 5)) (x0 (ix1 1))
        (View.ld (Val := Elt Ideal) (e' := .fp8e4m3) x1 (Rect.unit (s := S3x2x640x6912) ![p.val, 0, 0, 0] ![1, 1, 640, 6912] a0))
        (View.ld (Val := Elt Ideal) (e' := .fp8e4m3) x2 (Rect.unit (s := S2x512x6912) ![0, 0, 0] ![1, 512, 6912] b0))
        (View.ld (Val := Elt Ideal) (e' := .fp8e4m3) x1 (Rect.unit (s := S3x2x640x6912) ![p.val, 1, 0, 0] ![1, 1, 640, 6912] a1))
        (View.ld (Val := Elt Ideal) (e' := .fp8e4m3) x2 (Rect.unit (s := S2x512x6912) ![1, 0, 0] ![1, 512, 6912] b1)) x
      = dxAt x0 x1 x2 p (x 0) (x 1) := by
  rw [eq_ix2 x]
  refine (pay_at _ _ _ _ _ _ _ _).trans (congrArg (· * (x0 (ix1 5) * x0 (ix1 1))) (congrArg₂ (· + ·)
    (Finset.sum_congr rfl fun k _ => congrArg₂ (· * ·) ?_ ?_) (Finset.sum_congr rfl fun k _ => congrArg₂ (· * ·) ?_ ?_)))
  · exact at4 (Val := Elt Ideal) (e := .fp8e4m3) x1 p.val 0 0 0 _ _ _ _ _ _ _ _ _ (by simp) (by simp) (by simp) (by simp)
  · exact at3 (Val := Elt Ideal) (e := .fp8e4m3) x2 0 0 0 _ _ _ _ _ _ _ (by simp) (by simp) (by simp)
  · exact at4 (Val := Elt Ideal) (e := .fp8e4m3) x1 p.val 1 0 0 _ _ _ _ _ _ _ _ _ (by simp) (by simp) (by simp) (by simp)
  · exact at3 (Val := Elt Ideal) (e := .fp8e4m3) x2 1 0 0 _ _ _ _ _ _ _ (by simp) (by simp) (by simp)

theorem arr_emb (x0 : Six) (x1 : Arr4 3 2 640 6912) (x2 : Arr3 2 512 6912) (p : Fin 3) (o : ℕ) (ho : o = 640 * p.val) (inb) (x : S640x512.Idx) :
    dxAt x0 x1 x2 p (x 0) (x 1) = arr x0 x1 x2 ((Rect.unit (s := S1920x512) ![o, 0] ![640, 512] inb).emb x) := by
  have hx : (x 0).val < 640 := (x 0).isLt
  rw [emb2 o 0 inb x ⟨o + (x 0).val, by omega⟩ (x 1) rfl (by simp)]
  have e0 : mem ⟨o + (x 0).val, by omega⟩ = p := Fin.ext (by show (o + (x 0).val) / 640 = p.val; omega)
  have e1 : row ⟨o + (x 0).val, by omega⟩ = x 0 := Fin.ext (by show (o + (x 0).val) % 640 = (x 0).val; omega)
  show _ = dxAt x0 x1 x2 (mem _) (row _) (x 1)
  rw [e0, e1]

theorem out_eq (c : Dev nD) (i : grid0.Coords) (arg0 : Memref sig .tc .smem S6 .f32) (h0 : arg0.IsWhole)
    (arg1 : Memref sig .tc .vmem S3x2x640x6912 .fp8e4m3) (h1 : arg1.IsWhole) (arg2 : Memref sig .tc .vmem S2x512x6912 .fp8e4m3)
    (h2 : arg2.IsWhole) (arg3 : Memref sig .tc .vmem S1920x512 .bf16) (h3 : arg3.IsWhole)
    (x0 : Vec Ideal S6 .f32) (x1 : Vec Ideal S3x2x640x6912 .fp8e4m3) (x2 : Vec Ideal S2x512x6912 .fp8e4m3) :
    out0_A_3 c i arg0 h0 arg1 h1 arg2 h2 arg3 h3 x0 x1 x2 = arr x0 x1 x2 := by
  unfold out0_A_3
  rw [View.read_writes_junk_eq_canon]
  funext y
  refine View.canon_apply_of_pieces (arr x0 x1 x2) _ ?_ y (cover0_A_3 c i arg0 h0 arg1 h1 arg2 h2 arg3 h3 x0 x1 x2 y)
  unfold kernelRun0_A
  dsimp only
  sl_unfold_words
  simp only [View.readAt_eq_ld, h0.read_unread, h1.read_unread, h2.read_unread, List.forall_mem_cons]
  rw [word5, word1]
  simp only [pay2_eq, pay1_eq]
  refine ⟨fun x => ?_, fun x => ?_, fun x => ?_, by simp⟩
  · exact (pay_ld x0 x1 x2 2 _ _ _ _ x).trans (arr_emb x0 x1 x2 2 1280 rfl _ x)
  · exact (pay_ld x0 x1 x2 1 _ _ _ _ x).trans (arr_emb x0 x1 x2 1 640 rfl _ x)
  · exact (pay_ld x0 x1 x2 0 _ _ _ _ x).trans (arr_emb x0 x1 x2 0 0 rfl _ x)

variable (m : (ℓ : Loc nD τ sig) → Buf (Elt Ideal) ℓ) (ρ : Dev nD → PrngReg)

theorem idx_zero0 : ∀ t : Fin cfg0.N, ∀ a, win0_0.index t a = 0 := (by decide +kernel : ∀ t : Fin grid0.N, _)
theorem idx_zero1 : ∀ t : Fin cfg0.N, ∀ a, win0_1.index t a = 0 := (by decide +kernel : ∀ t : Fin grid0.N, _)
theorem idx2 : ∀ t : Fin cfg0.N, win0_2.index t (0 : Fin 3) = 0 ∧ win0_2.index t (1 : Fin 3) = t.val ∧ win0_2.index t (2 : Fin 3) = 0 := (by decide +kernel : ∀ t : Fin grid0.N, _)
theorem idx3 : ∀ t : Fin cfg0.N, win0_3.index t (0 : Fin 2) = 0 ∧ win0_3.index t (1 : Fin 2) = t.val := (by decide +kernel : ∀ t : Fin grid0.N, _)

theorem iblk0_eq (c : Dev nD) (t : Fin cfg0.N) : iblk m c 0 t = V m c main_arg0 :=
  funext fun j => congrArg (V m c main_arg0) (funext fun a => Fin.ext (win0_0.rect_emb_val_of_index_zero t a (idx_zero0 t a) j))
theorem iblk1_eq (c : Dev nD) (t : Fin cfg0.N) : iblk m c 1 t = V m c main_arg1 :=
  funext fun j => congrArg (V m c main_arg1) (funext fun a => Fin.ext (win0_1.rect_emb_val_of_index_zero t a (idx_zero1 t a) j))

/-- Column `j` of the block of point `t`. -/
def col (t : Fin cfg0.N) (j : Fin 512) : Fin 2560 := ⟨512 * t.val + j.val, by have h : t.val < 5 := t.isLt; omega⟩

theorem iblk2_eq (c : Dev nD) (t : Fin cfg0.N) (g : Fin 2) (j : Fin 512) (k : Fin 6912) :
    iblk m c 2 t (ix3 g j k) = V m c main_arg2 (ix3 g (col t j) k) := by
  refine congrArg (V m c main_arg2) (funext fun a => Fin.ext ?_)
  obtain ⟨e0, e1, e2⟩ := idx2 t
  match a with
  | ⟨0, _⟩ => show win0_2.index t (0 : Fin 3) * 2 + 1 * g.val = g.val; omega
  | ⟨1, _⟩ => show win0_2.index t (1 : Fin 3) * 512 + 1 * j.val = 512 * t.val + j.val; omega
  | ⟨2, _⟩ => show win0_2.index t (2 : Fin 3) * 6912 + 1 * k.val = k.val; omega

theorem emb3 (t : Fin cfg0.N) (j : S1920x512.Idx) : ((cfg0.win 3).blk t).view.emb j = ix2 (j 0) (col t (j 1)) := by
  refine funext fun a => Fin.ext ?_
  obtain ⟨e0, e1⟩ := idx3 t
  match a with
  | ⟨0, _⟩ => show win0_3.index t (0 : Fin 2) * 1920 + 1 * (j 0).val = (j 0).val; omega
  | ⟨1, _⟩ => show win0_3.index t (1 : Fin 2) * 512 + 1 * (j 1).val = 512 * t.val + (j 1).val; omega

/-- What point `t` leaves in its block is `arr` there. -/
theorem block3 (s : Six) (dg : Arr4 3 2 640 6912) (w : Arr3 2 2560 6912) (w' : Arr3 2 512 6912) (t : Fin cfg0.N)
    (hw : ∀ g j k, w' (ix3 g j k) = w (ix3 g (col t j) k)) (j : S1920x512.Idx) :
    arr s dg w' j = arr s dg w (ix2 (j 0) (col t (j 1))) :=
  congrArg (· * (s (ix1 5) * s (ix1 1))) (congrArg₂ (· + ·)
    (Finset.sum_congr rfl fun k _ => congrArg (dg (ix4 (mem (j 0)) 0 (row (j 0)) k) * ·) (hw 0 (j 1) k))
    (Finset.sum_congr rfl fun k _ => congrArg (dg (ix4 (mem (j 0)) 1 (row (j 0)) k) * ·) (hw 1 (j 1) k)))

theorem covered3 (i : S1920x2560.Idx) :
    ∃ t : Fin cfg0.N, (cfg0.win 3).flush t = true ∧ i ∈ ((cfg0.win 3).blk t).view.set := by
  have hi : (i 1).val < 2560 := idx2_lt1 i
  let t : Fin cfg0.N := ⟨(i 1).val / 512, by show (i 1).val / 512 < 5; omega⟩
  let j : Fin 512 := ⟨(i 1).val % 512, Nat.mod_lt _ (by omega)⟩
  have e : ((cfg0.win 3).blk t).view.emb (ix2 (i 0) j) = i :=
    (emb3 t (ix2 (i 0) j)).trans ((congrArg (ix2 (i 0)) (Fin.ext (Nat.div_add_mod (i 1).val 512))).trans (eq_ix2 i).symm)
  exact ⟨t, flush0_3 _, e ▸ ((cfg0.win 3).blk t).view.emb_mem_set (ix2 (i 0) j)⟩

theorem final3 (c : Dev nD) : (dats m 0 c).arrAt 3 cfg0.N
    = arr (m ((c : Thread nD τ).loc main_arg0)) (m ((c : Thread nD τ).loc main_arg1)) (m ((c : Thread nD τ).loc main_arg2)) := by
  refine ((dats m 0 c).arrAt_eq_of_cover 3 (arr (V m c main_arg0) (V m c main_arg1) (V m c main_arg2)) (fun t _ => ?_) covered3).trans
    (by rw [V_main_arg0, V_main_arg1, V_main_arg2])
  rw [flushed3_A, out_eq, iblk0_eq, iblk1_eq]
  funext j
  exact (block3 (V m c main_arg0) (V m c main_arg1) (V m c main_arg2) (iblk m c 2 t) t (iblk2_eq m c t) j).trans
    (congrArg (arr (V m c main_arg0) (V m c main_arg1) (V m c main_arg2)) (emb3 t j).symm)

/-- The kernel's run, its result named. -/
theorem run : θ_run defs (onTc (τ := τ) (main (F := Ideal))) ⟨m, fun _ => 0, ρ⟩ fun r => ∀ c : Dev nD,
      r.2.mem ((c : Thread nD τ).loc main_v0)
        = arr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (run_blocks m ρ)

end Cert.Proof.Dx.Ker

namespace Cert.Proof.Dx

open Idealize.ShloMosaic Idealize.SL.Sem

theorem claim : Cert.algebraic_DxIdeal_DxRefIdeal (hDxIdeal := Cert.DxIdeal.Gen.facts) (hDxRefIdeal := Cert.DxRefIdeal.Gen.facts) := by
  intro m g m' g' _ hargs
  refine ⟨_, Ker.run m g, (θ_run _ _ _).mono (fun r h c => ⟨(h c).1.trans ?_, (h c).2⟩) (Ref.run m' g')⟩
  obtain ⟨e0, e1, e2⟩ := hargs c
  exact congr (congr (congrArg arr e0) e1) e2

end Cert.Proof.Dx

end
-- ==== Proof.lean ====
/- The claims of this directory, put together from the modules of Proof/. -/
module

public import proofs.«01_k».proof.Defs
public import proofs.«01_k».proof.Proof.Gen.Main
public import proofs.«01_k».proof.Proof.Gen.Main.Skeleton
public import proofs.«01_k».proof.Proof.Gen.Main.Launch
public import proofs.«01_k».proof.Proof.Gen.Main.Points
public import proofs.«01_k».proof.Proof.Gen.Main.Frame
public import proofs.«01_k».proof.Proof.Gen.MainIdeal
public import proofs.«01_k».proof.Proof.Gen.MainIdeal.Skeleton
public import proofs.«01_k».proof.Proof.Gen.MainIdeal.Launch
public import proofs.«01_k».proof.Proof.Gen.MainIdeal.Points
public import proofs.«01_k».proof.Proof.Gen.MainIdeal.Frame
public import proofs.«01_k».proof.Proof.Gen.Y
public import proofs.«01_k».proof.Proof.Gen.Y.Skeleton
public import proofs.«01_k».proof.Proof.Gen.Y.Launch
public import proofs.«01_k».proof.Proof.Gen.Y.Points
public import proofs.«01_k».proof.Proof.Gen.Y.Frame
public import proofs.«01_k».proof.Proof.Gen.YIdeal
public import proofs.«01_k».proof.Proof.Gen.YIdeal.Skeleton
public import proofs.«01_k».proof.Proof.Gen.YIdeal.Launch
public import proofs.«01_k».proof.Proof.Gen.YIdeal.Points
public import proofs.«01_k».proof.Proof.Gen.YIdeal.Frame
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.MainRefIdeal
public import proofs.«01_k».proof.Proof.Gen.MainRefIdeal.Skeleton
public import proofs.«01_k».proof.Proof.Gen.MainRefIdeal.Launch
public import proofs.«01_k».proof.Proof.Gen.MainRefIdeal.Points
public import proofs.«01_k».proof.Proof.Gen.MainRefIdeal.Frame
public import proofs.«01_k».proof.Proof.Gen.YRefIdeal
public import proofs.«01_k».proof.Proof.Gen.YRefIdeal.Skeleton
public import proofs.«01_k».proof.Proof.Gen.YRefIdeal.Launch
public import proofs.«01_k».proof.Proof.Gen.YRefIdeal.Points
public import proofs.«01_k».proof.Proof.Gen.YRefIdeal.Frame
public import proofs.«01_k».proof.Proof.Gen.DxRefIdeal
public import proofs.«01_k».proof.Proof.Gen.DxRefIdeal.Skeleton
public import proofs.«01_k».proof.Proof.Gen.DxRefIdeal.Launch
public import proofs.«01_k».proof.Proof.Gen.DxRefIdeal.Points
public import proofs.«01_k».proof.Proof.Gen.DxRefIdeal.Frame
public import proofs.«01_k».proof.Proof.Gen.YIdeal.Value
public import proofs.«01_k».proof.Proof.Gen.DxIdeal.Value
public import proofs.«01_k».proof.Proof.Gen.MainRefIdeal.Value
public import proofs.«01_k».proof.Proof.Gen.YRefIdeal.Value
public import proofs.«01_k».proof.Proof.Gen.DxRefIdeal.Value
public import Idealize.ShloMosaic.Adequacy
public import Idealize.ShloMosaic.Init
public import Idealize.ShloMosaic.Lib.Bf16Pair
public import proofs.«01_k».proof.Proof.MainValue
public import proofs.«01_k».proof.Proof.YValue
public import proofs.«01_k».proof.Proof.DxValue

@[expose] public section

noncomputable section

namespace Cert.Proof

open Idealize.ShloMosaic Idealize.SL.Sem

theorem claim : Cert.Claim := ⟨Cert.Main.Gen.facts, Cert.MainIdeal.Gen.facts, Cert.MainRefIdeal.Gen.facts, Cert.Y.Gen.facts, Cert.YIdeal.Gen.facts, Cert.YRefIdeal.Gen.facts, Cert.Dx.Gen.facts, Cert.DxIdeal.Gen.facts, Cert.DxRefIdeal.Gen.facts,
  fun m ρ _ => Cert.Main.Gen.frame m ρ,
  fun m ρ _ => Cert.MainIdeal.Gen.frame m ρ,
  fun m ρ _ => Cert.MainRefIdeal.Gen.frame m ρ,
  fun m ρ _ => Cert.Y.Gen.frame m ρ,
  fun m ρ _ => Cert.YIdeal.Gen.frame m ρ,
  fun m ρ _ => Cert.YRefIdeal.Gen.frame m ρ,
  fun m ρ _ => Cert.Dx.Gen.frame m ρ,
  fun m ρ _ => Cert.DxIdeal.Gen.frame m ρ,
  fun m ρ _ => Cert.DxRefIdeal.Gen.frame m ρ,
  ⟨IdealRules.bf16_pair.statement Cert.MainIdeal.S2560x2x128 Cert.MainIdeal.S2560x1x128,
    IdealRules.bf16_pair.statement Cert.MainIdeal.S5120x128 Cert.MainIdeal.S2560x128⟩,
  Main.claim, trivial, Y.claim, trivial, Dx.claim⟩

end Cert.Proof

end
